-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S4 : Shape := ⟨1, ![4]⟩
abbrev S_ : Shape := ⟨0, ![]⟩
abbrev S256x8192 : Shape := ⟨2, ![256, 8192]⟩
abbrev S1024x8192 : Shape := ⟨2, ![1024, 8192]⟩
abbrev S16x256x256 : Shape := ⟨3, ![16, 256, 256]⟩
abbrev S256x1024 : Shape := ⟨2, ![256, 1024]⟩
abbrev S16 : Shape := ⟨1, ![16]⟩
abbrev S1x256x256 : Shape := ⟨3, ![1, 256, 256]⟩
abbrev S256x256 : Shape := ⟨2, ![256, 256]⟩

abbrev nBuf : Space → Nat
  | .hbm => 48
  | .vmem => 7
  | .smem => 3
  | _ => 0

abbrev bufTy : (tb : Table) → Fin (tcTables nBuf tb) → BufTy
  | .hbm, ⟨0, _⟩ => ⟨S4096x256, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S_, .i32⟩
  | .hbm, ⟨35, _⟩ => ⟨S4, .i32⟩
  | .hbm, ⟨36, _⟩ => ⟨S4, .i1⟩
  | .hbm, ⟨37, _⟩ => ⟨S_, .i32⟩
  | .hbm, ⟨38, _⟩ => ⟨S4, .i32⟩
  | .hbm, ⟨39, _⟩ => ⟨S4, .i1⟩
  | .hbm, ⟨40, _⟩ => ⟨S_, .i32⟩
  | .hbm, ⟨41, _⟩ => ⟨S_, .i1⟩
  | .hbm, ⟨42, _⟩ => ⟨S4, .i1⟩
  | .hbm, ⟨43, _⟩ => ⟨S4, .i1⟩
  | .hbm, ⟨44, _⟩ => ⟨S4, .i1⟩
  | .hbm, ⟨45, _⟩ => ⟨S4, .i32⟩
  | .hbm, ⟨46, _⟩ => ⟨S4, .i32⟩
  | .hbm, ⟨47, _⟩ => ⟨S256x8192, .f32⟩
  | .local _ .vmem, ⟨0, _⟩ => ⟨S4096x256, .i8⟩
  | .local _ .vmem, ⟨1, _⟩ => ⟨S1024x8192, .i8⟩
  | .local _ .vmem, ⟨2, _⟩ => ⟨S1024x8192, .i8⟩
  | .local _ .vmem, ⟨3, _⟩ => ⟨S256x8192, .f32⟩
  | .local _ .vmem, ⟨4, _⟩ => ⟨S16x256x256, .i8⟩
  | .local _ .vmem, ⟨5, _⟩ => ⟨S256x1024, .bf16⟩
  | .local _ .vmem, ⟨6, _⟩ => ⟨S256x8192, .f32⟩
  | .local _ .smem, ⟨0, _⟩ => ⟨S4, .i32⟩
  | .local _ .smem, ⟨1, _⟩ => ⟨S1, .f32⟩
  | .local _ .smem, ⟨2, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c : Ref sig .tc := ⟨.hbm, 18, rfl⟩
abbrev main_call0_v6 : Ref sig .tc := ⟨.hbm, 19, rfl⟩
abbrev main_call0_v7 : Ref sig .tc := ⟨.hbm, 20, rfl⟩
abbrev main_call0_c_0 : Ref sig .tc := ⟨.hbm, 21, rfl⟩
abbrev main_call0_v8 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v9 : Ref sig .tc := ⟨.hbm, 47, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 16
abbrev τ : Topo := Topo.v7x

variable {F : FTy → Type} [FloatOps F]

abbrev grid0 : Pipeline.Grid := ⟨1, ![4], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let v65 : BitVec 32 := Scalar.addi v2 c1_i32_29
  let c16_i32_30 : BitVec 32 := 16#32
  let v66 : BitVec 32 := Scalar.remsi v65 c16_i32_30
  let c1_i32_32 : BitVec 32 := 1#32
  let v67 : BitVec 32 := Scalar.muli v66 c1_i32_32
  let v68 : BitVec 32 := Scalar.addi c0_i32_33 v67
  v68.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v69 : BitVec 32 := Scalar.addi v2 c2_i32_34
  let c16_i32_35 : BitVec 32 := 16#32
  let v70 : BitVec 32 := Scalar.remsi v69 c16_i32_35
  let c1_i32_37 : BitVec 32 := 1#32
  let v71 : BitVec 32 := Scalar.muli v70 c1_i32_37
  let v72 : BitVec 32 := Scalar.addi c0_i32_38 v71
  v72.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_39 : BitVec 32 := 3#32
  let v73 : BitVec 32 := Scalar.addi v2 c3_i32_39
  let c16_i32_40 : BitVec 32 := 16#32
  let v74 : BitVec 32 := Scalar.remsi v73 c16_i32_40
  let c1_i32_42 : BitVec 32 := 1#32
  let v75 : BitVec 32 := Scalar.muli v74 c1_i32_42
  let v76 : BitVec 32 := Scalar.addi c0_i32_43 v75
  v76.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_44 : BitVec 32 := 4#32
  let v77 : BitVec 32 := Scalar.addi v2 c4_i32_44
  let c16_i32_45 : BitVec 32 := 16#32
  let v78 : BitVec 32 := Scalar.remsi v77 c16_i32_45
  let c1_i32_47 : BitVec 32 := 1#32
  let v79 : BitVec 32 := Scalar.muli v78 c1_i32_47
  let v80 : BitVec 32 := Scalar.addi c0_i32_48 v79
  v80.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v81 : BitVec 32 := Scalar.addi v2 c5_i32
  let c16_i32_49 : BitVec 32 := 16#32
  let v82 : BitVec 32 := Scalar.remsi v81 c16_i32_49
  let c1_i32_51 : BitVec 32 := 1#32
  let v83 : BitVec 32 := Scalar.muli v82 c1_i32_51
  let v84 : BitVec 32 := Scalar.addi c0_i32_52 v83
  v84.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v85 : BitVec 32 := Scalar.addi v2 c6_i32
  let c16_i32_53 : BitVec 32 := 16#32
  let v86 : BitVec 32 := Scalar.remsi v85 c16_i32_53
  let c1_i32_55 : BitVec 32 := 1#32
  let v87 : BitVec 32 := Scalar.muli v86 c1_i32_55
  let v88 : BitVec 32 := Scalar.addi c0_i32_56 v87
  v88.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v89 : BitVec 32 := Scalar.addi v2 c7_i32
  let c16_i32_57 : BitVec 32 := 16#32
  let v90 : BitVec 32 := Scalar.remsi v89 c16_i32_57
  let c1_i32_59 : BitVec 32 := 1#32
  let v91 : BitVec 32 := Scalar.muli v90 c1_i32_59
  let v92 : BitVec 32 := Scalar.addi c0_i32_60 v91
  v92.toNat
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v93 : BitVec 32 := Scalar.addi v2 c8_i32
  let c16_i32_61 : BitVec 32 := 16#32
  let v94 : BitVec 32 := Scalar.remsi v93 c16_i32_61
  let c1_i32_63 : BitVec 32 := 1#32
  let v95 : BitVec 32 := Scalar.muli v94 c1_i32_63
  let v96 : BitVec 32 := Scalar.addi c0_i32_64 v95
  v96.toNat
def k0_dev9 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v97 : BitVec 32 := Scalar.addi v2 c9_i32
  let c16_i32_65 : BitVec 32 := 16#32
  let v98 : BitVec 32 := Scalar.remsi v97 c16_i32_65
  let c1_i32_67 : BitVec 32 := 1#32
  let v99 : BitVec 32 := Scalar.muli v98 c1_i32_67
  let v100 : BitVec 32 := Scalar.addi c0_i32_68 v99
  v100.toNat
def k0_dev10 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v101 : BitVec 32 := Scalar.addi v2 c10_i32
  let c16_i32_69 : BitVec 32 := 16#32
  let v102 : BitVec 32 := Scalar.remsi v101 c16_i32_69
  let c1_i32_71 : BitVec 32 := 1#32
  let v103 : BitVec 32 := Scalar.muli v102 c1_i32_71
  let v104 : BitVec 32 := Scalar.addi c0_i32_72 v103
  v104.toNat
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v105 : BitVec 32 := Scalar.addi v2 c11_i32
  let c16_i32_73 : BitVec 32 := 16#32
  let v106 : BitVec 32 := Scalar.remsi v105 c16_i32_73
  let c1_i32_75 : BitVec 32 := 1#32
  let v107 : BitVec 32 := Scalar.muli v106 c1_i32_75
  let v108 : BitVec 32 := Scalar.addi c0_i32_76 v107
  v108.toNat
def k0_dev12 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v109 : BitVec 32 := Scalar.addi v2 c12_i32
  let c16_i32_77 : BitVec 32 := 16#32
  let v110 : BitVec 32 := Scalar.remsi v109 c16_i32_77
  let c1_i32_79 : BitVec 32 := 1#32
  let v111 : BitVec 32 := Scalar.muli v110 c1_i32_79
  let v112 : BitVec 32 := Scalar.addi c0_i32_80 v111
  v112.toNat
def k0_dev13 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v113 : BitVec 32 := Scalar.addi v2 c13_i32
  let c16_i32_81 : BitVec 32 := 16#32
  let v114 : BitVec 32 := Scalar.remsi v113 c16_i32_81
  let c1_i32_83 : BitVec 32 := 1#32
  let v115 : BitVec 32 := Scalar.muli v114 c1_i32_83
  let v116 : BitVec 32 := Scalar.addi c0_i32_84 v115
  v116.toNat
def k0_dev14 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v117 : BitVec 32 := Scalar.addi v2 c14_i32
  let c16_i32_85 : BitVec 32 := 16#32
  let v118 : BitVec 32 := Scalar.remsi v117 c16_i32_85
  let c1_i32_87 : BitVec 32 := 1#32
  let v119 : BitVec 32 := Scalar.muli v118 c1_i32_87
  let v120 : BitVec 32 := Scalar.addi c0_i32_88 v119
  v120.toNat
def k0_dev15 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v121 : BitVec 32 := Scalar.addi v2 c15_i32
  let c16_i32_89 : BitVec 32 := 16#32
  let v122 : BitVec 32 := Scalar.remsi v121 c16_i32_89
  let c1_i32_91 : BitVec 32 := 1#32
  let v123 : BitVec 32 := Scalar.muli v122 c1_i32_91
  let v124 : BitVec 32 := Scalar.addi c0_i32_92 v123
  v124.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c0_i32_102 : BitVec 32 := 0#32
  let v143 : BitVec 32 := Scalar.addi v142 c0_i32_102
  let c16_i32_103 : BitVec 32 := 16#32
  let v144 : BitVec 32 := Scalar.remsi v143 c16_i32_103
  let v148 : BitVec 1 := Scalar.cmpi .ne v144 v2
  let v149 : BitVec 32 := Scalar.extui v148
  let c0_i32_106 : BitVec 32 := 0#32
  let v150 : BitVec 1 := Scalar.cmpi .ne v149 c0_i32_106
  v150

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c0_i32_102 : BitVec 32 := 0#32
  let v143 : BitVec 32 := Scalar.addi v142 c0_i32_102
  let c16_i32_103 : BitVec 32 := 16#32
  let v144 : BitVec 32 := Scalar.remsi v143 c16_i32_103
  let v145 : BitVec 32 := Scalar.subi v144 v2
  let c16_i32_104 : BitVec 32 := 16#32
  let v146 : BitVec 32 := Scalar.addi v145 c16_i32_104
  let c16_i32_105 : BitVec 32 := 16#32
  let v147 : BitVec 32 := Scalar.remsi v146 c16_i32_105
  ![v147.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c0_i32_102 : BitVec 32 := 0#32
  let v143 : BitVec 32 := Scalar.addi v142 c0_i32_102
  let c16_i32_103 : BitVec 32 := 16#32
  let v144 : BitVec 32 := Scalar.remsi v143 c16_i32_103
  let v145 : BitVec 32 := Scalar.subi v144 v2
  let c16_i32_104 : BitVec 32 := 16#32
  let v146 : BitVec 32 := Scalar.addi v145 c16_i32_104
  let c16_i32_105 : BitVec 32 := 16#32
  let v147 : BitVec 32 := Scalar.remsi v146 c16_i32_105
  let c0_i32_184 : BitVec 32 := 0#32
  let c0_i32_185 : BitVec 32 := 0#32
  ![v147.toNat, 0, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c0_i32_102 : BitVec 32 := 0#32
  let v143 : BitVec 32 := Scalar.addi v142 c0_i32_102
  let c16_i32_103 : BitVec 32 := 16#32
  let v144 : BitVec 32 := Scalar.remsi v143 c16_i32_103
  let c256_i32 : BitVec 32 := 256#32
  let v271 : BitVec 32 := Scalar.muli v144 c256_i32
  let c0_i32_186 : BitVec 32 := 0#32
  ![v271.toNat, 0]
def k0_dev16 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c0_i32_102 : BitVec 32 := 0#32
  let v143 : BitVec 32 := Scalar.addi v142 c0_i32_102
  let c16_i32_103 : BitVec 32 := 16#32
  let v144 : BitVec 32 := Scalar.remsi v143 c16_i32_103
  let c1_i32_182 : BitVec 32 := 1#32
  let v272 : BitVec 32 := Scalar.muli v144 c1_i32_182
  let v273 : BitVec 32 := Scalar.addi c0_i32_183 v272
  v273.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c1_i32_107 : BitVec 32 := 1#32
  let v151 : BitVec 32 := Scalar.addi v142 c1_i32_107
  let c16_i32_108 : BitVec 32 := 16#32
  let v152 : BitVec 32 := Scalar.remsi v151 c16_i32_108
  let v156 : BitVec 1 := Scalar.cmpi .ne v152 v2
  let v157 : BitVec 32 := Scalar.extui v156
  let c0_i32_111 : BitVec 32 := 0#32
  let v158 : BitVec 1 := Scalar.cmpi .ne v157 c0_i32_111
  v158

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c1_i32_107 : BitVec 32 := 1#32
  let v151 : BitVec 32 := Scalar.addi v142 c1_i32_107
  let c16_i32_108 : BitVec 32 := 16#32
  let v152 : BitVec 32 := Scalar.remsi v151 c16_i32_108
  let v153 : BitVec 32 := Scalar.subi v152 v2
  let c16_i32_109 : BitVec 32 := 16#32
  let v154 : BitVec 32 := Scalar.addi v153 c16_i32_109
  let c16_i32_110 : BitVec 32 := 16#32
  let v155 : BitVec 32 := Scalar.remsi v154 c16_i32_110
  ![v155.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c1_i32_107 : BitVec 32 := 1#32
  let v151 : BitVec 32 := Scalar.addi v142 c1_i32_107
  let c16_i32_108 : BitVec 32 := 16#32
  let v152 : BitVec 32 := Scalar.remsi v151 c16_i32_108
  let v153 : BitVec 32 := Scalar.subi v152 v2
  let c16_i32_109 : BitVec 32 := 16#32
  let v154 : BitVec 32 := Scalar.addi v153 c16_i32_109
  let c16_i32_110 : BitVec 32 := 16#32
  let v155 : BitVec 32 := Scalar.remsi v154 c16_i32_110
  let c0_i32_184 : BitVec 32 := 0#32
  let c0_i32_185 : BitVec 32 := 0#32
  ![v155.toNat, 0, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c1_i32_107 : BitVec 32 := 1#32
  let v151 : BitVec 32 := Scalar.addi v142 c1_i32_107
  let c16_i32_108 : BitVec 32 := 16#32
  let v152 : BitVec 32 := Scalar.remsi v151 c16_i32_108
  let c256_i32 : BitVec 32 := 256#32
  let v271 : BitVec 32 := Scalar.muli v152 c256_i32
  let c0_i32_186 : BitVec 32 := 0#32
  ![v271.toNat, 0]
def k0_dev17 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c1_i32_107 : BitVec 32 := 1#32
  let v151 : BitVec 32 := Scalar.addi v142 c1_i32_107
  let c16_i32_108 : BitVec 32 := 16#32
  let v152 : BitVec 32 := Scalar.remsi v151 c16_i32_108
  let c1_i32_182 : BitVec 32 := 1#32
  let v272 : BitVec 32 := Scalar.muli v152 c1_i32_182
  let v273 : BitVec 32 := Scalar.addi c0_i32_183 v272
  v273.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c2_i32_112 : BitVec 32 := 2#32
  let v159 : BitVec 32 := Scalar.addi v142 c2_i32_112
  let c16_i32_113 : BitVec 32 := 16#32
  let v160 : BitVec 32 := Scalar.remsi v159 c16_i32_113
  let v164 : BitVec 1 := Scalar.cmpi .ne v160 v2
  let v165 : BitVec 32 := Scalar.extui v164
  let c0_i32_116 : BitVec 32 := 0#32
  let v166 : BitVec 1 := Scalar.cmpi .ne v165 c0_i32_116
  v166

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c2_i32_112 : BitVec 32 := 2#32
  let v159 : BitVec 32 := Scalar.addi v142 c2_i32_112
  let c16_i32_113 : BitVec 32 := 16#32
  let v160 : BitVec 32 := Scalar.remsi v159 c16_i32_113
  let v161 : BitVec 32 := Scalar.subi v160 v2
  let c16_i32_114 : BitVec 32 := 16#32
  let v162 : BitVec 32 := Scalar.addi v161 c16_i32_114
  let c16_i32_115 : BitVec 32 := 16#32
  let v163 : BitVec 32 := Scalar.remsi v162 c16_i32_115
  ![v163.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c2_i32_112 : BitVec 32 := 2#32
  let v159 : BitVec 32 := Scalar.addi v142 c2_i32_112
  let c16_i32_113 : BitVec 32 := 16#32
  let v160 : BitVec 32 := Scalar.remsi v159 c16_i32_113
  let v161 : BitVec 32 := Scalar.subi v160 v2
  let c16_i32_114 : BitVec 32 := 16#32
  let v162 : BitVec 32 := Scalar.addi v161 c16_i32_114
  let c16_i32_115 : BitVec 32 := 16#32
  let v163 : BitVec 32 := Scalar.remsi v162 c16_i32_115
  let c0_i32_184 : BitVec 32 := 0#32
  let c0_i32_185 : BitVec 32 := 0#32
  ![v163.toNat, 0, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c2_i32_112 : BitVec 32 := 2#32
  let v159 : BitVec 32 := Scalar.addi v142 c2_i32_112
  let c16_i32_113 : BitVec 32 := 16#32
  let v160 : BitVec 32 := Scalar.remsi v159 c16_i32_113
  let c256_i32 : BitVec 32 := 256#32
  let v271 : BitVec 32 := Scalar.muli v160 c256_i32
  let c0_i32_186 : BitVec 32 := 0#32
  ![v271.toNat, 0]
def k0_dev18 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c2_i32_112 : BitVec 32 := 2#32
  let v159 : BitVec 32 := Scalar.addi v142 c2_i32_112
  let c16_i32_113 : BitVec 32 := 16#32
  let v160 : BitVec 32 := Scalar.remsi v159 c16_i32_113
  let c1_i32_182 : BitVec 32 := 1#32
  let v272 : BitVec 32 := Scalar.muli v160 c1_i32_182
  let v273 : BitVec 32 := Scalar.addi c0_i32_183 v272
  v273.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c3_i32_117 : BitVec 32 := 3#32
  let v167 : BitVec 32 := Scalar.addi v142 c3_i32_117
  let c16_i32_118 : BitVec 32 := 16#32
  let v168 : BitVec 32 := Scalar.remsi v167 c16_i32_118
  let v172 : BitVec 1 := Scalar.cmpi .ne v168 v2
  let v173 : BitVec 32 := Scalar.extui v172
  let c0_i32_121 : BitVec 32 := 0#32
  let v174 : BitVec 1 := Scalar.cmpi .ne v173 c0_i32_121
  v174

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c3_i32_117 : BitVec 32 := 3#32
  let v167 : BitVec 32 := Scalar.addi v142 c3_i32_117
  let c16_i32_118 : BitVec 32 := 16#32
  let v168 : BitVec 32 := Scalar.remsi v167 c16_i32_118
  let v169 : BitVec 32 := Scalar.subi v168 v2
  let c16_i32_119 : BitVec 32 := 16#32
  let v170 : BitVec 32 := Scalar.addi v169 c16_i32_119
  let c16_i32_120 : BitVec 32 := 16#32
  let v171 : BitVec 32 := Scalar.remsi v170 c16_i32_120
  ![v171.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c3_i32_117 : BitVec 32 := 3#32
  let v167 : BitVec 32 := Scalar.addi v142 c3_i32_117
  let c16_i32_118 : BitVec 32 := 16#32
  let v168 : BitVec 32 := Scalar.remsi v167 c16_i32_118
  let v169 : BitVec 32 := Scalar.subi v168 v2
  let c16_i32_119 : BitVec 32 := 16#32
  let v170 : BitVec 32 := Scalar.addi v169 c16_i32_119
  let c16_i32_120 : BitVec 32 := 16#32
  let v171 : BitVec 32 := Scalar.remsi v170 c16_i32_120
  let c0_i32_184 : BitVec 32 := 0#32
  let c0_i32_185 : BitVec 32 := 0#32
  ![v171.toNat, 0, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c3_i32_117 : BitVec 32 := 3#32
  let v167 : BitVec 32 := Scalar.addi v142 c3_i32_117
  let c16_i32_118 : BitVec 32 := 16#32
  let v168 : BitVec 32 := Scalar.remsi v167 c16_i32_118
  let c256_i32 : BitVec 32 := 256#32
  let v271 : BitVec 32 := Scalar.muli v168 c256_i32
  let c0_i32_186 : BitVec 32 := 0#32
  ![v271.toNat, 0]
def k0_dev19 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c3_i32_117 : BitVec 32 := 3#32
  let v167 : BitVec 32 := Scalar.addi v142 c3_i32_117
  let c16_i32_118 : BitVec 32 := 16#32
  let v168 : BitVec 32 := Scalar.remsi v167 c16_i32_118
  let c1_i32_182 : BitVec 32 := 1#32
  let v272 : BitVec 32 := Scalar.muli v168 c1_i32_182
  let v273 : BitVec 32 := Scalar.addi c0_i32_183 v272
  v273.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c4_i32_122 : BitVec 32 := 4#32
  let v175 : BitVec 32 := Scalar.addi v142 c4_i32_122
  let c16_i32_123 : BitVec 32 := 16#32
  let v176 : BitVec 32 := Scalar.remsi v175 c16_i32_123
  let v180 : BitVec 1 := Scalar.cmpi .ne v176 v2
  let v181 : BitVec 32 := Scalar.extui v180
  let c0_i32_126 : BitVec 32 := 0#32
  let v182 : BitVec 1 := Scalar.cmpi .ne v181 c0_i32_126
  v182

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c4_i32_122 : BitVec 32 := 4#32
  let v175 : BitVec 32 := Scalar.addi v142 c4_i32_122
  let c16_i32_123 : BitVec 32 := 16#32
  let v176 : BitVec 32 := Scalar.remsi v175 c16_i32_123
  let v177 : BitVec 32 := Scalar.subi v176 v2
  let c16_i32_124 : BitVec 32 := 16#32
  let v178 : BitVec 32 := Scalar.addi v177 c16_i32_124
  let c16_i32_125 : BitVec 32 := 16#32
  let v179 : BitVec 32 := Scalar.remsi v178 c16_i32_125
  ![v179.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c4_i32_122 : BitVec 32 := 4#32
  let v175 : BitVec 32 := Scalar.addi v142 c4_i32_122
  let c16_i32_123 : BitVec 32 := 16#32
  let v176 : BitVec 32 := Scalar.remsi v175 c16_i32_123
  let v177 : BitVec 32 := Scalar.subi v176 v2
  let c16_i32_124 : BitVec 32 := 16#32
  let v178 : BitVec 32 := Scalar.addi v177 c16_i32_124
  let c16_i32_125 : BitVec 32 := 16#32
  let v179 : BitVec 32 := Scalar.remsi v178 c16_i32_125
  let c0_i32_184 : BitVec 32 := 0#32
  let c0_i32_185 : BitVec 32 := 0#32
  ![v179.toNat, 0, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c4_i32_122 : BitVec 32 := 4#32
  let v175 : BitVec 32 := Scalar.addi v142 c4_i32_122
  let c16_i32_123 : BitVec 32 := 16#32
  let v176 : BitVec 32 := Scalar.remsi v175 c16_i32_123
  let c256_i32 : BitVec 32 := 256#32
  let v271 : BitVec 32 := Scalar.muli v176 c256_i32
  let c0_i32_186 : BitVec 32 := 0#32
  ![v271.toNat, 0]
def k0_dev20 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c4_i32_122 : BitVec 32 := 4#32
  let v175 : BitVec 32 := Scalar.addi v142 c4_i32_122
  let c16_i32_123 : BitVec 32 := 16#32
  let v176 : BitVec 32 := Scalar.remsi v175 c16_i32_123
  let c1_i32_182 : BitVec 32 := 1#32
  let v272 : BitVec 32 := Scalar.muli v176 c1_i32_182
  let v273 : BitVec 32 := Scalar.addi c0_i32_183 v272
  v273.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c5_i32_127 : BitVec 32 := 5#32
  let v183 : BitVec 32 := Scalar.addi v142 c5_i32_127
  let c16_i32_128 : BitVec 32 := 16#32
  let v184 : BitVec 32 := Scalar.remsi v183 c16_i32_128
  let v188 : BitVec 1 := Scalar.cmpi .ne v184 v2
  let v189 : BitVec 32 := Scalar.extui v188
  let c0_i32_131 : BitVec 32 := 0#32
  let v190 : BitVec 1 := Scalar.cmpi .ne v189 c0_i32_131
  v190

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c5_i32_127 : BitVec 32 := 5#32
  let v183 : BitVec 32 := Scalar.addi v142 c5_i32_127
  let c16_i32_128 : BitVec 32 := 16#32
  let v184 : BitVec 32 := Scalar.remsi v183 c16_i32_128
  let v185 : BitVec 32 := Scalar.subi v184 v2
  let c16_i32_129 : BitVec 32 := 16#32
  let v186 : BitVec 32 := Scalar.addi v185 c16_i32_129
  let c16_i32_130 : BitVec 32 := 16#32
  let v187 : BitVec 32 := Scalar.remsi v186 c16_i32_130
  ![v187.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c5_i32_127 : BitVec 32 := 5#32
  let v183 : BitVec 32 := Scalar.addi v142 c5_i32_127
  let c16_i32_128 : BitVec 32 := 16#32
  let v184 : BitVec 32 := Scalar.remsi v183 c16_i32_128
  let v185 : BitVec 32 := Scalar.subi v184 v2
  let c16_i32_129 : BitVec 32 := 16#32
  let v186 : BitVec 32 := Scalar.addi v185 c16_i32_129
  let c16_i32_130 : BitVec 32 := 16#32
  let v187 : BitVec 32 := Scalar.remsi v186 c16_i32_130
  let c0_i32_184 : BitVec 32 := 0#32
  let c0_i32_185 : BitVec 32 := 0#32
  ![v187.toNat, 0, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c5_i32_127 : BitVec 32 := 5#32
  let v183 : BitVec 32 := Scalar.addi v142 c5_i32_127
  let c16_i32_128 : BitVec 32 := 16#32
  let v184 : BitVec 32 := Scalar.remsi v183 c16_i32_128
  let c256_i32 : BitVec 32 := 256#32
  let v271 : BitVec 32 := Scalar.muli v184 c256_i32
  let c0_i32_186 : BitVec 32 := 0#32
  ![v271.toNat, 0]
def k0_dev21 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c5_i32_127 : BitVec 32 := 5#32
  let v183 : BitVec 32 := Scalar.addi v142 c5_i32_127
  let c16_i32_128 : BitVec 32 := 16#32
  let v184 : BitVec 32 := Scalar.remsi v183 c16_i32_128
  let c1_i32_182 : BitVec 32 := 1#32
  let v272 : BitVec 32 := Scalar.muli v184 c1_i32_182
  let v273 : BitVec 32 := Scalar.addi c0_i32_183 v272
  v273.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c6_i32_132 : BitVec 32 := 6#32
  let v191 : BitVec 32 := Scalar.addi v142 c6_i32_132
  let c16_i32_133 : BitVec 32 := 16#32
  let v192 : BitVec 32 := Scalar.remsi v191 c16_i32_133
  let v196 : BitVec 1 := Scalar.cmpi .ne v192 v2
  let v197 : BitVec 32 := Scalar.extui v196
  let c0_i32_136 : BitVec 32 := 0#32
  let v198 : BitVec 1 := Scalar.cmpi .ne v197 c0_i32_136
  v198

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c6_i32_132 : BitVec 32 := 6#32
  let v191 : BitVec 32 := Scalar.addi v142 c6_i32_132
  let c16_i32_133 : BitVec 32 := 16#32
  let v192 : BitVec 32 := Scalar.remsi v191 c16_i32_133
  let v193 : BitVec 32 := Scalar.subi v192 v2
  let c16_i32_134 : BitVec 32 := 16#32
  let v194 : BitVec 32 := Scalar.addi v193 c16_i32_134
  let c16_i32_135 : BitVec 32 := 16#32
  let v195 : BitVec 32 := Scalar.remsi v194 c16_i32_135
  ![v195.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c6_i32_132 : BitVec 32 := 6#32
  let v191 : BitVec 32 := Scalar.addi v142 c6_i32_132
  let c16_i32_133 : BitVec 32 := 16#32
  let v192 : BitVec 32 := Scalar.remsi v191 c16_i32_133
  let v193 : BitVec 32 := Scalar.subi v192 v2
  let c16_i32_134 : BitVec 32 := 16#32
  let v194 : BitVec 32 := Scalar.addi v193 c16_i32_134
  let c16_i32_135 : BitVec 32 := 16#32
  let v195 : BitVec 32 := Scalar.remsi v194 c16_i32_135
  let c0_i32_184 : BitVec 32 := 0#32
  let c0_i32_185 : BitVec 32 := 0#32
  ![v195.toNat, 0, 0]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c6_i32_132 : BitVec 32 := 6#32
  let v191 : BitVec 32 := Scalar.addi v142 c6_i32_132
  let c16_i32_133 : BitVec 32 := 16#32
  let v192 : BitVec 32 := Scalar.remsi v191 c16_i32_133
  let c256_i32 : BitVec 32 := 256#32
  let v271 : BitVec 32 := Scalar.muli v192 c256_i32
  let c0_i32_186 : BitVec 32 := 0#32
  ![v271.toNat, 0]
def k0_dev22 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c6_i32_132 : BitVec 32 := 6#32
  let v191 : BitVec 32 := Scalar.addi v142 c6_i32_132
  let c16_i32_133 : BitVec 32 := 16#32
  let v192 : BitVec 32 := Scalar.remsi v191 c16_i32_133
  let c1_i32_182 : BitVec 32 := 1#32
  let v272 : BitVec 32 := Scalar.muli v192 c1_i32_182
  let v273 : BitVec 32 := Scalar.addi c0_i32_183 v272
  v273.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c7_i32_137 : BitVec 32 := 7#32
  let v199 : BitVec 32 := Scalar.addi v142 c7_i32_137
  let c16_i32_138 : BitVec 32 := 16#32
  let v200 : BitVec 32 := Scalar.remsi v199 c16_i32_138
  let v204 : BitVec 1 := Scalar.cmpi .ne v200 v2
  let v205 : BitVec 32 := Scalar.extui v204
  let c0_i32_141 : BitVec 32 := 0#32
  let v206 : BitVec 1 := Scalar.cmpi .ne v205 c0_i32_141
  v206

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c7_i32_137 : BitVec 32 := 7#32
  let v199 : BitVec 32 := Scalar.addi v142 c7_i32_137
  let c16_i32_138 : BitVec 32 := 16#32
  let v200 : BitVec 32 := Scalar.remsi v199 c16_i32_138
  let v201 : BitVec 32 := Scalar.subi v200 v2
  let c16_i32_139 : BitVec 32 := 16#32
  let v202 : BitVec 32 := Scalar.addi v201 c16_i32_139
  let c16_i32_140 : BitVec 32 := 16#32
  let v203 : BitVec 32 := Scalar.remsi v202 c16_i32_140
  ![v203.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c7_i32_137 : BitVec 32 := 7#32
  let v199 : BitVec 32 := Scalar.addi v142 c7_i32_137
  let c16_i32_138 : BitVec 32 := 16#32
  let v200 : BitVec 32 := Scalar.remsi v199 c16_i32_138
  let v201 : BitVec 32 := Scalar.subi v200 v2
  let c16_i32_139 : BitVec 32 := 16#32
  let v202 : BitVec 32 := Scalar.addi v201 c16_i32_139
  let c16_i32_140 : BitVec 32 := 16#32
  let v203 : BitVec 32 := Scalar.remsi v202 c16_i32_140
  let c0_i32_184 : BitVec 32 := 0#32
  let c0_i32_185 : BitVec 32 := 0#32
  ![v203.toNat, 0, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c7_i32_137 : BitVec 32 := 7#32
  let v199 : BitVec 32 := Scalar.addi v142 c7_i32_137
  let c16_i32_138 : BitVec 32 := 16#32
  let v200 : BitVec 32 := Scalar.remsi v199 c16_i32_138
  let c256_i32 : BitVec 32 := 256#32
  let v271 : BitVec 32 := Scalar.muli v200 c256_i32
  let c0_i32_186 : BitVec 32 := 0#32
  ![v271.toNat, 0]
def k0_dev23 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c7_i32_137 : BitVec 32 := 7#32
  let v199 : BitVec 32 := Scalar.addi v142 c7_i32_137
  let c16_i32_138 : BitVec 32 := 16#32
  let v200 : BitVec 32 := Scalar.remsi v199 c16_i32_138
  let c1_i32_182 : BitVec 32 := 1#32
  let v272 : BitVec 32 := Scalar.muli v200 c1_i32_182
  let v273 : BitVec 32 := Scalar.addi c0_i32_183 v272
  v273.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c12_i32_142 : BitVec 32 := 12#32
  let v207 : BitVec 32 := Scalar.addi v142 c12_i32_142
  let c16_i32_143 : BitVec 32 := 16#32
  let v208 : BitVec 32 := Scalar.remsi v207 c16_i32_143
  let v212 : BitVec 1 := Scalar.cmpi .ne v208 v2
  let v213 : BitVec 32 := Scalar.extui v212
  let c0_i32_146 : BitVec 32 := 0#32
  let v214 : BitVec 1 := Scalar.cmpi .ne v213 c0_i32_146
  v214

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c12_i32_142 : BitVec 32 := 12#32
  let v207 : BitVec 32 := Scalar.addi v142 c12_i32_142
  let c16_i32_143 : BitVec 32 := 16#32
  let v208 : BitVec 32 := Scalar.remsi v207 c16_i32_143
  let v209 : BitVec 32 := Scalar.subi v208 v2
  let c16_i32_144 : BitVec 32 := 16#32
  let v210 : BitVec 32 := Scalar.addi v209 c16_i32_144
  let c16_i32_145 : BitVec 32 := 16#32
  let v211 : BitVec 32 := Scalar.remsi v210 c16_i32_145
  ![v211.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c12_i32_142 : BitVec 32 := 12#32
  let v207 : BitVec 32 := Scalar.addi v142 c12_i32_142
  let c16_i32_143 : BitVec 32 := 16#32
  let v208 : BitVec 32 := Scalar.remsi v207 c16_i32_143
  let v209 : BitVec 32 := Scalar.subi v208 v2
  let c16_i32_144 : BitVec 32 := 16#32
  let v210 : BitVec 32 := Scalar.addi v209 c16_i32_144
  let c16_i32_145 : BitVec 32 := 16#32
  let v211 : BitVec 32 := Scalar.remsi v210 c16_i32_145
  let c0_i32_184 : BitVec 32 := 0#32
  let c0_i32_185 : BitVec 32 := 0#32
  ![v211.toNat, 0, 0]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c12_i32_142 : BitVec 32 := 12#32
  let v207 : BitVec 32 := Scalar.addi v142 c12_i32_142
  let c16_i32_143 : BitVec 32 := 16#32
  let v208 : BitVec 32 := Scalar.remsi v207 c16_i32_143
  let c256_i32 : BitVec 32 := 256#32
  let v271 : BitVec 32 := Scalar.muli v208 c256_i32
  let c0_i32_186 : BitVec 32 := 0#32
  ![v271.toNat, 0]
def k0_dev24 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c12_i32_142 : BitVec 32 := 12#32
  let v207 : BitVec 32 := Scalar.addi v142 c12_i32_142
  let c16_i32_143 : BitVec 32 := 16#32
  let v208 : BitVec 32 := Scalar.remsi v207 c16_i32_143
  let c1_i32_182 : BitVec 32 := 1#32
  let v272 : BitVec 32 := Scalar.muli v208 c1_i32_182
  let v273 : BitVec 32 := Scalar.addi c0_i32_183 v272
  v273.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c13_i32_147 : BitVec 32 := 13#32
  let v215 : BitVec 32 := Scalar.addi v142 c13_i32_147
  let c16_i32_148 : BitVec 32 := 16#32
  let v216 : BitVec 32 := Scalar.remsi v215 c16_i32_148
  let v220 : BitVec 1 := Scalar.cmpi .ne v216 v2
  let v221 : BitVec 32 := Scalar.extui v220
  let c0_i32_151 : BitVec 32 := 0#32
  let v222 : BitVec 1 := Scalar.cmpi .ne v221 c0_i32_151
  v222

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c13_i32_147 : BitVec 32 := 13#32
  let v215 : BitVec 32 := Scalar.addi v142 c13_i32_147
  let c16_i32_148 : BitVec 32 := 16#32
  let v216 : BitVec 32 := Scalar.remsi v215 c16_i32_148
  let v217 : BitVec 32 := Scalar.subi v216 v2
  let c16_i32_149 : BitVec 32 := 16#32
  let v218 : BitVec 32 := Scalar.addi v217 c16_i32_149
  let c16_i32_150 : BitVec 32 := 16#32
  let v219 : BitVec 32 := Scalar.remsi v218 c16_i32_150
  ![v219.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c13_i32_147 : BitVec 32 := 13#32
  let v215 : BitVec 32 := Scalar.addi v142 c13_i32_147
  let c16_i32_148 : BitVec 32 := 16#32
  let v216 : BitVec 32 := Scalar.remsi v215 c16_i32_148
  let v217 : BitVec 32 := Scalar.subi v216 v2
  let c16_i32_149 : BitVec 32 := 16#32
  let v218 : BitVec 32 := Scalar.addi v217 c16_i32_149
  let c16_i32_150 : BitVec 32 := 16#32
  let v219 : BitVec 32 := Scalar.remsi v218 c16_i32_150
  let c0_i32_184 : BitVec 32 := 0#32
  let c0_i32_185 : BitVec 32 := 0#32
  ![v219.toNat, 0, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c13_i32_147 : BitVec 32 := 13#32
  let v215 : BitVec 32 := Scalar.addi v142 c13_i32_147
  let c16_i32_148 : BitVec 32 := 16#32
  let v216 : BitVec 32 := Scalar.remsi v215 c16_i32_148
  let c256_i32 : BitVec 32 := 256#32
  let v271 : BitVec 32 := Scalar.muli v216 c256_i32
  let c0_i32_186 : BitVec 32 := 0#32
  ![v271.toNat, 0]
def k0_dev25 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c13_i32_147 : BitVec 32 := 13#32
  let v215 : BitVec 32 := Scalar.addi v142 c13_i32_147
  let c16_i32_148 : BitVec 32 := 16#32
  let v216 : BitVec 32 := Scalar.remsi v215 c16_i32_148
  let c1_i32_182 : BitVec 32 := 1#32
  let v272 : BitVec 32 := Scalar.muli v216 c1_i32_182
  let v273 : BitVec 32 := Scalar.addi c0_i32_183 v272
  v273.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c14_i32_152 : BitVec 32 := 14#32
  let v223 : BitVec 32 := Scalar.addi v142 c14_i32_152
  let c16_i32_153 : BitVec 32 := 16#32
  let v224 : BitVec 32 := Scalar.remsi v223 c16_i32_153
  let v228 : BitVec 1 := Scalar.cmpi .ne v224 v2
  let v229 : BitVec 32 := Scalar.extui v228
  let c0_i32_156 : BitVec 32 := 0#32
  let v230 : BitVec 1 := Scalar.cmpi .ne v229 c0_i32_156
  v230

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c14_i32_152 : BitVec 32 := 14#32
  let v223 : BitVec 32 := Scalar.addi v142 c14_i32_152
  let c16_i32_153 : BitVec 32 := 16#32
  let v224 : BitVec 32 := Scalar.remsi v223 c16_i32_153
  let v225 : BitVec 32 := Scalar.subi v224 v2
  let c16_i32_154 : BitVec 32 := 16#32
  let v226 : BitVec 32 := Scalar.addi v225 c16_i32_154
  let c16_i32_155 : BitVec 32 := 16#32
  let v227 : BitVec 32 := Scalar.remsi v226 c16_i32_155
  ![v227.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c14_i32_152 : BitVec 32 := 14#32
  let v223 : BitVec 32 := Scalar.addi v142 c14_i32_152
  let c16_i32_153 : BitVec 32 := 16#32
  let v224 : BitVec 32 := Scalar.remsi v223 c16_i32_153
  let v225 : BitVec 32 := Scalar.subi v224 v2
  let c16_i32_154 : BitVec 32 := 16#32
  let v226 : BitVec 32 := Scalar.addi v225 c16_i32_154
  let c16_i32_155 : BitVec 32 := 16#32
  let v227 : BitVec 32 := Scalar.remsi v226 c16_i32_155
  let c0_i32_184 : BitVec 32 := 0#32
  let c0_i32_185 : BitVec 32 := 0#32
  ![v227.toNat, 0, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c14_i32_152 : BitVec 32 := 14#32
  let v223 : BitVec 32 := Scalar.addi v142 c14_i32_152
  let c16_i32_153 : BitVec 32 := 16#32
  let v224 : BitVec 32 := Scalar.remsi v223 c16_i32_153
  let c256_i32 : BitVec 32 := 256#32
  let v271 : BitVec 32 := Scalar.muli v224 c256_i32
  let c0_i32_186 : BitVec 32 := 0#32
  ![v271.toNat, 0]
def k0_dev26 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c14_i32_152 : BitVec 32 := 14#32
  let v223 : BitVec 32 := Scalar.addi v142 c14_i32_152
  let c16_i32_153 : BitVec 32 := 16#32
  let v224 : BitVec 32 := Scalar.remsi v223 c16_i32_153
  let c1_i32_182 : BitVec 32 := 1#32
  let v272 : BitVec 32 := Scalar.muli v224 c1_i32_182
  let v273 : BitVec 32 := Scalar.addi c0_i32_183 v272
  v273.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c15_i32_157 : BitVec 32 := 15#32
  let v231 : BitVec 32 := Scalar.addi v142 c15_i32_157
  let c16_i32_158 : BitVec 32 := 16#32
  let v232 : BitVec 32 := Scalar.remsi v231 c16_i32_158
  let v236 : BitVec 1 := Scalar.cmpi .ne v232 v2
  let v237 : BitVec 32 := Scalar.extui v236
  let c0_i32_161 : BitVec 32 := 0#32
  let v238 : BitVec 1 := Scalar.cmpi .ne v237 c0_i32_161
  v238

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c15_i32_157 : BitVec 32 := 15#32
  let v231 : BitVec 32 := Scalar.addi v142 c15_i32_157
  let c16_i32_158 : BitVec 32 := 16#32
  let v232 : BitVec 32 := Scalar.remsi v231 c16_i32_158
  let v233 : BitVec 32 := Scalar.subi v232 v2
  let c16_i32_159 : BitVec 32 := 16#32
  let v234 : BitVec 32 := Scalar.addi v233 c16_i32_159
  let c16_i32_160 : BitVec 32 := 16#32
  let v235 : BitVec 32 := Scalar.remsi v234 c16_i32_160
  ![v235.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c15_i32_157 : BitVec 32 := 15#32
  let v231 : BitVec 32 := Scalar.addi v142 c15_i32_157
  let c16_i32_158 : BitVec 32 := 16#32
  let v232 : BitVec 32 := Scalar.remsi v231 c16_i32_158
  let v233 : BitVec 32 := Scalar.subi v232 v2
  let c16_i32_159 : BitVec 32 := 16#32
  let v234 : BitVec 32 := Scalar.addi v233 c16_i32_159
  let c16_i32_160 : BitVec 32 := 16#32
  let v235 : BitVec 32 := Scalar.remsi v234 c16_i32_160
  let c0_i32_184 : BitVec 32 := 0#32
  let c0_i32_185 : BitVec 32 := 0#32
  ![v235.toNat, 0, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c15_i32_157 : BitVec 32 := 15#32
  let v231 : BitVec 32 := Scalar.addi v142 c15_i32_157
  let c16_i32_158 : BitVec 32 := 16#32
  let v232 : BitVec 32 := Scalar.remsi v231 c16_i32_158
  let c256_i32 : BitVec 32 := 256#32
  let v271 : BitVec 32 := Scalar.muli v232 c256_i32
  let c0_i32_186 : BitVec 32 := 0#32
  ![v271.toNat, 0]
def k0_dev27 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c15_i32_157 : BitVec 32 := 15#32
  let v231 : BitVec 32 := Scalar.addi v142 c15_i32_157
  let c16_i32_158 : BitVec 32 := 16#32
  let v232 : BitVec 32 := Scalar.remsi v231 c16_i32_158
  let c1_i32_182 : BitVec 32 := 1#32
  let v272 : BitVec 32 := Scalar.muli v232 c1_i32_182
  let v273 : BitVec 32 := Scalar.addi c0_i32_183 v272
  v273.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c8_i32_162 : BitVec 32 := 8#32
  let v239 : BitVec 32 := Scalar.addi v142 c8_i32_162
  let c16_i32_163 : BitVec 32 := 16#32
  let v240 : BitVec 32 := Scalar.remsi v239 c16_i32_163
  let v244 : BitVec 1 := Scalar.cmpi .ne v240 v2
  let v245 : BitVec 32 := Scalar.extui v244
  let c0_i32_166 : BitVec 32 := 0#32
  let v246 : BitVec 1 := Scalar.cmpi .ne v245 c0_i32_166
  v246

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c8_i32_162 : BitVec 32 := 8#32
  let v239 : BitVec 32 := Scalar.addi v142 c8_i32_162
  let c16_i32_163 : BitVec 32 := 16#32
  let v240 : BitVec 32 := Scalar.remsi v239 c16_i32_163
  let v241 : BitVec 32 := Scalar.subi v240 v2
  let c16_i32_164 : BitVec 32 := 16#32
  let v242 : BitVec 32 := Scalar.addi v241 c16_i32_164
  let c16_i32_165 : BitVec 32 := 16#32
  let v243 : BitVec 32 := Scalar.remsi v242 c16_i32_165
  ![v243.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c8_i32_162 : BitVec 32 := 8#32
  let v239 : BitVec 32 := Scalar.addi v142 c8_i32_162
  let c16_i32_163 : BitVec 32 := 16#32
  let v240 : BitVec 32 := Scalar.remsi v239 c16_i32_163
  let v241 : BitVec 32 := Scalar.subi v240 v2
  let c16_i32_164 : BitVec 32 := 16#32
  let v242 : BitVec 32 := Scalar.addi v241 c16_i32_164
  let c16_i32_165 : BitVec 32 := 16#32
  let v243 : BitVec 32 := Scalar.remsi v242 c16_i32_165
  let c0_i32_184 : BitVec 32 := 0#32
  let c0_i32_185 : BitVec 32 := 0#32
  ![v243.toNat, 0, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c8_i32_162 : BitVec 32 := 8#32
  let v239 : BitVec 32 := Scalar.addi v142 c8_i32_162
  let c16_i32_163 : BitVec 32 := 16#32
  let v240 : BitVec 32 := Scalar.remsi v239 c16_i32_163
  let c256_i32 : BitVec 32 := 256#32
  let v271 : BitVec 32 := Scalar.muli v240 c256_i32
  let c0_i32_186 : BitVec 32 := 0#32
  ![v271.toNat, 0]
def k0_dev28 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c8_i32_162 : BitVec 32 := 8#32
  let v239 : BitVec 32 := Scalar.addi v142 c8_i32_162
  let c16_i32_163 : BitVec 32 := 16#32
  let v240 : BitVec 32 := Scalar.remsi v239 c16_i32_163
  let c1_i32_182 : BitVec 32 := 1#32
  let v272 : BitVec 32 := Scalar.muli v240 c1_i32_182
  let v273 : BitVec 32 := Scalar.addi c0_i32_183 v272
  v273.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c9_i32_167 : BitVec 32 := 9#32
  let v247 : BitVec 32 := Scalar.addi v142 c9_i32_167
  let c16_i32_168 : BitVec 32 := 16#32
  let v248 : BitVec 32 := Scalar.remsi v247 c16_i32_168
  let v252 : BitVec 1 := Scalar.cmpi .ne v248 v2
  let v253 : BitVec 32 := Scalar.extui v252
  let c0_i32_171 : BitVec 32 := 0#32
  let v254 : BitVec 1 := Scalar.cmpi .ne v253 c0_i32_171
  v254

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c9_i32_167 : BitVec 32 := 9#32
  let v247 : BitVec 32 := Scalar.addi v142 c9_i32_167
  let c16_i32_168 : BitVec 32 := 16#32
  let v248 : BitVec 32 := Scalar.remsi v247 c16_i32_168
  let v249 : BitVec 32 := Scalar.subi v248 v2
  let c16_i32_169 : BitVec 32 := 16#32
  let v250 : BitVec 32 := Scalar.addi v249 c16_i32_169
  let c16_i32_170 : BitVec 32 := 16#32
  let v251 : BitVec 32 := Scalar.remsi v250 c16_i32_170
  ![v251.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c9_i32_167 : BitVec 32 := 9#32
  let v247 : BitVec 32 := Scalar.addi v142 c9_i32_167
  let c16_i32_168 : BitVec 32 := 16#32
  let v248 : BitVec 32 := Scalar.remsi v247 c16_i32_168
  let v249 : BitVec 32 := Scalar.subi v248 v2
  let c16_i32_169 : BitVec 32 := 16#32
  let v250 : BitVec 32 := Scalar.addi v249 c16_i32_169
  let c16_i32_170 : BitVec 32 := 16#32
  let v251 : BitVec 32 := Scalar.remsi v250 c16_i32_170
  let c0_i32_184 : BitVec 32 := 0#32
  let c0_i32_185 : BitVec 32 := 0#32
  ![v251.toNat, 0, 0]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c9_i32_167 : BitVec 32 := 9#32
  let v247 : BitVec 32 := Scalar.addi v142 c9_i32_167
  let c16_i32_168 : BitVec 32 := 16#32
  let v248 : BitVec 32 := Scalar.remsi v247 c16_i32_168
  let c256_i32 : BitVec 32 := 256#32
  let v271 : BitVec 32 := Scalar.muli v248 c256_i32
  let c0_i32_186 : BitVec 32 := 0#32
  ![v271.toNat, 0]
def k0_dev29 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c9_i32_167 : BitVec 32 := 9#32
  let v247 : BitVec 32 := Scalar.addi v142 c9_i32_167
  let c16_i32_168 : BitVec 32 := 16#32
  let v248 : BitVec 32 := Scalar.remsi v247 c16_i32_168
  let c1_i32_182 : BitVec 32 := 1#32
  let v272 : BitVec 32 := Scalar.muli v248 c1_i32_182
  let v273 : BitVec 32 := Scalar.addi c0_i32_183 v272
  v273.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c10_i32_172 : BitVec 32 := 10#32
  let v255 : BitVec 32 := Scalar.addi v142 c10_i32_172
  let c16_i32_173 : BitVec 32 := 16#32
  let v256 : BitVec 32 := Scalar.remsi v255 c16_i32_173
  let v260 : BitVec 1 := Scalar.cmpi .ne v256 v2
  let v261 : BitVec 32 := Scalar.extui v260
  let c0_i32_176 : BitVec 32 := 0#32
  let v262 : BitVec 1 := Scalar.cmpi .ne v261 c0_i32_176
  v262

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c10_i32_172 : BitVec 32 := 10#32
  let v255 : BitVec 32 := Scalar.addi v142 c10_i32_172
  let c16_i32_173 : BitVec 32 := 16#32
  let v256 : BitVec 32 := Scalar.remsi v255 c16_i32_173
  let v257 : BitVec 32 := Scalar.subi v256 v2
  let c16_i32_174 : BitVec 32 := 16#32
  let v258 : BitVec 32 := Scalar.addi v257 c16_i32_174
  let c16_i32_175 : BitVec 32 := 16#32
  let v259 : BitVec 32 := Scalar.remsi v258 c16_i32_175
  ![v259.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c10_i32_172 : BitVec 32 := 10#32
  let v255 : BitVec 32 := Scalar.addi v142 c10_i32_172
  let c16_i32_173 : BitVec 32 := 16#32
  let v256 : BitVec 32 := Scalar.remsi v255 c16_i32_173
  let v257 : BitVec 32 := Scalar.subi v256 v2
  let c16_i32_174 : BitVec 32 := 16#32
  let v258 : BitVec 32 := Scalar.addi v257 c16_i32_174
  let c16_i32_175 : BitVec 32 := 16#32
  let v259 : BitVec 32 := Scalar.remsi v258 c16_i32_175
  let c0_i32_184 : BitVec 32 := 0#32
  let c0_i32_185 : BitVec 32 := 0#32
  ![v259.toNat, 0, 0]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c10_i32_172 : BitVec 32 := 10#32
  let v255 : BitVec 32 := Scalar.addi v142 c10_i32_172
  let c16_i32_173 : BitVec 32 := 16#32
  let v256 : BitVec 32 := Scalar.remsi v255 c16_i32_173
  let c256_i32 : BitVec 32 := 256#32
  let v271 : BitVec 32 := Scalar.muli v256 c256_i32
  let c0_i32_186 : BitVec 32 := 0#32
  ![v271.toNat, 0]
def k0_dev30 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c10_i32_172 : BitVec 32 := 10#32
  let v255 : BitVec 32 := Scalar.addi v142 c10_i32_172
  let c16_i32_173 : BitVec 32 := 16#32
  let v256 : BitVec 32 := Scalar.remsi v255 c16_i32_173
  let c1_i32_182 : BitVec 32 := 1#32
  let v272 : BitVec 32 := Scalar.muli v256 c1_i32_182
  let v273 : BitVec 32 := Scalar.addi c0_i32_183 v272
  v273.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c11_i32_177 : BitVec 32 := 11#32
  let v263 : BitVec 32 := Scalar.addi v142 c11_i32_177
  let c16_i32_178 : BitVec 32 := 16#32
  let v264 : BitVec 32 := Scalar.remsi v263 c16_i32_178
  let v268 : BitVec 1 := Scalar.cmpi .ne v264 v2
  let v269 : BitVec 32 := Scalar.extui v268
  let c0_i32_181 : BitVec 32 := 0#32
  let v270 : BitVec 1 := Scalar.cmpi .ne v269 c0_i32_181
  v270

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c11_i32_177 : BitVec 32 := 11#32
  let v263 : BitVec 32 := Scalar.addi v142 c11_i32_177
  let c16_i32_178 : BitVec 32 := 16#32
  let v264 : BitVec 32 := Scalar.remsi v263 c16_i32_178
  let v265 : BitVec 32 := Scalar.subi v264 v2
  let c16_i32_179 : BitVec 32 := 16#32
  let v266 : BitVec 32 := Scalar.addi v265 c16_i32_179
  let c16_i32_180 : BitVec 32 := 16#32
  let v267 : BitVec 32 := Scalar.remsi v266 c16_i32_180
  ![v267.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c11_i32_177 : BitVec 32 := 11#32
  let v263 : BitVec 32 := Scalar.addi v142 c11_i32_177
  let c16_i32_178 : BitVec 32 := 16#32
  let v264 : BitVec 32 := Scalar.remsi v263 c16_i32_178
  let v265 : BitVec 32 := Scalar.subi v264 v2
  let c16_i32_179 : BitVec 32 := 16#32
  let v266 : BitVec 32 := Scalar.addi v265 c16_i32_179
  let c16_i32_180 : BitVec 32 := 16#32
  let v267 : BitVec 32 := Scalar.remsi v266 c16_i32_180
  let c0_i32_184 : BitVec 32 := 0#32
  let c0_i32_185 : BitVec 32 := 0#32
  ![v267.toNat, 0, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c11_i32_177 : BitVec 32 := 11#32
  let v263 : BitVec 32 := Scalar.addi v142 c11_i32_177
  let c16_i32_178 : BitVec 32 := 16#32
  let v264 : BitVec 32 := Scalar.remsi v263 c16_i32_178
  let c256_i32 : BitVec 32 := 256#32
  let v271 : BitVec 32 := Scalar.muli v264 c256_i32
  let c0_i32_186 : BitVec 32 := 0#32
  ![v271.toNat, 0]
def k0_dev31 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_95 : BitVec 32 := 0#32
  let v126 : BitVec 1 := Scalar.cmpi .sgt v2 c0_i32_95
  let v127 : BitVec 32 := Scalar.extui v126
  let c0_i32_96 : BitVec 32 := 0#32
  let v128 : BitVec 1 := Scalar.cmpi .slt v2 c0_i32_96
  let v129 : BitVec 32 := Scalar.extui v128
  let v130 : BitVec 32 := Scalar.subi v127 v129
  let c4_i32_94 : BitVec 32 := 4#32
  let c0_i32_97 : BitVec 32 := 0#32
  let v131 : BitVec 1 := Scalar.cmpi .sgt c4_i32_94 c0_i32_97
  let v132 : BitVec 32 := Scalar.extui v131
  let c0_i32_98 : BitVec 32 := 0#32
  let v133 : BitVec 1 := Scalar.cmpi .slt c4_i32_94 c0_i32_98
  let v134 : BitVec 32 := Scalar.extui v133
  let v135 : BitVec 32 := Scalar.subi v132 v134
  let v136 : BitVec 1 := Scalar.cmpi .ne v130 v135
  let v137 : BitVec 32 := Scalar.remsi v2 c4_i32_94
  let c0_i32_99 : BitVec 32 := 0#32
  let v138 : BitVec 1 := Scalar.cmpi .ne v137 c0_i32_99
  let v139 : BitVec 1 := Scalar.andi v136 v138
  let v125 : BitVec 32 := Scalar.divsi v2 c4_i32_94
  let c1_i32_100 : BitVec 32 := 1#32
  let v140 : BitVec 32 := Scalar.subi v125 c1_i32_100
  let v141 : BitVec 32 := Scalar.select v139 v140 v125
  let c4_i32_101 : BitVec 32 := 4#32
  let v142 : BitVec 32 := Scalar.muli v141 c4_i32_101
  let c11_i32_177 : BitVec 32 := 11#32
  let v263 : BitVec 32 := Scalar.addi v142 c11_i32_177
  let c16_i32_178 : BitVec 32 := 16#32
  let v264 : BitVec 32 := Scalar.remsi v263 c16_i32_178
  let c1_i32_182 : BitVec 32 := 1#32
  let v272 : BitVec 32 := Scalar.muli v264 c1_i32_182
  let v273 : BitVec 32 := Scalar.addi c0_i32_183 v272
  v273.toNat
def k0_off50 (i : grid0.Coords) : Fin 1 → Nat :=
  let arg0 : BitVec 32 := BitVec.ofNat 32 (i 0).val
  let v6 : Index := Scalar.indexCast arg0
  ![v6.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  let v65 : Index := Scalar.indexCast v64
  let c0_29 : Index := 0#32
  ![v65.toNat, 0]
def k0_off52 (d0 : Dev nD) (v7 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.muli v7 c4_i32
  let c0_i32_1 : BitVec 32 := 0#32
  let v9 : BitVec 32 := Scalar.addi v8 c0_i32_1
  let v10 : BitVec 32 := Scalar.subi v2 v9
  let c16_i32_2 : BitVec 32 := 16#32
  let v11 : BitVec 32 := Scalar.addi v10 c16_i32_2
  let c16_i32_3 : BitVec 32 := 16#32
  let v12 : BitVec 32 := Scalar.remsi v11 c16_i32_3
  ![v12.toNat]
def k0_cond19 (d0 : Dev nD) (v7 : BitVec 32) : BitVec 1 :=
  let c4_i32 : BitVec 32 := 4#32
  let v8 : BitVec 32 := Scalar.muli v7 c4_i32
  let c0_i32_1 : BitVec 32 := 0#32
  let v9 : BitVec 32 := Scalar.addi v8 c0_i32_1
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 1 := Scalar.cmpi .ne v9 v2
  let v17 : BitVec 32 := Scalar.extui v16
  let c0_i32_5 : BitVec 32 := 0#32
  let v18 : BitVec 1 := Scalar.cmpi .ne v17 c0_i32_5
  v18

def k0_off53 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.muli v7 c4_i32
  let c0_i32_1 : BitVec 32 := 0#32
  let v9 : BitVec 32 := Scalar.addi v8 c0_i32_1
  let v10 : BitVec 32 := Scalar.subi v2 v9
  let c16_i32_2 : BitVec 32 := 16#32
  let v11 : BitVec 32 := Scalar.addi v10 c16_i32_2
  let c16_i32_3 : BitVec 32 := 16#32
  let v12 : BitVec 32 := Scalar.remsi v11 c16_i32_3
  let c0_i32_31 : BitVec 32 := 0#32
  let c0_i32_32 : BitVec 32 := 0#32
  ![v12.toNat, 0, 0]
def k0_off54 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.muli v7 c4_i32
  let c0_i32_1 : BitVec 32 := 0#32
  let v9 : BitVec 32 := Scalar.addi v8 c0_i32_1
  let v10 : BitVec 32 := Scalar.subi v2 v9
  let c16_i32_2 : BitVec 32 := 16#32
  let v11 : BitVec 32 := Scalar.addi v10 c16_i32_2
  let c16_i32_3 : BitVec 32 := 16#32
  let v12 : BitVec 32 := Scalar.remsi v11 c16_i32_3
  let v71 : Index := Scalar.indexCast v12
  let c0_35 : Index := 0#32
  let c0_36 : Index := 0#32
  ![v71.toNat, 0, 0]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  let v65 : Index := Scalar.indexCast v64
  let c0_29 : Index := 0#32
  ![v65.toNat, 0]
def k0_off56 (d0 : Dev nD) (v7 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v19 : BitVec 32 := Scalar.muli v7 c4_i32_6
  let c1_i32_7 : BitVec 32 := 1#32
  let v20 : BitVec 32 := Scalar.addi v19 c1_i32_7
  let v21 : BitVec 32 := Scalar.subi v2 v20
  let c16_i32_8 : BitVec 32 := 16#32
  let v22 : BitVec 32 := Scalar.addi v21 c16_i32_8
  let c16_i32_9 : BitVec 32 := 16#32
  let v23 : BitVec 32 := Scalar.remsi v22 c16_i32_9
  ![v23.toNat]
def k0_cond21 (d0 : Dev nD) (v7 : BitVec 32) : BitVec 1 :=
  let c4_i32_6 : BitVec 32 := 4#32
  let v19 : BitVec 32 := Scalar.muli v7 c4_i32_6
  let c1_i32_7 : BitVec 32 := 1#32
  let v20 : BitVec 32 := Scalar.addi v19 c1_i32_7
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v27 : BitVec 1 := Scalar.cmpi .ne v20 v2
  let v28 : BitVec 32 := Scalar.extui v27
  let c0_i32_11 : BitVec 32 := 0#32
  let v29 : BitVec 1 := Scalar.cmpi .ne v28 c0_i32_11
  v29

def k0_off57 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v19 : BitVec 32 := Scalar.muli v7 c4_i32_6
  let c1_i32_7 : BitVec 32 := 1#32
  let v20 : BitVec 32 := Scalar.addi v19 c1_i32_7
  let v21 : BitVec 32 := Scalar.subi v2 v20
  let c16_i32_8 : BitVec 32 := 16#32
  let v22 : BitVec 32 := Scalar.addi v21 c16_i32_8
  let c16_i32_9 : BitVec 32 := 16#32
  let v23 : BitVec 32 := Scalar.remsi v22 c16_i32_9
  let c0_i32_31 : BitVec 32 := 0#32
  let c0_i32_32 : BitVec 32 := 0#32
  ![v23.toNat, 0, 0]
def k0_off58 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v19 : BitVec 32 := Scalar.muli v7 c4_i32_6
  let c1_i32_7 : BitVec 32 := 1#32
  let v20 : BitVec 32 := Scalar.addi v19 c1_i32_7
  let v21 : BitVec 32 := Scalar.subi v2 v20
  let c16_i32_8 : BitVec 32 := 16#32
  let v22 : BitVec 32 := Scalar.addi v21 c16_i32_8
  let c16_i32_9 : BitVec 32 := 16#32
  let v23 : BitVec 32 := Scalar.remsi v22 c16_i32_9
  let v71 : Index := Scalar.indexCast v23
  let c0_35 : Index := 0#32
  let c0_36 : Index := 0#32
  ![v71.toNat, 0, 0]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  let v65 : Index := Scalar.indexCast v64
  let c0_29 : Index := 0#32
  ![v65.toNat, 0]
def k0_off60 (d0 : Dev nD) (v7 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.muli v7 c4_i32_12
  let c2_i32 : BitVec 32 := 2#32
  let v31 : BitVec 32 := Scalar.addi v30 c2_i32
  let v32 : BitVec 32 := Scalar.subi v2 v31
  let c16_i32_13 : BitVec 32 := 16#32
  let v33 : BitVec 32 := Scalar.addi v32 c16_i32_13
  let c16_i32_14 : BitVec 32 := 16#32
  let v34 : BitVec 32 := Scalar.remsi v33 c16_i32_14
  ![v34.toNat]
def k0_cond23 (d0 : Dev nD) (v7 : BitVec 32) : BitVec 1 :=
  let c4_i32_12 : BitVec 32 := 4#32
  let v30 : BitVec 32 := Scalar.muli v7 c4_i32_12
  let c2_i32 : BitVec 32 := 2#32
  let v31 : BitVec 32 := Scalar.addi v30 c2_i32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v38 : BitVec 1 := Scalar.cmpi .ne v31 v2
  let v39 : BitVec 32 := Scalar.extui v38
  let c0_i32_16 : BitVec 32 := 0#32
  let v40 : BitVec 1 := Scalar.cmpi .ne v39 c0_i32_16
  v40

def k0_off61 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.muli v7 c4_i32_12
  let c2_i32 : BitVec 32 := 2#32
  let v31 : BitVec 32 := Scalar.addi v30 c2_i32
  let v32 : BitVec 32 := Scalar.subi v2 v31
  let c16_i32_13 : BitVec 32 := 16#32
  let v33 : BitVec 32 := Scalar.addi v32 c16_i32_13
  let c16_i32_14 : BitVec 32 := 16#32
  let v34 : BitVec 32 := Scalar.remsi v33 c16_i32_14
  let c0_i32_31 : BitVec 32 := 0#32
  let c0_i32_32 : BitVec 32 := 0#32
  ![v34.toNat, 0, 0]
def k0_off62 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.muli v7 c4_i32_12
  let c2_i32 : BitVec 32 := 2#32
  let v31 : BitVec 32 := Scalar.addi v30 c2_i32
  let v32 : BitVec 32 := Scalar.subi v2 v31
  let c16_i32_13 : BitVec 32 := 16#32
  let v33 : BitVec 32 := Scalar.addi v32 c16_i32_13
  let c16_i32_14 : BitVec 32 := 16#32
  let v34 : BitVec 32 := Scalar.remsi v33 c16_i32_14
  let v71 : Index := Scalar.indexCast v34
  let c0_35 : Index := 0#32
  let c0_36 : Index := 0#32
  ![v71.toNat, 0, 0]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  let v65 : Index := Scalar.indexCast v64
  let c0_29 : Index := 0#32
  ![v65.toNat, 0]
def k0_off64 (d0 : Dev nD) (v7 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_17 : BitVec 32 := 4#32
  let v41 : BitVec 32 := Scalar.muli v7 c4_i32_17
  let c3_i32 : BitVec 32 := 3#32
  let v42 : BitVec 32 := Scalar.addi v41 c3_i32
  let v43 : BitVec 32 := Scalar.subi v2 v42
  let c16_i32_18 : BitVec 32 := 16#32
  let v44 : BitVec 32 := Scalar.addi v43 c16_i32_18
  let c16_i32_19 : BitVec 32 := 16#32
  let v45 : BitVec 32 := Scalar.remsi v44 c16_i32_19
  ![v45.toNat]
def k0_cond25 (d0 : Dev nD) (v7 : BitVec 32) : BitVec 1 :=
  let c4_i32_17 : BitVec 32 := 4#32
  let v41 : BitVec 32 := Scalar.muli v7 c4_i32_17
  let c3_i32 : BitVec 32 := 3#32
  let v42 : BitVec 32 := Scalar.addi v41 c3_i32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v49 : BitVec 1 := Scalar.cmpi .ne v42 v2
  let v50 : BitVec 32 := Scalar.extui v49
  let c0_i32_21 : BitVec 32 := 0#32
  let v51 : BitVec 1 := Scalar.cmpi .ne v50 c0_i32_21
  v51

def k0_off65 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_17 : BitVec 32 := 4#32
  let v41 : BitVec 32 := Scalar.muli v7 c4_i32_17
  let c3_i32 : BitVec 32 := 3#32
  let v42 : BitVec 32 := Scalar.addi v41 c3_i32
  let v43 : BitVec 32 := Scalar.subi v2 v42
  let c16_i32_18 : BitVec 32 := 16#32
  let v44 : BitVec 32 := Scalar.addi v43 c16_i32_18
  let c16_i32_19 : BitVec 32 := 16#32
  let v45 : BitVec 32 := Scalar.remsi v44 c16_i32_19
  let c0_i32_31 : BitVec 32 := 0#32
  let c0_i32_32 : BitVec 32 := 0#32
  ![v45.toNat, 0, 0]
def k0_off66 (d0 : Dev nD) (v7 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_17 : BitVec 32 := 4#32
  let v41 : BitVec 32 := Scalar.muli v7 c4_i32_17
  let c3_i32 : BitVec 32 := 3#32
  let v42 : BitVec 32 := Scalar.addi v41 c3_i32
  let v43 : BitVec 32 := Scalar.subi v2 v42
  let c16_i32_18 : BitVec 32 := 16#32
  let v44 : BitVec 32 := Scalar.addi v43 c16_i32_18
  let c16_i32_19 : BitVec 32 := 16#32
  let v45 : BitVec 32 := Scalar.remsi v44 c16_i32_19
  let v71 : Index := Scalar.indexCast v45
  let c0_35 : Index := 0#32
  let c0_36 : Index := 0#32
  ![v71.toNat, 0, 0]

def k0_chk1 (d0 : Dev nD) (v7 : BitVec 32) : Prop :=
  (∀ (k0_h19 : k0_cond19 d0 v7 = 1#1), ∀ a, (k0_off52 d0 v7) a + S1.size a ≤ S16.size a) ∧
  (∀ (k0_h19 : k0_cond19 d0 v7 = 1#1), ∀ a, (k0_off53 d0 v7) a + S1x256x256.size a ≤ S16x256x256.size a) ∧
  (∀ (k0_h19 : k0_cond19 d0 v7 = 1#1), ∀ (hinb : ∀ a, (k0_off53 d0 v7) a + S1x256x256.size a ≤ S16x256x256.size a), (Rect.unit (s := S16x256x256) (k0_off53 d0 v7) S1x256x256.size hinb).WholeWords (EltTy.packing .i8)) ∧
  (∀ (k0_h19 : k0_cond19 d0 v7 = 1#1), ∀ a, (k0_off54 d0 v7) a + S1x256x256.size a ≤ S16x256x256.size a) ∧
  (∀ (k0_h21 : k0_cond21 d0 v7 = 1#1), ∀ a, (k0_off56 d0 v7) a + S1.size a ≤ S16.size a) ∧
  (∀ (k0_h21 : k0_cond21 d0 v7 = 1#1), ∀ a, (k0_off57 d0 v7) a + S1x256x256.size a ≤ S16x256x256.size a) ∧
  (∀ (k0_h21 : k0_cond21 d0 v7 = 1#1), ∀ (hinb : ∀ a, (k0_off57 d0 v7) a + S1x256x256.size a ≤ S16x256x256.size a), (Rect.unit (s := S16x256x256) (k0_off57 d0 v7) S1x256x256.size hinb).WholeWords (EltTy.packing .i8)) ∧
  (∀ (k0_h21 : k0_cond21 d0 v7 = 1#1), ∀ a, (k0_off58 d0 v7) a + S1x256x256.size a ≤ S16x256x256.size a) ∧
  (∀ (k0_h23 : k0_cond23 d0 v7 = 1#1), ∀ a, (k0_off60 d0 v7) a + S1.size a ≤ S16.size a) ∧
  (∀ (k0_h23 : k0_cond23 d0 v7 = 1#1), ∀ a, (k0_off61 d0 v7) a + S1x256x256.size a ≤ S16x256x256.size a) ∧
  (∀ (k0_h23 : k0_cond23 d0 v7 = 1#1), ∀ (hinb : ∀ a, (k0_off61 d0 v7) a + S1x256x256.size a ≤ S16x256x256.size a), (Rect.unit (s := S16x256x256) (k0_off61 d0 v7) S1x256x256.size hinb).WholeWords (EltTy.packing .i8)) ∧
  (∀ (k0_h23 : k0_cond23 d0 v7 = 1#1), ∀ a, (k0_off62 d0 v7) a + S1x256x256.size a ≤ S16x256x256.size a) ∧
  (∀ (k0_h25 : k0_cond25 d0 v7 = 1#1), ∀ a, (k0_off64 d0 v7) a + S1.size a ≤ S16.size a) ∧
  (∀ (k0_h25 : k0_cond25 d0 v7 = 1#1), ∀ a, (k0_off65 d0 v7) a + S1x256x256.size a ≤ S16x256x256.size a) ∧
  (∀ (k0_h25 : k0_cond25 d0 v7 = 1#1), ∀ (hinb : ∀ a, (k0_off65 d0 v7) a + S1x256x256.size a ≤ S16x256x256.size a), (Rect.unit (s := S16x256x256) (k0_off65 d0 v7) S1x256x256.size hinb).WholeWords (EltTy.packing .i8)) ∧
  (∀ (k0_h25 : k0_cond25 d0 v7 = 1#1), ∀ a, (k0_off66 d0 v7) a + S1x256x256.size a ≤ S16x256x256.size a)
theorem k0_off52_inb : ∀ (d0 : Dev nD) (v7 : BitVec 32) (k0_hw1 : k0_chk1 d0 v7), ∀ (k0_h19 : k0_cond19 d0 v7 = 1#1), ∀ a, (k0_off52 d0 v7) a + S1.size a ≤ S16.size a := fun d0 v7 k0_hw1 k0_h19 => k0_hw1.1 k0_h19
theorem k0_off53_inb : ∀ (d0 : Dev nD) (v7 : BitVec 32) (k0_hw1 : k0_chk1 d0 v7), ∀ (k0_h19 : k0_cond19 d0 v7 = 1#1), ∀ a, (k0_off53 d0 v7) a + S1x256x256.size a ≤ S16x256x256.size a := fun d0 v7 k0_hw1 k0_h19 => k0_hw1.2.1 k0_h19
theorem k0_off53_wordsi8 : ∀ (d0 : Dev nD) (v7 : BitVec 32) (k0_hw1 : k0_chk1 d0 v7), ∀ (k0_h19 : k0_cond19 d0 v7 = 1#1), (Rect.unit (s := S16x256x256) (k0_off53 d0 v7) S1x256x256.size (k0_off53_inb d0 v7 k0_hw1 k0_h19)).WholeWords (EltTy.packing .i8) := fun d0 v7 k0_hw1 k0_h19 => k0_hw1.2.2.1 k0_h19 (k0_off53_inb d0 v7 k0_hw1 k0_h19)
theorem k0_off54_inb : ∀ (d0 : Dev nD) (v7 : BitVec 32) (k0_hw1 : k0_chk1 d0 v7), ∀ (k0_h19 : k0_cond19 d0 v7 = 1#1), ∀ a, (k0_off54 d0 v7) a + S1x256x256.size a ≤ S16x256x256.size a := fun d0 v7 k0_hw1 k0_h19 => k0_hw1.2.2.2.1 k0_h19
theorem k0_off56_inb : ∀ (d0 : Dev nD) (v7 : BitVec 32) (k0_hw1 : k0_chk1 d0 v7), ∀ (k0_h21 : k0_cond21 d0 v7 = 1#1), ∀ a, (k0_off56 d0 v7) a + S1.size a ≤ S16.size a := fun d0 v7 k0_hw1 k0_h21 => k0_hw1.2.2.2.2.1 k0_h21
theorem k0_off57_inb : ∀ (d0 : Dev nD) (v7 : BitVec 32) (k0_hw1 : k0_chk1 d0 v7), ∀ (k0_h21 : k0_cond21 d0 v7 = 1#1), ∀ a, (k0_off57 d0 v7) a + S1x256x256.size a ≤ S16x256x256.size a := fun d0 v7 k0_hw1 k0_h21 => k0_hw1.2.2.2.2.2.1 k0_h21
theorem k0_off57_wordsi8 : ∀ (d0 : Dev nD) (v7 : BitVec 32) (k0_hw1 : k0_chk1 d0 v7), ∀ (k0_h21 : k0_cond21 d0 v7 = 1#1), (Rect.unit (s := S16x256x256) (k0_off57 d0 v7) S1x256x256.size (k0_off57_inb d0 v7 k0_hw1 k0_h21)).WholeWords (EltTy.packing .i8) := fun d0 v7 k0_hw1 k0_h21 => k0_hw1.2.2.2.2.2.2.1 k0_h21 (k0_off57_inb d0 v7 k0_hw1 k0_h21)
theorem k0_off58_inb : ∀ (d0 : Dev nD) (v7 : BitVec 32) (k0_hw1 : k0_chk1 d0 v7), ∀ (k0_h21 : k0_cond21 d0 v7 = 1#1), ∀ a, (k0_off58 d0 v7) a + S1x256x256.size a ≤ S16x256x256.size a := fun d0 v7 k0_hw1 k0_h21 => k0_hw1.2.2.2.2.2.2.2.1 k0_h21
theorem k0_off60_inb : ∀ (d0 : Dev nD) (v7 : BitVec 32) (k0_hw1 : k0_chk1 d0 v7), ∀ (k0_h23 : k0_cond23 d0 v7 = 1#1), ∀ a, (k0_off60 d0 v7) a + S1.size a ≤ S16.size a := fun d0 v7 k0_hw1 k0_h23 => k0_hw1.2.2.2.2.2.2.2.2.1 k0_h23
theorem k0_off61_inb : ∀ (d0 : Dev nD) (v7 : BitVec 32) (k0_hw1 : k0_chk1 d0 v7), ∀ (k0_h23 : k0_cond23 d0 v7 = 1#1), ∀ a, (k0_off61 d0 v7) a + S1x256x256.size a ≤ S16x256x256.size a := fun d0 v7 k0_hw1 k0_h23 => k0_hw1.2.2.2.2.2.2.2.2.2.1 k0_h23
theorem k0_off61_wordsi8 : ∀ (d0 : Dev nD) (v7 : BitVec 32) (k0_hw1 : k0_chk1 d0 v7), ∀ (k0_h23 : k0_cond23 d0 v7 = 1#1), (Rect.unit (s := S16x256x256) (k0_off61 d0 v7) S1x256x256.size (k0_off61_inb d0 v7 k0_hw1 k0_h23)).WholeWords (EltTy.packing .i8) := fun d0 v7 k0_hw1 k0_h23 => k0_hw1.2.2.2.2.2.2.2.2.2.2.1 k0_h23 (k0_off61_inb d0 v7 k0_hw1 k0_h23)
theorem k0_off62_inb : ∀ (d0 : Dev nD) (v7 : BitVec 32) (k0_hw1 : k0_chk1 d0 v7), ∀ (k0_h23 : k0_cond23 d0 v7 = 1#1), ∀ a, (k0_off62 d0 v7) a + S1x256x256.size a ≤ S16x256x256.size a := fun d0 v7 k0_hw1 k0_h23 => k0_hw1.2.2.2.2.2.2.2.2.2.2.2.1 k0_h23
theorem k0_off64_inb : ∀ (d0 : Dev nD) (v7 : BitVec 32) (k0_hw1 : k0_chk1 d0 v7), ∀ (k0_h25 : k0_cond25 d0 v7 = 1#1), ∀ a, (k0_off64 d0 v7) a + S1.size a ≤ S16.size a := fun d0 v7 k0_hw1 k0_h25 => k0_hw1.2.2.2.2.2.2.2.2.2.2.2.2.1 k0_h25
theorem k0_off65_inb : ∀ (d0 : Dev nD) (v7 : BitVec 32) (k0_hw1 : k0_chk1 d0 v7), ∀ (k0_h25 : k0_cond25 d0 v7 = 1#1), ∀ a, (k0_off65 d0 v7) a + S1x256x256.size a ≤ S16x256x256.size a := fun d0 v7 k0_hw1 k0_h25 => k0_hw1.2.2.2.2.2.2.2.2.2.2.2.2.2.1 k0_h25
theorem k0_off65_wordsi8 : ∀ (d0 : Dev nD) (v7 : BitVec 32) (k0_hw1 : k0_chk1 d0 v7), ∀ (k0_h25 : k0_cond25 d0 v7 = 1#1), (Rect.unit (s := S16x256x256) (k0_off65 d0 v7) S1x256x256.size (k0_off65_inb d0 v7 k0_hw1 k0_h25)).WholeWords (EltTy.packing .i8) := fun d0 v7 k0_hw1 k0_h25 => k0_hw1.2.2.2.2.2.2.2.2.2.2.2.2.2.2.1 k0_h25 (k0_off65_inb d0 v7 k0_hw1 k0_h25)
theorem k0_off66_inb : ∀ (d0 : Dev nD) (v7 : BitVec 32) (k0_hw1 : k0_chk1 d0 v7), ∀ (k0_h25 : k0_cond25 d0 v7 = 1#1), ∀ a, (k0_off66 d0 v7) a + S1x256x256.size a ≤ S16x256x256.size a := fun d0 v7 k0_hw1 k0_h25 => k0_hw1.2.2.2.2.2.2.2.2.2.2.2.2.2.2.2 k0_h25

def k0_cond28 (i : grid0.Coords) : BitVec 1 :=
  let arg0 : BitVec 32 := BitVec.ofNat 32 (i 0).val
  let c3_i32_27 : BitVec 32 := 3#32
  let v61 : BitVec 1 := Scalar.cmpi .eq arg0 c3_i32_27
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Protocol.lean ====
/-
  The talk of the sixteen devices, written down.

  Device `c` takes part in it with three kinds of semaphore.

  * Its BARRIER cell (regular). Every other device signals it once, with one unit; `c` waits for all
    fifteen. The signal from `c + d` hands `c` the slot `d` of `c + d`: the slot of that device's
    landing buffer that `c` is going to fill, at any contents, together with the fact that the slot's
    receive cell is open. There is one round, and its fifteen duties are named by the distance `d`
    from `c` to the payer.
  * Its SEND cells, one for each distance `d = 1 … 15`. The copy that `c` starts to `c + d` credits send
    cell `d` once it has read its source; the credit hands `c` back the 256 rows of its own `x` that it
    sent.
  * Its RECEIVE cells, one for each distance `d`. The copy from `c - d` credits receive cell `d`; the
    credit hands `c` its slot `d`, holding the 256 rows of the `x` of `c - d` that belong to `c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Memref
public import Idealize.ShloMosaic.Lib.Rounds
public import Idealize.ShloMosaic.Lib.Transfers
public import Idealize.ShloMosaic.Lib.Tactic

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The duties of a cell: the distances from a device to another. -/
abbrev UT : Type := Rounds.URounds (GSem nD τ sig) (Fin 16)

/-- The pipeline library's copy, the talk's, and the counters of the local copies. -/
abbrev UU : Type := UR sig nD τ × (UT × Counters)

local notation "𝕄" => MT nD τ sig Unit (Elt F) ℕ UU ℕ

abbrev EP : Emb (UR sig nD τ) (MT nD τ sig Unit (Elt F) ℕ UU ℕ) := embL
abbrev ET : Emb UT (MT nD τ sig Unit (Elt F) ℕ UU ℕ) := (Emb.inl : Emb UT (UT × Counters)).trans embR
abbrev EC : UEmb Counters (MT nD τ sig Unit (Elt F) ℕ UU ℕ) := countersEmb

/-- A device's core. -/
abbrev tc (c : Dev nD) : Thread nD τ := (c : Thread nD τ)

/-! ## Cells -/

theorem inb_one (d : Fin 16) : ∀ a, (![d.val] : Fin 1 → ℕ) a + S1.size a ≤ S16.size a := by revert d; decide
theorem inb_slot (d : Fin 16) : ∀ a, (![d.val, 0, 0] : Fin 3 → ℕ) a + S1x256x256.size a ≤ S16x256x256.size a := by revert d; decide
theorem inb_rows (t : Fin 16) : ∀ a, (![t.val * 256, 0] : Fin 2 → ℕ) a + S256x256.size a ≤ S4096x256.size a := by revert t; decide

/-- The barrier semaphore, and the send and receive semaphores of a distance. -/
abbrev barS : Sem sig := (SemArray.scalar (sig.barrier 0 rfl) : Sems sig S_).sem
def sendS (d : Fin 16) : DmaSem sig :=
  ((cc0_scratch3.slice (Rect.unit (s := S16) ![d.val] S1.size (inb_one d))).squeeze S_ squeezes_S1_S_).sem
def recvS (d : Fin 16) : DmaSem sig :=
  ((cc0_scratch4.slice (Rect.unit (s := S16) ![d.val] S1.size (inb_one d))).squeeze S_ squeezes_S1_S_).sem

theorem sendS_val (d : Fin 16) : (sendS d).val = 6 + d.val := by revert d; decide
theorem recvS_val (d : Fin 16) : (recvS d).val = 22 + d.val := by revert d; decide

abbrev barCell (c : Dev nD) : GSem nD τ sig := (tc c, .reg barS)
abbrev sendCell (c : Dev nD) (d : Fin 16) : GSem nD τ sig := (tc c, .dma (sendS d))
abbrev recvCell (c : Dev nD) (d : Fin 16) : GSem nD τ sig := (tc c, .dma (recvS d))

/-! ## Memrefs -/

/-- The staged `x` of a device, whole, and the 256 rows of it that go to device `t`. -/
abbrev xM : Memref sig .tc .vmem S4096x256 .i8 := Memref.whole cc0_stg0_0
abbrev rowsM (t : Fin 16) : Memref sig .tc .vmem S256x256 .i8 :=
  xM.slice (Rect.unit (s := S4096x256) ![t.val * 256, 0] S256x256.size (inb_rows t)) (fun _ => rfl)
/-- The landing buffer, whole, and its slot `d`. -/
abbrev commM : Memref sig .tc .vmem S16x256x256 .i8 := Memref.whole cc0_scratch0
abbrev slotM (d : Fin 16) : Memref sig .tc .vmem S256x256 .i8 :=
  (commM.slice (Rect.unit (s := S16x256x256) ![d.val, 0, 0] S1x256x256.size (inb_slot d)) (fun _ => rfl)).squeeze S256x256 squeezes_S1x256x256_S256x256

/-- What one copy of 256 rows credits. -/
abbrev N : ℕ := (rowsM 0).view.dmaCredit

theorem N_pos : 0 < N := View.dmaCredit_pos _ (by decide)

/-! ## Contents -/

/-- The staged `x` of every device. -/
abbrev Xs (F : FTy → Type) [FloatOps F] : Type := Dev nD → (cc0_stg0_0 : Ref sig .tc).ty.Contents (Elt F)

variable (X : Xs F)

/-- The 256 rows that go to device `t`, of contents `f` of the staged `x`. -/
abbrev rowsOf (f : (cc0_stg0_0 : Ref sig .tc).ty.Contents (Elt F)) (t : Fin 16) : S256x256.Idx → Elt F .i8 := (rowsM t).view.read (Elt F) f

/-! ## The schedule -/

/-- Slot `d` of the landing buffer of device `c`, at any contents; -/
abbrev slotAny (c : Dev nD) (d : Fin 16) : sProp 𝕄 :=
  iprop(∃ f : Buf (Elt F) ((slotM d).view.loc (tc c)), (slotM d).view.loc (tc c) ↦[(slotM d).view.set]{fullShare} f)
/-- holding the rows of device `c - d` that belong to `c`; -/
abbrev slotFull (c : Dev nD) (d : Fin 16) : sProp 𝕄 := owns (tc c) (slotM d) fullShare (rowsOf (X (c - d)) c)
/-- the rows of the staged `x` of device `c` that go to device `t`. -/
abbrev rowsPt (c : Dev nD) (t : Fin 16) : sProp 𝕄 :=
  (rowsM t).view.loc (tc c) ↦[(rowsM t).view.set]{fullShare} X c

/-- What the signal of device `c + d` hands device `c`: slot `d` of its landing buffer, its receive cell open. -/
def barPay (c : Dev nD) (d : Fin 16) : sProp 𝕄 := iprop(slotAny (F := F) (c + d) d ∗ reached ET (recvCell (c + d) d) 0)

/-- The distance a send or a receive semaphore is for. -/
def sdist : SemLoc sig → Option (Fin 16)
  | .dma s => if h : 6 ≤ s.val ∧ s.val < 22 then some ⟨s.val - 6, by omega⟩ else none
  | _ => none
def rdist : SemLoc sig → Option (Fin 16)
  | .dma s => if h : 22 ≤ s.val ∧ s.val < 38 then some ⟨s.val - 22, by omega⟩ else none
  | _ => none

theorem sdist_send (d : Fin 16) : sdist (.dma (sendS d)) = some d := by revert d; decide
theorem rdist_send (d : Fin 16) : rdist (.dma (sendS d)) = none := by revert d; decide
theorem rdist_recv (d : Fin 16) : rdist (.dma (recvS d)) = some d := by revert d; decide

theorem send_ne_bar (d : Fin 16) : (SemLoc.dma (sendS d) : SemLoc sig) ≠ .reg barS := fun h => by cases h
theorem recv_ne_bar (d : Fin 16) : (SemLoc.dma (recvS d) : SemLoc sig) ≠ .reg barS := fun h => by cases h
theorem send_inj {d e : Fin 16} (h : (SemLoc.dma (sendS d) : SemLoc sig) = .dma (sendS e)) : d = e :=
  Option.some.inj ((sdist_send d).symm.trans ((congrArg sdist h).trans (sdist_send e)))
theorem recv_inj {d e : Fin 16} (h : (SemLoc.dma (recvS d) : SemLoc sig) = .dma (recvS e)) : d = e :=
  Option.some.inj ((rdist_recv d).symm.trans ((congrArg rdist h).trans (rdist_recv e)))

def talkPay (g : GSem nD τ sig) (d : Fin 16) : sProp 𝕄 :=
  if g.2 = .reg barS then barPay g.1.1 d
  else match rdist g.2 with
    | some e => slotFull X g.1.1 e
    | none => match sdist g.2 with
      | some e => rowsPt X g.1.1 (g.1.1 + e)
      | none => iprop(emp)

/-- One round on every cell: fifteen duties of one unit on a barrier cell, one of a block's credit on a send or a receive cell. -/
def talk : Rounds.Schedule (GSem nD τ sig) (Fin 16) 𝕄 where
  duties g r := if r = 0 ∧ g.1.2 = .tc then
      (if g.2 = .reg barS then Finset.univ.erase 0 else {0}) else ∅
  unitless _ := False
  amount g _ _ := if g.2 = .reg barS then 1 else N
  payload g _ d := talkPay X g d
  amount_pos g _ _ _ := by
    by_cases h : g.2 = .reg barS
    · rw [if_pos h]; exact Nat.one_pos
    · rw [if_neg h]; exact N_pos

instance talk_payload_storable (g : GSem nD τ sig) (r : ℕ) (d : Fin 16) :
    BI.Storable (upEmb : UEmb _ 𝕄) ((talk X).payload g r d) := by
  show BI.Storable upEmb (talkPay X g d)
  unfold talkPay barPay
  split
  · infer_instance
  split
  · infer_instance
  split <;> infer_instance

section Sched

variable (c : Dev nD) (d : Fin 16)

theorem duties_bar : (talk X).duties (barCell c) 0 = Finset.univ.erase 0 := by
  dsimp only [talk]; rw [if_pos ⟨rfl, rfl⟩, if_pos rfl]
theorem duties_send : (talk X).duties (sendCell c d) 0 = {0} := by
  dsimp only [talk]; rw [if_pos ⟨rfl, rfl⟩, if_neg (send_ne_bar d)]
theorem duties_recv : (talk X).duties (recvCell c d) 0 = {0} := by
  dsimp only [talk]; rw [if_pos ⟨rfl, rfl⟩, if_neg (recv_ne_bar d)]
theorem duties_later (g : GSem nD τ sig) : ∀ r, 1 ≤ r → (talk X).duties g r = ∅ :=
  fun r hr => by dsimp only [talk]; exact if_neg fun h => by omega

theorem amount_bar (e : Fin 16) : (talk X).amount (barCell c) 0 e = 1 := by dsimp only [talk]; exact if_pos rfl
theorem amount_send (e : Fin 16) : (talk X).amount (sendCell c d) 0 e = N := by dsimp only [talk]; exact if_neg (send_ne_bar d)
theorem amount_recv (e : Fin 16) : (talk X).amount (recvCell c d) 0 e = N := by dsimp only [talk]; exact if_neg (recv_ne_bar d)

theorem expect_bar : (talk X).expect (barCell c) 0 = 15 := by
  unfold Schedule.expect Schedule.amountOf
  rw [duties_bar, Finset.sum_congr rfl fun e _ => amount_bar X c e]; decide
theorem expect_send : (talk X).expect (sendCell c d) 0 = N := by
  unfold Schedule.expect Schedule.amountOf; rw [duties_send, Finset.sum_singleton, amount_send]
theorem expect_recv : (talk X).expect (recvCell c d) 0 = N := by
  unfold Schedule.expect Schedule.amountOf; rw [duties_recv, Finset.sum_singleton, amount_recv]

theorem payload_bar (e : Fin 16) : (talk X).payload (barCell c) 0 e = barPay c e := by
  show talkPay X (barCell c) e = _; unfold talkPay; exact if_pos rfl
theorem payload_recv (e : Fin 16) : (talk X).payload (recvCell c d) 0 e = slotFull X c d := by
  show talkPay X (recvCell c d) e = _; unfold talkPay; rw [if_neg (recv_ne_bar d)]; simp only [rdist_recv]
theorem payload_send (e : Fin 16) : (talk X).payload (sendCell c d) 0 e = rowsPt X c (c + d) := by
  show talkPay X (sendCell c d) e = _; unfold talkPay; rw [if_neg (send_ne_bar d)]; simp only [rdist_send, sdist_send]

theorem rest_bar : bigSep ((talk X).duties (barCell c) 0 \ ∅) (fun u => (talk X).payload (barCell c) 0 u)
    = bigSep (Finset.univ.erase 0) fun e => barPay c e := by
  rw [Finset.sdiff_empty, duties_bar]; exact bigSep_congr fun e _ => payload_bar X c e
theorem rest_send : bigSep ((talk X).duties (sendCell c d) 0 \ ∅) (fun u => (talk X).payload (sendCell c d) 0 u) = rowsPt X c (c + d) := by
  rw [Finset.sdiff_empty, duties_send, bigSep_singleton, payload_send]
theorem rest_recv : bigSep ((talk X).duties (recvCell c d) 0 \ ∅) (fun u => (talk X).payload (recvCell c d) 0 u) = slotFull X c d := by
  rw [Finset.sdiff_empty, duties_recv, bigSep_singleton, payload_recv]

end Sched

/-! ## What a device owes; levels -/

/-- The barrier units a device still owes the devices at the distances `S`; -/
def oweB (c : Dev nD) (S : Finset (Fin 16)) : CellTallies nD τ sig Unit := ∑ d ∈ S.erase 0, tallyAt (barCell (c + d)) () 1
/-- the receive credits. -/
def oweR (c : Dev nD) (S : Finset (Fin 16)) : CellTallies nD τ sig Unit := ∑ d ∈ S.erase 0, tallyAt (recvCell (c + d) d) () N

/-- What a device owes at launch. -/
def O₀ (c : Dev nD) : CellTallies nD τ sig Unit := oweB c Finset.univ + oweR c Finset.univ

def L (g : GSem nD τ sig) : Finset Unit := if g.1.2 = .tc then {()} else ∅
/-- Barrier cells at 1, receive cells at 2, the rest at 0: a device waits on its barrier cell owing receive credits only, on its
    send and receive cells owing nothing, and for its staged windows owing both. -/
def lv (g : GSem nD τ sig) (_ : Unit) : ℕ := if g.2 = .reg barS then 1 else if (rdist g.2).isSome then 2 else 0

theorem L_of_ne (g : GSem nD τ sig) (h : g.1.2 ≠ .tc) : L g = ∅ := if_neg h
theorem L_tc (c : Dev nD) (sm : SemLoc sig) : L (tc c, sm) = {()} := if_pos rfl

end Cert.Talk
-- ==== Proof.Steps.lean ====
/-
  The steps of the talk, one lemma each, for any distance `d`: a signal, the barrier wait, a guarded copy to the
  device at distance `d`, the wait for its source, the wait for what landed at distance `d`.
  A step moves `d` out of a set `S` of distances still to be served.
-/
module

public import proofs.«01_k».proof.Proof.Protocol

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of device `c`'s core, run by the kernel's body table. -/
abbrev WP (c : Dev nD) {α : Type} (P : Prog (TpuEff nD τ sig (Elt F) Λ₀ .tc) α) (Q : α → sProp 𝕄) : sProp 𝕄 :=
  wp frame (wpE (defs₀ (F := F)) Variants.none (tc c) none) Set.univ P Q

variable (X : Xs F)

theorem neg_ne (d : Fin 16) (h : d ≠ 0) : -d ≠ 0 := by revert d; decide
theorem add_neg_self (c d : Fin 16) : c + d + -d = c := by revert c d; decide
theorem add_sub_self (c d : Fin 16) : c + d - d = c := by revert c d; decide

/-! ## Sums and products over the distances still to be served -/

section Sets

variable {S : Finset (Fin 16)} {d : Fin 16}

theorem pop {Φ : Fin 16 → sProp 𝕄} (h : d ∈ S) (h0 : d ≠ 0) :
    bigSep (S.erase 0) Φ = iprop(Φ d ∗ bigSep ((S.erase d).erase 0) Φ) := by
  rw [bigSep_erase (Finset.mem_erase.mpr ⟨h0, h⟩), Finset.erase_right_comm]; rfl

theorem compl_erase (h : d ∈ S) (h0 : d ≠ 0) : (S.erase d)ᶜ.erase 0 = insert d (Sᶜ.erase 0) := by
  ext e
  simp only [Finset.mem_erase, Finset.mem_compl, Finset.mem_insert, not_and, not_not]
  by_cases he : e = d
  · subst he; simp [h0]
  · simp [he]

theorem push {Φ : Fin 16 → sProp 𝕄} (h : d ∈ S) (h0 : d ≠ 0) :
    bigSep ((S.erase d)ᶜ.erase 0) Φ = iprop(Φ d ∗ bigSep (Sᶜ.erase 0) Φ) := by
  rw [compl_erase h h0, bigSep_insert (fun hd => by simp [h] at hd)]; rfl

theorem pop_zero {Φ : Fin 16 → sProp 𝕄} : bigSep ((S.erase 0).erase 0) Φ = bigSep (S.erase 0) Φ := by
  rw [Finset.erase_eq_of_notMem (Finset.notMem_erase 0 S)]
theorem push_zero {Φ : Fin 16 → sProp 𝕄} : bigSep ((S.erase 0)ᶜ.erase 0) Φ = bigSep (Sᶜ.erase 0) Φ := by
  congr 1
  ext e
  simp only [Finset.mem_erase, Finset.mem_compl, not_and]
  tauto

theorem oweB_pop (c : Dev nD) (h : d ∈ S) (h0 : d ≠ 0) : oweB c S = oweB c (S.erase d) + tallyAt (barCell (c + d)) () 1 := by
  unfold oweB
  rw [Finset.erase_right_comm, Finset.sum_erase_add _ _ (Finset.mem_erase.mpr ⟨h0, h⟩)]
theorem oweR_pop (c : Dev nD) (h : d ∈ S) (h0 : d ≠ 0) : oweR c S = oweR c (S.erase d) + tallyAt (recvCell (c + d) d) () N := by
  unfold oweR
  rw [Finset.erase_right_comm, Finset.sum_erase_add _ _ (Finset.mem_erase.mpr ⟨h0, h⟩)]
theorem oweR_zero (c : Dev nD) : oweR c (S.erase 0) = oweR c S := by
  unfold oweR; rw [Finset.erase_eq_of_notMem (Finset.notMem_erase 0 S)]
theorem oweB_empty (c : Dev nD) : oweB c ∅ = 0 := rfl
theorem oweR_empty (c : Dev nD) : oweR c ∅ = 0 := rfl

end Sets

/-! ## What is owed, and waiting under it -/

theorem sum_pos_cell (S : Finset (Fin 16)) (f : Fin 16 → GSem nD τ sig) (n : ℕ) (g : GSem nD τ sig) (u : Unit)
    (h : 0 < (∑ d ∈ S, (tallyAt (f d) () n : CellTallies nD τ sig Unit)) g u) : ∃ d ∈ S, g = f d := by
  classical
  induction S using Finset.induction_on with
  | empty => exact absurd h (Nat.lt_irrefl 0)
  | insert a s ha ih =>
    rw [Finset.sum_insert ha, Pi.add_apply, Finsupp.add_apply, tallyAt_apply] at h
    by_cases hg : g = f a ∧ u = ()
    · exact ⟨a, Finset.mem_insert_self _ _, hg.1⟩
    · rw [if_neg hg, Nat.zero_add] at h
      obtain ⟨d, hd, hgd⟩ := ih h
      exact ⟨d, Finset.mem_insert_of_mem hd, hgd⟩

theorem oweR_pos {c : Dev nD} {S : Finset (Fin 16)} {g : GSem nD τ sig} {u : Unit} (h : 0 < oweR c S g u) :
    ∃ d, g = recvCell (c + d) d := (sum_pos_cell _ (fun d => recvCell (c + d) d) N g u h).imp fun _ h => h.2
theorem oweB_pos {c : Dev nD} {S : Finset (Fin 16)} {g : GSem nD τ sig} {u : Unit} (h : 0 < oweB c S g u) :
    ∃ d, g = barCell (c + d) := (sum_pos_cell _ (fun d => barCell (c + d)) 1 g u h).imp fun _ h => h.2

theorem lv_recv (c : Dev nD) (d : Fin 16) (u : Unit) : lv (recvCell c d) u = 2 := by
  unfold lv; rw [if_neg (recv_ne_bar d), rdist_recv]; rfl
theorem lv_bar (c : Dev nD) (u : Unit) : lv (barCell c) u = 1 := by unfold lv; rw [if_pos rfl]

theorem mayWait_bar (c : Dev nD) (S : Finset (Fin 16)) :
    (levAts L lv : sProp 𝕄) ⊢ MayWait (tc c) (.reg barS) () (oweR c S) :=
  MayOwe.of_cut (L := L) (lev := lv) 1 (fun p hp => by rw [Finset.mem_singleton.mp hp, L_tc]; exact Finset.mem_singleton_self _)
    (fun g u hg => by obtain ⟨d, rfl⟩ := oweR_pos hg; rw [L_tc]; exact Finset.mem_singleton_self _)
    (fun p hp => by rw [Finset.mem_singleton.mp hp]; exact le_of_eq (lv_bar c _))
    (fun g u hg => by obtain ⟨d, rfl⟩ := oweR_pos hg; rw [lv_recv]; decide)

/-- A wait for a staged window, at whatever the device still owes of its talk. -/
theorem mayWait_win (c : Dev nD) (s : DmaSem sig) (hs : s.val < 22) :
    (levAts L lv : sProp 𝕄) ⊢ MayWait (tc c) (.dma s) () (O₀ c) :=
  have hpos : ∀ (g : GSem nD τ sig) (u : Unit), 0 < O₀ c g u → (∃ d, g = barCell (c + d)) ∨ ∃ d, g = recvCell (c + d) d := fun g u hg => by
    unfold O₀ at hg
    rw [Pi.add_apply, Finsupp.add_apply] at hg
    rcases Nat.eq_zero_or_pos (oweB c Finset.univ g u) with h | h
    · rw [h, Nat.zero_add] at hg; exact .inr (oweR_pos hg)
    · exact .inl (oweB_pos h)
  MayOwe.of_cut (L := L) (lev := lv) 0 (fun p hp => by rw [Finset.mem_singleton.mp hp, L_tc]; exact Finset.mem_singleton_self _)
    (fun g u hg => by rcases hpos g u hg with ⟨d, rfl⟩ | ⟨d, rfl⟩ <;> · rw [L_tc]; exact Finset.mem_singleton_self _)
    (fun p hp => by
      rw [Finset.mem_singleton.mp hp]
      have h1 : (SemLoc.dma s : SemLoc sig) ≠ .reg barS := fun h => by cases h
      have h2 : rdist (.dma s) = none := by unfold rdist; simp only; rw [dif_neg (by omega)]
      unfold lv; simp only; rw [if_neg h1, h2]; rfl)
    (fun g u hg => by
      rcases hpos g u hg with ⟨d, rfl⟩ | ⟨d, rfl⟩
      · rw [lv_bar]; decide
      · rw [lv_recv]; decide)

/-! ## A program whose tail is named -/

/-- To run a program whose tail is named `jp`, run it with any tail that runs from `M`, and the tail from `M`. -/
theorem wp_jp {c : Dev nD} {α β : Type} (M : sProp 𝕄) {P : sProp 𝕄} {K : β → Prog (TpuEff nD τ sig (Elt F) Λ₀ .tc) α}
    {B : (β → Prog (TpuEff nD τ sig (Elt F) Λ₀ .tc) α) → Prog (TpuEff nD τ sig (Elt F) Λ₀ .tc) α} {Q : α → sProp 𝕄} {b : β}
    (hB : ∀ jp, (M ⊢ WP c (jp b) Q) → P ⊢ WP c (B jp) Q) (hK : M ⊢ WP c (K b) Q) : P ⊢ WP c (have jp := K; B jp) Q := hB K hK

/-- One program after another. -/
theorem wp_seq {c : Dev nD} {α β : Type} (M : β → sProp 𝕄) {P : sProp 𝕄} {p : Prog (TpuEff nD τ sig (Elt F) Λ₀ .tc) β}
    {k : β → Prog (TpuEff nD τ sig (Elt F) Λ₀ .tc) α} {Q : α → sProp 𝕄}
    (hp : P ⊢ WP c p M) (hk : ∀ b, M b ⊢ WP c (k b) Q) : P ⊢ WP c (p >>= k) Q := by
  unfold WP at hp hk ⊢
  rw [wp_bind]
  exact hp.trans (wp_mono _ _ _ fun b => hk b)

/-- The end of a program. -/
theorem wp_done {c : Dev nD} {α : Type} {P : sProp 𝕄} {a : α} {Q : α → sProp 𝕄} (h : P ⊢ Q a) :
    P ⊢ WP (F := F) c (.ret a) Q := by
  unfold WP
  rw [wp_ret]
  iintro H
  imodintro
  iapply h
  iexact H

/-! ## The records every device holds -/

def barCells : Finset (GSem nD τ sig) := Finset.univ.image barCell
def dmaCells : Finset (GSem nD τ sig) :=
  (Finset.univ.image fun x : Dev nD × Fin 16 => sendCell x.1 x.2) ∪ Finset.univ.image fun x : Dev nD × Fin 16 => recvCell x.1 x.2

/-- Every cell's invariant, under the names `κ`, and that every barrier cell is open. -/
def recs (κ : GSem nD τ sig → ℕ) : sProp 𝕄 :=
  iprop((bigSep (barCells ∪ dmaCells) fun g => cellInv ET (talk X) (κ g) g) ∗ bigSep barCells fun g => reached ET g 0)

instance recs_persistent (κ : GSem nD τ sig → ℕ) : BI.Persistent (recs X κ) := by unfold recs; infer_instance

variable (κ : GSem nD τ sig → ℕ)

theorem recs_inv {g : GSem nD τ sig} (h : g ∈ barCells ∪ dmaCells) : recs X κ ⊢ cellInv ET (talk X) (κ g) g := by
  unfold recs; exact (BI.sep_and.trans BI.and_elimL).trans (bigSep_elim h)
theorem recs_bar (c : Dev nD) : recs X κ ⊢ cellInv ET (talk X) (κ (barCell c)) (barCell c) :=
  recs_inv X κ (Finset.mem_union_left _ (Finset.mem_image_of_mem _ (Finset.mem_univ c)))
theorem recs_send (c : Dev nD) (d : Fin 16) : recs X κ ⊢ cellInv ET (talk X) (κ (sendCell c d)) (sendCell c d) :=
  recs_inv X κ (Finset.mem_union_right _ (Finset.mem_union_left _ (Finset.mem_image.mpr ⟨(c, d), Finset.mem_univ _, rfl⟩)))
theorem recs_recv (c : Dev nD) (d : Fin 16) : recs X κ ⊢ cellInv ET (talk X) (κ (recvCell c d)) (recvCell c d) :=
  recs_inv X κ (Finset.mem_union_right _ (Finset.mem_union_right _ (Finset.mem_image.mpr ⟨(c, d), Finset.mem_univ _, rfl⟩)))
theorem recs_reached (c : Dev nD) : recs X κ ⊢ reached ET (barCell c) 0 := by
  unfold recs; exact (BI.sep_and.trans BI.and_elimR).trans (bigSep_elim (Finset.mem_image_of_mem _ (Finset.mem_univ c)))

/-- That device `c`'s own send and receive cells are open. -/
def opened (c : Dev nD) : sProp 𝕄 :=
  iprop((bigSep (Finset.univ.erase 0) fun d => reached ET (sendCell c d) 0) ∗ bigSep (Finset.univ.erase 0) fun d => reached ET (recvCell c d) 0)

instance opened_persistent (c : Dev nD) : BI.Persistent (opened (F := F) c) := by unfold opened; infer_instance

theorem opened_send (c : Dev nD) {d : Fin 16} (h : d ≠ 0) : opened c ⊢ (reached ET (sendCell c d) 0 : sProp 𝕄) := by
  unfold opened; exact (BI.sep_and.trans BI.and_elimL).trans (bigSep_elim (Finset.mem_erase.mpr ⟨h, Finset.mem_univ d⟩))
theorem opened_recv (c : Dev nD) {d : Fin 16} (h : d ≠ 0) : opened c ⊢ (reached ET (recvCell c d) 0 : sProp 𝕄) := by
  unfold opened; exact (BI.sep_and.trans BI.and_elimR).trans (bigSep_elim (Finset.mem_erase.mpr ⟨h, Finset.mem_univ d⟩))

/-! ## A signal -/

/-- What device `c` signals the device at distance `d` with: its slot `-d` and the token of its duty. -/
def sigRes (c : Dev nD) (d : Fin 16) : sProp 𝕄 := iprop(slotAny (F := F) c (-d) ∗ dutyTok ET (barCell (c + d)) 0 (-d))

/-- The device in its round of signals, `S` the distances still to be signalled. -/
def sigSt (c : Dev nD) (S : Finset (Fin 16)) (O' : CellTallies nD τ sig Unit) (W : Waits sig Unit) (R : sProp 𝕄) : sProp 𝕄 :=
  iprop(recs X κ ∗ opened c ∗ bigSep (S.erase 0) (sigRes c) ∗ owes (tc c) (oweB c S + O') W ∗ R)

theorem wp_sig (c : Dev nD) {S : Finset (Fin 16)} (d : Fin 16) (hd : d ∈ S) (h0 : d ≠ 0) {n : Dev nD} (hn : n = c + d)
    {O' : CellTallies nD τ sig Unit} {W : Waits sig Unit} {R : sProp 𝕄} {α : Type} {k : Prog (TpuEff nD τ sig (Elt F) Λ₀ .tc) α} {Q : α → sProp 𝕄}
    (hk : sigSt X κ c (S.erase d) O' W R ⊢ WP c k Q) :
    sigSt X κ c S O' W R ⊢ WP c (.op (.semSignal (tc n) barS (1#32 : BitVec 32).toInt) fun _ => k) Q := by
  subst hn
  unfold sigSt
  rw [pop hd h0, oweB_pop c hd h0]
  have hneg : (-d : Fin 16) ≠ 0 := neg_ne d h0
  iintro ⟨#HR, #Hop, ⟨Hs, Hrest⟩, HO, HF⟩
  unfold sigRes
  icases Hs with ⟨Hslot, Htok⟩
  iapply (Rounds.wp_signal Variants.none ET (talk X) (tc c) none (dst := tc (c + d)) (κ := κ (barCell (c + d))) (d := -d) (r := 0)
      (by rw [duties_bar]; exact Finset.mem_erase.mpr ⟨hneg, Finset.mem_univ _⟩) ((amount_bar X (c + d) (-d)).trans (by decide)) () (oweB c (S.erase d) + O')
      (add_right_comm _ _ _)) $$ [HO Htok Hslot]
  · isplitr; · iapply (recs_bar X κ (c + d)); iexact HR
    isplitl [HO]; · iexact HO
    isplitl [Htok]; · iexact Htok
    isplitl [Hslot]
    · rw [payload_bar]; unfold barPay; rw [show c + d + -d = c from add_neg_self c d]
      isplitl [Hslot]; · iexact Hslot
      iapply (opened_recv c hneg); iexact Hop
    · iapply (recs_reached X κ (c + d)); iexact HR
  iintro HO
  iapply hk
  unfold sigSt sigRes
  isplitr; · iexact HR
  isplitr; · iexact Hop
  isplitl [Hrest]; · iexact Hrest
  isplitl [HO] <;> iassumption

/-! ## The barrier wait -/

theorem wp_barWait (c : Dev nD) {W : Waits sig Unit} {α : Type} {k : PUnit → Prog (TpuEff nD τ sig (Elt F) Λ₀ .tc) α} {Q : α → sProp 𝕄} :
    iprop(recs X κ ∗ levAts L lv ∗ cred (tallyAt (barCell c) () 15) ∗ owes (tc c) (oweR c Finset.univ) W ∗ atPos ET (barCell c) 0 ∅ 0)
      ⊢ iprop(((owes (tc c) (oweR c Finset.univ) (insert (SemLoc.reg barS, ()) W) ∗ atPos ET (barCell c) (0 + 1) ∅ 0
            ∗ bigSep (Finset.univ.erase 0) (barPay c)) -∗ WP c (k ⟨⟩) Q)
        -∗ WP c (.op (.semWait barS (15#32 : BitVec 32).toInt) k) Q) := by
  iintro ⟨#HR, #Hlev, Hc, HO, Hat⟩ Hk
  iapply (Rounds.wp_wait_rest_token Variants.none ET (talk X) (tc c) none (κ := κ (barCell c))
      (wpE_semWait_eq Variants.none (tc c) none Set.univ) (Set.mem_univ _) () (O := oweR c Finset.univ) (W := W) (R := 0) (m := 0) (T := ∅)
      (by rw [expect_bar]; decide)) $$ [Hc HO Hat]
  · isplitr; · iapply (recs_bar X κ c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitl [HO]; · iexact HO
  isplitl [Hat] <;> iassumption

/-! ## A copy -/

/-- What device `c` starts the copy to the device at distance `d` with. -/
def sendRes (c : Dev nD) (d : Fin 16) : sProp 𝕄 :=
  iprop(barPay c d ∗ rowsPt X c (c + d) ∗ dutyTok ET (sendCell c d) 0 0 ∗ dutyTok ET (recvCell (c + d) d) 0 0)
/-- What it has of it then: the right to wait for the source. -/
def sendDone (c : Dev nD) (d : Fin 16) : sProp 𝕄 := cred (tallyAt (sendCell c d) () N)

/-- The device in its round of copies, `S` the distances still to be served. -/
def copySt (c : Dev nD) (S : Finset (Fin 16)) (W : Waits sig Unit) (R : sProp 𝕄) : sProp 𝕄 :=
  iprop(recs X κ ∗ opened c ∗ bigSep (S.erase 0) (sendRes X c) ∗ bigSep (Sᶜ.erase 0) (sendDone c) ∗ owes (tc c) (oweR c S) W ∗ R)

theorem wp_copy (c : Dev nD) {S : Finset (Fin 16)} {d : Fin 16} (hd : d ∈ S)
    {cd : BitVec 1} (hcd : cd = 1#1 ↔ d ≠ 0)
    {os : Fin 1 → ℕ} {hs : cd = 1#1 → ∀ a, os a + S1.size a ≤ S16.size a} (hos : os = ![d.val])
    {oc : Fin 3 → ℕ} {hc : cd = 1#1 → ∀ a, oc a + S1x256x256.size a ≤ S16x256x256.size a} (hoc : oc = ![d.val, 0, 0])
    {ox : Fin 2 → ℕ} {hx : cd = 1#1 → ∀ a, ox a + S256x256.size a ≤ S4096x256.size a} (hox : ox = ![(c + d).val * 256, 0])
    {n : ℕ} {hn : cd = 1#1 → n < nD} (hnd : n = (c + d).val)
    {W : Waits sig Unit} {R : sProp 𝕄} {α : Type} {J : Prog (TpuEff nD τ sig (Elt F) Λ₀ .tc) α} {Q : α → sProp 𝕄}
    (hJ : copySt X κ c (S.erase d) W R ⊢ WP c J Q)
    {hsc : ∀ h : cd = 1#1, ((commM.slice (Rect.unit (s := S16x256x256) oc S1x256x256.size (hc h)) (fun _ => rfl)).squeeze S256x256 squeezes_S1x256x256_S256x256).view.ref.isScScratch = false}
    {h1 : ∀ h : cd = 1#1, (xM.slice (Rect.unit (s := S4096x256) ox S256x256.size (hx h)) (fun _ => rfl)).view.WordExact}
    {h2 : ∀ h : cd = 1#1, ((commM.slice (Rect.unit (s := S16x256x256) oc S1x256x256.size (hc h)) (fun _ => rfl)).squeeze S256x256 squeezes_S1x256x256_S256x256).view.WordExact}
    {h3 : ∀ h : cd = 1#1, DmaTarget.Typed .vmem (.dma ((cc0_scratch4.slice (Rect.unit (s := S16) os S1.size (hs h))).squeeze S_ squeezes_S1_S_).sem)
      (.remote (Dev.tc ⟨n, hn h⟩ : Thread nD τ) ((commM.slice (Rect.unit (s := S16x256x256) oc S1x256x256.size (hc h)) (fun _ => rfl)).squeeze S256x256 squeezes_S1x256x256_S256x256)
        (.dma ((cc0_scratch3.slice (Rect.unit (s := S16) os S1.size (hs h))).squeeze S_ squeezes_S1_S_).sem) (hsc h))} :
    copySt X κ c S W R ⊢ WP c (if h : cd = 1#1 then
            .op (.enqueueDma (xM.slice (Rect.unit (s := S4096x256) ox S256x256.size (hx h)) (fun _ => rfl))
              (.remote (Dev.tc ⟨n, hn h⟩ : Thread nD τ) ((commM.slice (Rect.unit (s := S16x256x256) oc S1x256x256.size (hc h)) (fun _ => rfl)).squeeze S256x256 squeezes_S1x256x256_S256x256)
                (.dma ((cc0_scratch3.slice (Rect.unit (s := S16) os S1.size (hs h))).squeeze S_ squeezes_S1_S_).sem) (hsc h))
              (.dma ((cc0_scratch4.slice (Rect.unit (s := S16) os S1.size (hs h))).squeeze S_ squeezes_S1_S_).sem) (h1 h) (h2 h) (h3 h)) (fun _ => J)
          else J) Q := by
  subst hos hoc hox hnd
  by_cases h0 : d = 0
  · subst h0
    rw [dif_neg (fun h => (hcd.mp h) rfl)]
    refine BI.Entails.trans ?_ hJ
    unfold copySt
    rw [pop_zero, push_zero, oweR_zero]
    exact BI.Entails.refl _
  · rw [dif_pos (hcd.mpr h0)]
    unfold copySt at hJ ⊢
    rw [push hd h0] at hJ
    rw [pop hd h0, oweR_pop c hd h0]
    rw [show sendRes X c d = iprop((slotAny (F := F) (c + d) d ∗ reached ET (recvCell (c + d) d) 0) ∗ rowsPt X c (c + d)
      ∗ dutyTok ET (sendCell c d) 0 0 ∗ dutyTok ET (recvCell (c + d) d) 0 0) from rfl]
    iintro ⟨#HR, #Hop, HS, HD, HO, HF⟩
    icases HS with ⟨⟨⟨⟨%fd, Hslot⟩, #Hrv⟩, Hrows, Ht1, Ht2⟩, Hrest⟩
    iapply (Rounds.wp_send_pointsTo Variants.none ET (talk X) (tc c) none (κ₁ := κ (sendCell c d)) (κ₂ := κ (recvCell (c + d) d))
        (r₁ := 0) (r₂ := 0) (d₁ := 0) (d₂ := 0) (fd := fd) (c' := tc (c + d)) (sS := .dma (sendS d)) (sem := .dma (recvS d))
        (src := rowsM (c + d)) (dst := slotM d) (fs := X c) (q := fullShare)
        (by rw [duties_send]; exact Finset.mem_singleton_self _) (by rw [duties_recv]; exact Finset.mem_singleton_self _)
        () () N rfl (amount_send X c d 0) (amount_recv X (c + d) d 0) (oweR c (S.erase d)) rfl (W := W)
        (by rw [payload_send])
        (by
          rw [payload_recv]
          unfold slotFull owns rowsOf
          iintro H
          iexists _
          isplitr [H]
          rotate_left
          · iexact H
          · ipureintro
            rw [View.read_write_univ, show c + d - d = c from add_sub_self c d])) $$ [Hslot Hrows Ht1 Ht2 HO]
    · isplitr; · iapply (recs_send X κ c d); iexact HR
      isplitr; · iapply (recs_recv X κ (c + d) d); iexact HR
      isplitl [Hrows]; · iexact Hrows
      isplitl [Hslot]; · iexact Hslot
      isplitl [HO]; · iexact HO
      isplitl [Ht1]; · iexact Ht1
      isplitr; · iapply (opened_send c h0); iexact Hop
      isplitl [Ht2]; · iexact Ht2
      iexact Hrv
    iintro ⟨Hc, HO⟩
    iapply hJ
    isplitr; · iexact HR
    isplitr; · iexact Hop
    isplitl [Hrest]; · iexact Hrest
    isplitl [Hc HD]
    · unfold sendDone
      isplitl [Hc] <;> iassumption
    · isplitl [HO] <;> iassumption

/-! ## The waits -/

/-- What device `c` waits for the source of its copy to distance `d` with, and what it has after the wait. -/
def srcRes (c : Dev nD) (d : Fin 16) : sProp 𝕄 := iprop(cred (tallyAt (sendCell c d) () N) ∗ atPos ET (sendCell c d) 0 ∅ 0)
def srcDone (c : Dev nD) (d : Fin 16) : sProp 𝕄 := iprop(rowsPt X c (c + d) ∗ atPos ET (sendCell c d) (0 + 1) ∅ 0)

/-- What device `c` waits for the landing at distance `d` with, and what it has after. -/
def rcvRes (c : Dev nD) (d : Fin 16) : sProp 𝕄 := iprop(cred (tallyAt (recvCell c d) () N) ∗ atPos ET (recvCell c d) 0 ∅ 0)
def rcvDone (c : Dev nD) (d : Fin 16) : sProp 𝕄 := iprop(slotFull X c d ∗ atPos ET (recvCell c d) (0 + 1) ∅ 0)

/-- The core owes nothing. -/
def clear (c : Dev nD) : sProp 𝕄 := iprop(∃ W, owes (tc c) 0 W)

/-- The device in its round of waits for the sources, `S` the distances still to be waited for. -/
def srcSt (c : Dev nD) (S : Finset (Fin 16)) (R : sProp 𝕄) : sProp 𝕄 :=
  iprop(recs X κ ∗ bigSep (S.erase 0) (srcRes c) ∗ bigSep (Sᶜ.erase 0) (srcDone X c) ∗ clear c ∗ R)

theorem wp_srcWait (c : Dev nD) {S : Finset (Fin 16)} (d : Fin 16) (hd : d ∈ S) (h0 : d ≠ 0)
    {sm : DmaSem sig} (hsm : sm = sendS d)
    {sp sp' : Space} {sh : Shape} {e : EltTy} {src : Memref sig .tc sp sh e} {dst : Memref sig .tc sp' sh e} (hN : dst.view.dmaCredit = N)
    {h1 : src.view.WordExact} {h2 : dst.view.WordExact}
    {R : sProp 𝕄} {α : Type} {k : Prog (TpuEff nD τ sig (Elt F) Λ₀ .tc) α} {Q : α → sProp 𝕄}
    (hk : srcSt X κ c (S.erase d) R ⊢ WP c k Q) :
    srcSt X κ c S R ⊢ WP c (.op (.waitDma2 sm src dst h1 h2) fun _ => k) Q := by
  subst hsm
  unfold srcSt at hk ⊢
  rw [push hd h0] at hk
  rw [pop hd h0]
  rw [show srcRes (F := F) c d = iprop(cred (tallyAt (sendCell c d) () N) ∗ atPos ET (sendCell c d) 0 ∅ 0) from rfl]
  iintro ⟨#HR, ⟨⟨Hc, Hat⟩, HS⟩, HD, HO, HF⟩
  unfold clear
  icases HO with ⟨%W, HO⟩
  iapply (Rounds.wp_wait_rest_token Variants.none ET (talk X) (tc c) none (κ := κ (sendCell c d))
      (wpE_waitDma2_eq Variants.none (tc c) none Set.univ) (Set.mem_univ _) () (O := 0) (W := W) (R := 0) (m := 0) (T := ∅)
      (by rw [Nat.zero_add, expect_send]; exact hN)) $$ [Hc HO Hat]
  · isplitr; · iapply (recs_send X κ c d); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send X c d)) $$ Hpay
  iapply hk
  isplitr; · iexact HR
  isplitl [HS]; · iexact HS
  isplitl [Hp Hat HD]
  · isplitr [HD]
    · unfold srcDone; isplitl [Hp] <;> iassumption
    · iexact HD
  isplitl [HO]
  · unfold clear; iexists _; iexact HO
  · iexact HF

end Cert.Talk
-- ==== Proof.Chunk.lean ====
/-
  One chunk of a quadrant: the device's own rows, or a block that landed, put as columns `256 i ..` of the
  concatenated operand. `catV X c q` is the operand of quadrant `q` in whole.
-/
module

public import proofs.«01_k».proof.Proof.Steps

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Xs F) (κ : GSem nD τ sig → ℕ)

/-- A block of rows as the operand holds it. -/
def toBf (v : Vec F S256x256 .i8) : FVec F S256x256 .bf16 :=
  shapeCast S256x256 (sitofp .bf16 (v : IVec S256x256 8) : FVec F S256x256 .bf16) shapeCasts_S256x256_S256x256

theorem pay1_eq (v : Vec F S256x256 .i8) : k0_pay1 v = toBf v := by
  unfold k0_pay1 toBf
  have h : (shapeCast S256x256 v shapeCasts_S256x256_S256x256 : IVec S256x256 8) = v :=
    funext fun j => congrArg v (Shape.reshapeEquiv_self _ j)
  simp only [h]
theorem pay3_eq (v : Vec F S256x256 .i8) : k0_pay3 v = toBf v := pay1_eq v
theorem pay9_eq (v : Vec F S256x256 .i8) : k0_pay9 v = toBf v := pay1_eq v
theorem pay11_eq (v : Vec F S256x256 .i8) : k0_pay11 v = toBf v := pay1_eq v
theorem pay2_eq (v : Vec F S1x256x256 .i8) : k0_pay2 v = toBf (shapeCast S256x256 v shapeCasts_S1x256x256_S256x256) := rfl
theorem pay4_eq (v : Vec F S1x256x256 .i8) : k0_pay4 v = toBf (shapeCast S256x256 v shapeCasts_S1x256x256_S256x256) := rfl
theorem pay10_eq (v : Vec F S1x256x256 .i8) : k0_pay10 v = toBf (shapeCast S256x256 v shapeCasts_S1x256x256_S256x256) := rfl
theorem pay12_eq (v : Vec F S1x256x256 .i8) : k0_pay12 v = toBf (shapeCast S256x256 v shapeCasts_S1x256x256_S256x256) := rfl

/-- The chunk number `i` of quadrant `q`, and the distance to `c` from it. -/
def chunk (q i : Fin 4) : Fin 16 := ⟨4 * q.val + i.val, by omega⟩
def dd (c : Dev nD) (q i : Fin 4) : Fin 16 := (c : Fin 16) - chunk q i

theorem sub_z (c : Fin 16) : c - 0 = c := by revert c; decide

theorem sub_dd (c : Dev nD) (q i : Fin 4) : (c : Fin 16) - dd c q i = chunk q i := by unfold dd; revert c q i; decide

abbrev catM : Memref sig .tc .vmem S256x1024 .bf16 := Memref.whole cc0_scratch1

/-- The operand of quadrant `q` on device `c`. -/
def catV (c : Dev nD) (q : Fin 4) : Vec F S256x1024 .bf16 := fun j =>
  toBf (rowsOf (X (chunk q ⟨(j 1).val / 256, Nat.div_lt_of_lt_mul (j 1).isLt⟩)) c)
    (fun a => match a with | 0 => j 0 | 1 => (⟨(j 1).val % 256, Nat.mod_lt _ (by decide)⟩ : Fin 256))

/-- The operand's buffer, its first `n` chunks in place. -/
def catPre (c : Dev nD) (q : Fin 4) (n : ℕ) : sProp 𝕄 :=
  iprop(∃ g : Vec F S256x1024 .bf16, ⌜∀ j, (j 1).val < n * 256 → g j = catV X c q j⌝ ∗ (catM.view.loc (tc c) ↦{fullShare} g))

theorem catPre_full (c : Dev nD) (q : Fin 4) : catPre X c q 4 ⊢ (catM.view.loc (tc c) ↦{fullShare} (catV X c q)) := by
  unfold catPre
  iintro ⟨%g, %hg, H⟩
  rw [show g = catV X c q from funext fun j => hg j (j 1).isLt]
  iexact H

theorem catPre_any (c : Dev nD) (q : Fin 4) (g : Vec F S256x1024 .bf16) : (catM.view.loc (tc c) ↦{fullShare} g) ⊢ catPre X c q 0 := by
  unfold catPre
  iintro H
  iexists g
  isplitr
  · ipureintro; intro j h; exact absurd h (by omega)
  · iexact H

/-- One more chunk in place. -/
theorem cat_step (c : Dev nD) (q i : Fin 4) {oa : Fin 2 → ℕ} (hoa : oa = ![0, i.val * 256]) (inb : ∀ a, oa a + S256x256.size a ≤ S256x1024.size a)
    (g : Vec F S256x1024 .bf16) (hg : ∀ j, (j 1).val < i.val * 256 → g j = catV X c q j) (w : FVec F S256x256 .bf16)
    (hw : w = toBf (rowsOf (X (chunk q i)) c)) (j : S256x1024.Idx) (hj : (j 1).val < (i.val + 1) * 256) :
    (catM.access (Rect.unit (s := S256x1024) oa S256x256.size inb)).write (Elt F) g w Finset.univ j = catV X c q j := by
  subst hoa hw
  by_cases h : (j 1).val < i.val * 256
  · rw [View.write_of_not_mem, hg j h]
    rw [View.setOn_univ]
    intro hm
    rw [View.set_slice] at hm
    obtain ⟨y, hy, hyj⟩ := Finset.mem_map.mp hm
    have hyj : y = j := hyj
    subst hyj
    have := (Rect.mem_set_unit.mp hy) 1
    simp at this
    omega
  · have hdiv : (j 1).val / 256 = i.val := by omega
    set y : S256x256.Idx := fun a => match a with | 0 => j 0 | 1 => (⟨(j 1).val % 256, Nat.mod_lt _ (by decide)⟩ : Fin 256) with hy
    have hemb : (catM.access (Rect.unit (s := S256x1024) ![0, i.val * 256] S256x256.size inb)).emb y = j := by
      funext a
      apply Fin.ext
      show (![0, i.val * 256] : Fin 2 → ℕ) a + 1 * (y a).val = (j a).val
      match a with
      | 0 => show 0 + 1 * (j 0).val = (j 0).val; omega
      | 1 => show i.val * 256 + 1 * ((j 1).val % 256) = (j 1).val; omega
    have hwr := View.write_emb_of_mem (v := catM.access (Rect.unit (s := S256x1024) ![0, i.val * 256] S256x256.size inb)) (Val := Elt F) g
      (toBf (rowsOf (X (chunk q i)) c)) (M := Finset.univ) (Finset.mem_univ y)
    rw [hemb] at hwr
    rw [hwr]
    show toBf (rowsOf (X (chunk q i)) c) y = catV X c q j
    unfold catV
    have : (⟨(j 1).val / 256, Nat.div_lt_of_lt_mul (j 1).isLt⟩ : Fin 4) = i := Fin.ext hdiv
    rw [this]

theorem credit_slot {sl : Memref sig .tc .vmem S256x256 .i8} : sl.view.dmaCredit = N := rfl

/-- The slot `d` as the load of it addresses it. -/
abbrev slotR (d : Fin 16) : Rect S16x256x256 := Rect.unit (s := S16x256x256) ![d.val, 0, 0] S1x256x256.size (inb_slot d)

theorem slot_set (d : Fin 16) : ((slotM d).view.set : Finset cc0_scratch0.ty.Idx) = (commM.access (slotR d)).set := View.set_reshape _ _

theorem slotFull_access (c : Dev nD) (d : Fin 16) :
    slotFull X c d ⊢ iprop(∃ f, ⌜(slotM d).view.read (Elt F) f = rowsOf (X (c - d)) c⌝ ∗ ((commM.access (slotR d)).loc (tc c) ↦[(commM.access (slotR d)).set]{fullShare} f)) := by
  rw [← slot_set]; exact BI.Entails.refl _
theorem slotFull_of_access (c : Dev nD) (d : Fin 16) :
    iprop(∃ f, ⌜(slotM d).view.read (Elt F) f = rowsOf (X (c - d)) c⌝ ∗ ((commM.access (slotR d)).loc (tc c) ↦[(commM.access (slotR d)).set]{fullShare} f)) ⊢ slotFull X c d := by
  rw [← slot_set]; exact BI.Entails.refl _

/-- The device in its run of chunks: the operand's first `n` chunks in place, `S` the distances not landed. -/
def chunkSt (c : Dev nD) (q : Fin 4) (n : ℕ) (S : Finset (Fin 16)) (R : sProp 𝕄) : sProp 𝕄 :=
  iprop(recs X κ ∗ rowsPt X c c ∗ catPre X c q n ∗ bigSep (S.erase 0) (rcvRes c) ∗ bigSep (Sᶜ.erase 0) (rcvDone X c) ∗ clear c ∗ R)

/-- The own branch of a chunk has been passed. -/
def ownSt (c : Dev nD) (q i : Fin 4) (S : Finset (Fin 16)) (R : sProp 𝕄) : sProp 𝕄 :=
  if dd c q i = 0 then chunkSt X κ c q (i.val + 1) (S.erase (dd c q i)) R else chunkSt X κ c q i.val S R

/-- The branch of a chunk that is the device's own. -/
theorem wp_own (c : Dev nD) (q i : Fin 4) {S : Finset (Fin 16)}
    {cA : BitVec 1} (hcA : cA = 1#1 ↔ dd c q i = 0)
    {ox : Fin 2 → ℕ} {hx : ∀ a, ox a + S256x256.size a ≤ S4096x256.size a} (hox : ox = ![c.val * 256, 0])
    {oa : Fin 2 → ℕ} {ha : ∀ a, oa a + S256x256.size a ≤ S256x1024.size a} (hoa : oa = ![0, i.val * 256])
    {pA : Vec F S256x256 .i8 → FVec F S256x256 .bf16} (hpA : ∀ v, pA v = toBf v)
    {h1 : xM.view.LoadsAt (Rect.unit (s := S4096x256) ox S256x256.size hx).toLoadRect}
    {h2 : catM.view.LoadsAt (Rect.unit (s := S256x1024) oa S256x256.size ha).toLoadRect}
    {h3 : (catM.access (Rect.unit (s := S256x1024) oa S256x256.size ha)).Stores Finset.univ}
    {h3' : (Finset.univ : Finset (Rect.unit (s := S256x1024) oa S256x256.size ha).shape.Idx) = Finset.univ ∨ ∀ a, (Rect.unit (s := S256x1024) oa S256x256.size ha).stride a = 1}
    {R : sProp 𝕄} {α : Type} {J : Prog (TpuEff nD τ sig (Elt F) Λ₀ .tc) α} {Q : α → sProp 𝕄}
    (hJ : ownSt X κ c q i S R ⊢ WP c J Q) :
    chunkSt X κ c q i.val S R ⊢ WP c (if cA = 1#1 then
              .op (.load xM (Rect.unit (s := S4096x256) ox S256x256.size hx).toLoadRect h1) fun v66 =>
              .op (.load catM (Rect.unit (s := S256x1024) oa S256x256.size ha).toLoadRect h2) fun _ =>
              .op (.store catM (Rect.unit (s := S256x1024) oa S256x256.size ha) (pA v66) Finset.univ h3 h3') fun _ => J
            else J) Q := by
  subst hox
  unfold ownSt at hJ
  by_cases h0 : dd c q i = 0
  · rw [if_pos (hcA.mpr h0)]
    rw [if_pos h0, h0] at hJ
    unfold chunkSt catPre at hJ ⊢
    rw [pop_zero, push_zero] at hJ
    iintro ⟨#HR, Hrows, ⟨%g, %hg, Hcat⟩, HS, HD, HO, HF⟩
    iapply (wp_load_rect Variants.none (tc c) none Set.univ (m := xM) (r := Rect.unit (s := S4096x256) ![c.val * 256, 0] S256x256.size (inb_rows c)) (q := fullShare) (f := X c) (Finset.Subset.refl _)) $$ [Hrows]
    · iexact Hrows
    iintro Hrows
    iapply (wp_load_rect Variants.none (tc c) none Set.univ (m := catM) (S := Finset.univ) (q := fullShare) (f := g) (Finset.subset_univ _)) $$ [Hcat]
    · iexact Hcat
    iintro Hcat
    iapply (wp_store Variants.none (tc c) none Set.univ (m := catM) (S := Finset.univ) (f := g) (Finset.subset_univ _)) $$ [Hcat]
    · iexact Hcat
    iintro Hcat
    iapply hJ
    isplitr; · iexact HR
    isplitl [Hrows]; · iexact Hrows
    isplitl [Hcat]
    · iexists _
      isplitr [Hcat]
      rotate_left
      · iexact Hcat
      · ipureintro
        refine cat_step X c q i hoa ha g hg _ ?_
        rw [hpA]
        congr 1
        have : chunk q i = c := by rw [← sub_dd c q i, h0]; exact sub_z c
        rw [this]
    isplitl [HS]; · iexact HS
    isplitl [HD]; · iexact HD
    isplitl [HO] <;> iassumption
  · rw [if_neg (fun h => h0 (hcA.mp h))]
    rw [if_neg h0] at hJ
    exact hJ

/-- The branch of a chunk that landed. -/
theorem wp_land (c : Dev nD) (q i : Fin 4) {S : Finset (Fin 16)} (hd : dd c q i ∈ S)
    {cB : BitVec 1} (hcB : cB = 1#1 ↔ dd c q i ≠ 0)
    {oa : Fin 2 → ℕ} {ha : ∀ a, oa a + S256x256.size a ≤ S256x1024.size a} (hoa : oa = ![0, i.val * 256])
    {os : Fin 1 → ℕ} {hs : cB = 1#1 → ∀ a, os a + S1.size a ≤ S16.size a} (hos : os = ![(dd c q i).val])
    {oc : Fin 3 → ℕ} {hc : cB = 1#1 → ∀ a, oc a + S1x256x256.size a ≤ S16x256x256.size a} (hoc : oc = ![(dd c q i).val, 0, 0])
    {ol : Fin 3 → ℕ} {hl : cB = 1#1 → ∀ a, ol a + S1x256x256.size a ≤ S16x256x256.size a} (hol : ol = ![(dd c q i).val, 0, 0])
    {pB : Vec F S1x256x256 .i8 → FVec F S256x256 .bf16} (hpB : ∀ v, pB v = toBf (shapeCast S256x256 v shapeCasts_S1x256x256_S256x256))
    {h2 : catM.view.LoadsAt (Rect.unit (s := S256x1024) oa S256x256.size ha).toLoadRect}
    {h3 : (catM.access (Rect.unit (s := S256x1024) oa S256x256.size ha)).Stores Finset.univ}
    {h3' : (Finset.univ : Finset (Rect.unit (s := S256x1024) oa S256x256.size ha).shape.Idx) = Finset.univ ∨ ∀ a, (Rect.unit (s := S256x1024) oa S256x256.size ha).stride a = 1}
    {srcw : Memref sig .tc .vmem S256x256 .i8} {h4 : cB = 1#1 → srcw.view.WordExact}
    {h5 : ∀ h : cB = 1#1, ((commM.slice (Rect.unit (s := S16x256x256) oc S1x256x256.size (hc h)) (fun _ => rfl)).squeeze S256x256 squeezes_S1x256x256_S256x256).view.WordExact}
    {h6 : ∀ h : cB = 1#1, commM.view.LoadsAt (Rect.unit (s := S16x256x256) ol S1x256x256.size (hl h)).toLoadRect}
    {R : sProp 𝕄} {α : Type} {J : Prog (TpuEff nD τ sig (Elt F) Λ₀ .tc) α} {Q : α → sProp 𝕄}
    (hJ : chunkSt X κ c q (i.val + 1) (S.erase (dd c q i)) R ⊢ WP c J Q) :
    ownSt X κ c q i S R ⊢ WP c (if h : cB = 1#1 then
              .op (.waitDma2 ((cc0_scratch4.slice (Rect.unit (s := S16) os S1.size (hs h))).squeeze S_ squeezes_S1_S_).sem srcw
                ((commM.slice (Rect.unit (s := S16x256x256) oc S1x256x256.size (hc h)) (fun _ => rfl)).squeeze S256x256 squeezes_S1x256x256_S256x256) (h4 h) (h5 h)) fun _ =>
              .op (.load commM (Rect.unit (s := S16x256x256) ol S1x256x256.size (hl h)).toLoadRect (h6 h)) fun v72 =>
              .op (.load catM (Rect.unit (s := S256x1024) oa S256x256.size ha).toLoadRect h2) fun _ =>
              .op (.store catM (Rect.unit (s := S256x1024) oa S256x256.size ha) (pB v72) Finset.univ h3 h3') fun _ => J
            else J) Q := by
  subst hos hoc hol
  unfold ownSt
  by_cases h0 : dd c q i = 0
  · rw [dif_neg (fun h => (hcB.mp h) h0), if_pos h0]
    exact hJ
  · rw [dif_pos (hcB.mpr h0), if_neg h0]
    unfold chunkSt catPre at hJ ⊢
    rw [push hd h0] at hJ
    rw [pop hd h0]
    rw [show rcvRes (F := F) c (dd c q i) = iprop(cred (tallyAt (recvCell c (dd c q i)) () N) ∗ atPos ET (recvCell c (dd c q i)) 0 ∅ 0) from rfl]
    iintro ⟨#HR, Hrows, ⟨%g, %hg, Hcat⟩, ⟨⟨Hc, Hat⟩, HS⟩, HD, HO, HF⟩
    unfold clear
    icases HO with ⟨%W, HO⟩
    iapply (Rounds.wp_wait_rest_token Variants.none ET (talk X) (tc c) none (κ := κ (recvCell c (dd c q i))) (sm := .dma (recvS (dd c q i)))
        (wpE_waitDma2_eq Variants.none (tc c) none Set.univ) (Set.mem_univ _) () (O := 0) (W := W) (R := 0) (m := 0) (T := ∅)
        (by rw [Nat.zero_add, expect_recv])) $$ [Hc HO Hat]
    · isplitr; · iapply (recs_recv X κ c (dd c q i)); iexact HR
      isplitl [Hc]; · iexact Hc
      isplitl [HO]; · iexact HO
      isplitr; · rw [MayWait_zero]; iempintro
      iexact Hat
    iintro ⟨HO, Hat, -, Hpay⟩
    ihave Hp := (Entails.of_eq (rest_recv X c (dd c q i))) $$ Hpay
    ihave Hp := (slotFull_access X c (dd c q i)) $$ Hp
    icases Hp with ⟨%f, %hf, Hslot⟩
    iapply (wp_load_rect Variants.none (tc c) none Set.univ (m := commM) (r := slotR (dd c q i)) (q := fullShare) (f := f) (Finset.Subset.refl _)) $$ [Hslot]
    · iexact Hslot
    iintro Hslot
    iapply (wp_load_rect Variants.none (tc c) none Set.univ (m := catM) (S := Finset.univ) (q := fullShare) (f := g) (Finset.subset_univ _)) $$ [Hcat]
    · iexact Hcat
    iintro Hcat
    iapply (wp_store Variants.none (tc c) none Set.univ (m := catM) (S := Finset.univ) (f := g) (Finset.subset_univ _)) $$ [Hcat]
    · iexact Hcat
    iintro Hcat
    iapply hJ
    isplitr; · iexact HR
    isplitl [Hrows]; · iexact Hrows
    isplitl [Hcat]
    · iexists _
      isplitr [Hcat]
      rotate_left
      · iexact Hcat
      · ipureintro
        refine cat_step X c q i hoa ha g hg _ ?_
        rw [hpB]
        congr 1
        rw [sub_dd] at hf
        rw [← hf]
        rfl
    isplitl [HS]; · iexact HS
    isplitl [Hslot Hat HD]
    · isplitr [HD]
      · unfold rcvDone
        isplitl [Hslot]
        · iapply (slotFull_of_access X c (dd c q i))
          iexists f
          isplitr
          · ipureintro; exact hf
          · iexact Hslot
        · iexact Hat
      · iexact HD
    isplitl [HO]
    · unfold clear; iexists _; iexact HO
    · iexact HF

end Cert.Talk
-- ==== Proof.Facts.lean ====
/-
  The kernel's arithmetic on its place in the mesh, evaluated: targets of the signals and copies, the slots, the
  row blocks, and which branch runs, at every device and quadrant.
-/
module

public import proofs.«01_k».proof.Proof.Chunk

@[expose] public section

namespace Cert.Talk

open Cert.KernelIdeal Cert.KernelIdeal.Gen
open Idealize.ShloMosaic Idealize.SL

/-- The distance of the kernel's copy number `n`. -/
def sd (c : Dev nD) (n : Fin 16) : Fin 16 :=
  (⟨(4 * (c.val / 4) + ![0, 1, 2, 3, 4, 5, 6, 7, 12, 13, 14, 15, 8, 9, 10, 11] n) % 16, Nat.mod_lt _ (by decide)⟩ : Fin 16) - c

/-- The quadrant of point `s`, and its word in the table. -/
def qt (c : Dev nD) (s : Fin 4) : Fin 4 := ⟨(c.val / 4 + ![0, 3, 1, 2] s) % 4, Nat.mod_lt _ (by decide)⟩
def qw (q : Fin 4) : BitVec 32 := BitVec.ofNat 32 q.val

theorem dev1 (c : Dev nD) (h : k0_dev1 c < nD) : (⟨k0_dev1 c, h⟩ : Dev nD) = c + 1 := Fin.ext (by revert c; decide)
theorem dev2 (c : Dev nD) (h : k0_dev2 c < nD) : (⟨k0_dev2 c, h⟩ : Dev nD) = c + 2 := Fin.ext (by revert c; decide)
theorem dev3 (c : Dev nD) (h : k0_dev3 c < nD) : (⟨k0_dev3 c, h⟩ : Dev nD) = c + 3 := Fin.ext (by revert c; decide)
theorem dev4 (c : Dev nD) (h : k0_dev4 c < nD) : (⟨k0_dev4 c, h⟩ : Dev nD) = c + 4 := Fin.ext (by revert c; decide)
theorem dev5 (c : Dev nD) (h : k0_dev5 c < nD) : (⟨k0_dev5 c, h⟩ : Dev nD) = c + 5 := Fin.ext (by revert c; decide)
theorem dev6 (c : Dev nD) (h : k0_dev6 c < nD) : (⟨k0_dev6 c, h⟩ : Dev nD) = c + 6 := Fin.ext (by revert c; decide)
theorem dev7 (c : Dev nD) (h : k0_dev7 c < nD) : (⟨k0_dev7 c, h⟩ : Dev nD) = c + 7 := Fin.ext (by revert c; decide)
theorem dev8 (c : Dev nD) (h : k0_dev8 c < nD) : (⟨k0_dev8 c, h⟩ : Dev nD) = c + 8 := Fin.ext (by revert c; decide)
theorem dev9 (c : Dev nD) (h : k0_dev9 c < nD) : (⟨k0_dev9 c, h⟩ : Dev nD) = c + 9 := Fin.ext (by revert c; decide)
theorem dev10 (c : Dev nD) (h : k0_dev10 c < nD) : (⟨k0_dev10 c, h⟩ : Dev nD) = c + 10 := Fin.ext (by revert c; decide)
theorem dev11 (c : Dev nD) (h : k0_dev11 c < nD) : (⟨k0_dev11 c, h⟩ : Dev nD) = c + 11 := Fin.ext (by revert c; decide)
theorem dev12 (c : Dev nD) (h : k0_dev12 c < nD) : (⟨k0_dev12 c, h⟩ : Dev nD) = c + 12 := Fin.ext (by revert c; decide)
theorem dev13 (c : Dev nD) (h : k0_dev13 c < nD) : (⟨k0_dev13 c, h⟩ : Dev nD) = c + 13 := Fin.ext (by revert c; decide)
theorem dev14 (c : Dev nD) (h : k0_dev14 c < nD) : (⟨k0_dev14 c, h⟩ : Dev nD) = c + 14 := Fin.ext (by revert c; decide)
theorem dev15 (c : Dev nD) (h : k0_dev15 c < nD) : (⟨k0_dev15 c, h⟩ : Dev nD) = c + 15 := Fin.ext (by revert c; decide)
theorem cond2 (c : Dev nD) : k0_cond2 c = 1#1 ↔ sd c 0 ≠ 0 := by revert c; decide
theorem off2 (c : Dev nD) : k0_off2 c = ![(sd c 0).val] := by revert c; decide
theorem off3 (c : Dev nD) : k0_off3 c = ![(sd c 0).val, 0, 0] := by revert c; decide
theorem off4 (c : Dev nD) : k0_off4 c = ![(c + sd c 0).val * 256, 0] := by revert c; decide
theorem dev16 (c : Dev nD) : k0_dev16 c = (c + sd c 0).val := by revert c; decide
theorem cond3 (c : Dev nD) : k0_cond3 c = 1#1 ↔ sd c 1 ≠ 0 := by revert c; decide
theorem off5 (c : Dev nD) : k0_off5 c = ![(sd c 1).val] := by revert c; decide
theorem off6 (c : Dev nD) : k0_off6 c = ![(sd c 1).val, 0, 0] := by revert c; decide
theorem off7 (c : Dev nD) : k0_off7 c = ![(c + sd c 1).val * 256, 0] := by revert c; decide
theorem dev17 (c : Dev nD) : k0_dev17 c = (c + sd c 1).val := by revert c; decide
theorem cond4 (c : Dev nD) : k0_cond4 c = 1#1 ↔ sd c 2 ≠ 0 := by revert c; decide
theorem off8 (c : Dev nD) : k0_off8 c = ![(sd c 2).val] := by revert c; decide
theorem off9 (c : Dev nD) : k0_off9 c = ![(sd c 2).val, 0, 0] := by revert c; decide
theorem off10 (c : Dev nD) : k0_off10 c = ![(c + sd c 2).val * 256, 0] := by revert c; decide
theorem dev18 (c : Dev nD) : k0_dev18 c = (c + sd c 2).val := by revert c; decide
theorem cond5 (c : Dev nD) : k0_cond5 c = 1#1 ↔ sd c 3 ≠ 0 := by revert c; decide
theorem off11 (c : Dev nD) : k0_off11 c = ![(sd c 3).val] := by revert c; decide
theorem off12 (c : Dev nD) : k0_off12 c = ![(sd c 3).val, 0, 0] := by revert c; decide
theorem off13 (c : Dev nD) : k0_off13 c = ![(c + sd c 3).val * 256, 0] := by revert c; decide
theorem dev19 (c : Dev nD) : k0_dev19 c = (c + sd c 3).val := by revert c; decide
theorem cond6 (c : Dev nD) : k0_cond6 c = 1#1 ↔ sd c 4 ≠ 0 := by revert c; decide
theorem off14 (c : Dev nD) : k0_off14 c = ![(sd c 4).val] := by revert c; decide
theorem off15 (c : Dev nD) : k0_off15 c = ![(sd c 4).val, 0, 0] := by revert c; decide
theorem off16 (c : Dev nD) : k0_off16 c = ![(c + sd c 4).val * 256, 0] := by revert c; decide
theorem dev20 (c : Dev nD) : k0_dev20 c = (c + sd c 4).val := by revert c; decide
theorem cond7 (c : Dev nD) : k0_cond7 c = 1#1 ↔ sd c 5 ≠ 0 := by revert c; decide
theorem off17 (c : Dev nD) : k0_off17 c = ![(sd c 5).val] := by revert c; decide
theorem off18 (c : Dev nD) : k0_off18 c = ![(sd c 5).val, 0, 0] := by revert c; decide
theorem off19 (c : Dev nD) : k0_off19 c = ![(c + sd c 5).val * 256, 0] := by revert c; decide
theorem dev21 (c : Dev nD) : k0_dev21 c = (c + sd c 5).val := by revert c; decide
theorem cond8 (c : Dev nD) : k0_cond8 c = 1#1 ↔ sd c 6 ≠ 0 := by revert c; decide
theorem off20 (c : Dev nD) : k0_off20 c = ![(sd c 6).val] := by revert c; decide
theorem off21 (c : Dev nD) : k0_off21 c = ![(sd c 6).val, 0, 0] := by revert c; decide
theorem off22 (c : Dev nD) : k0_off22 c = ![(c + sd c 6).val * 256, 0] := by revert c; decide
theorem dev22 (c : Dev nD) : k0_dev22 c = (c + sd c 6).val := by revert c; decide
theorem cond9 (c : Dev nD) : k0_cond9 c = 1#1 ↔ sd c 7 ≠ 0 := by revert c; decide
theorem off23 (c : Dev nD) : k0_off23 c = ![(sd c 7).val] := by revert c; decide
theorem off24 (c : Dev nD) : k0_off24 c = ![(sd c 7).val, 0, 0] := by revert c; decide
theorem off25 (c : Dev nD) : k0_off25 c = ![(c + sd c 7).val * 256, 0] := by revert c; decide
theorem dev23 (c : Dev nD) : k0_dev23 c = (c + sd c 7).val := by revert c; decide
theorem cond10 (c : Dev nD) : k0_cond10 c = 1#1 ↔ sd c 8 ≠ 0 := by revert c; decide
theorem off26 (c : Dev nD) : k0_off26 c = ![(sd c 8).val] := by revert c; decide
theorem off27 (c : Dev nD) : k0_off27 c = ![(sd c 8).val, 0, 0] := by revert c; decide
theorem off28 (c : Dev nD) : k0_off28 c = ![(c + sd c 8).val * 256, 0] := by revert c; decide
theorem dev24 (c : Dev nD) : k0_dev24 c = (c + sd c 8).val := by revert c; decide
theorem cond11 (c : Dev nD) : k0_cond11 c = 1#1 ↔ sd c 9 ≠ 0 := by revert c; decide
theorem off29 (c : Dev nD) : k0_off29 c = ![(sd c 9).val] := by revert c; decide
theorem off30 (c : Dev nD) : k0_off30 c = ![(sd c 9).val, 0, 0] := by revert c; decide
theorem off31 (c : Dev nD) : k0_off31 c = ![(c + sd c 9).val * 256, 0] := by revert c; decide
theorem dev25 (c : Dev nD) : k0_dev25 c = (c + sd c 9).val := by revert c; decide
theorem cond12 (c : Dev nD) : k0_cond12 c = 1#1 ↔ sd c 10 ≠ 0 := by revert c; decide
theorem off32 (c : Dev nD) : k0_off32 c = ![(sd c 10).val] := by revert c; decide
theorem off33 (c : Dev nD) : k0_off33 c = ![(sd c 10).val, 0, 0] := by revert c; decide
theorem off34 (c : Dev nD) : k0_off34 c = ![(c + sd c 10).val * 256, 0] := by revert c; decide
theorem dev26 (c : Dev nD) : k0_dev26 c = (c + sd c 10).val := by revert c; decide
theorem cond13 (c : Dev nD) : k0_cond13 c = 1#1 ↔ sd c 11 ≠ 0 := by revert c; decide
theorem off35 (c : Dev nD) : k0_off35 c = ![(sd c 11).val] := by revert c; decide
theorem off36 (c : Dev nD) : k0_off36 c = ![(sd c 11).val, 0, 0] := by revert c; decide
theorem off37 (c : Dev nD) : k0_off37 c = ![(c + sd c 11).val * 256, 0] := by revert c; decide
theorem dev27 (c : Dev nD) : k0_dev27 c = (c + sd c 11).val := by revert c; decide
theorem cond14 (c : Dev nD) : k0_cond14 c = 1#1 ↔ sd c 12 ≠ 0 := by revert c; decide
theorem off38 (c : Dev nD) : k0_off38 c = ![(sd c 12).val] := by revert c; decide
theorem off39 (c : Dev nD) : k0_off39 c = ![(sd c 12).val, 0, 0] := by revert c; decide
theorem off40 (c : Dev nD) : k0_off40 c = ![(c + sd c 12).val * 256, 0] := by revert c; decide
theorem dev28 (c : Dev nD) : k0_dev28 c = (c + sd c 12).val := by revert c; decide
theorem cond15 (c : Dev nD) : k0_cond15 c = 1#1 ↔ sd c 13 ≠ 0 := by revert c; decide
theorem off41 (c : Dev nD) : k0_off41 c = ![(sd c 13).val] := by revert c; decide
theorem off42 (c : Dev nD) : k0_off42 c = ![(sd c 13).val, 0, 0] := by revert c; decide
theorem off43 (c : Dev nD) : k0_off43 c = ![(c + sd c 13).val * 256, 0] := by revert c; decide
theorem dev29 (c : Dev nD) : k0_dev29 c = (c + sd c 13).val := by revert c; decide
theorem cond16 (c : Dev nD) : k0_cond16 c = 1#1 ↔ sd c 14 ≠ 0 := by revert c; decide
theorem off44 (c : Dev nD) : k0_off44 c = ![(sd c 14).val] := by revert c; decide
theorem off45 (c : Dev nD) : k0_off45 c = ![(sd c 14).val, 0, 0] := by revert c; decide
theorem off46 (c : Dev nD) : k0_off46 c = ![(c + sd c 14).val * 256, 0] := by revert c; decide
theorem dev30 (c : Dev nD) : k0_dev30 c = (c + sd c 14).val := by revert c; decide
theorem cond17 (c : Dev nD) : k0_cond17 c = 1#1 ↔ sd c 15 ≠ 0 := by revert c; decide
theorem off47 (c : Dev nD) : k0_off47 c = ![(sd c 15).val] := by revert c; decide
theorem off48 (c : Dev nD) : k0_off48 c = ![(sd c 15).val, 0, 0] := by revert c; decide
theorem off49 (c : Dev nD) : k0_off49 c = ![(c + sd c 15).val * 256, 0] := by revert c; decide
theorem dev31 (c : Dev nD) : k0_dev31 c = (c + sd c 15).val := by revert c; decide
theorem off51 (c : Dev nD) : k0_off51 c = ![c.val * 256, 0] := by revert c; decide
theorem own0 (c : Dev nD) (q : Fin 4) : Scalar.cmpi .ne (Scalar.extui (Scalar.cmpi .eq (Scalar.addi (Scalar.muli (qw q) 4#32) 0#32) (Scalar.remsi (Scalar.divsi (Dev.word c) 1#32) 16#32)) : BitVec 32) 0#32 = 1#1 ↔ dd c q 0 = 0 := by revert c q; decide
theorem cond19 (c : Dev nD) (q : Fin 4) : k0_cond19 c (qw q) = 1#1 ↔ dd c q 0 ≠ 0 := by revert c q; decide
theorem off52 (c : Dev nD) (q : Fin 4) : k0_off52 c (qw q) = ![(dd c q 0).val] := by revert c q; decide
theorem off53 (c : Dev nD) (q : Fin 4) : k0_off53 c (qw q) = ![(dd c q 0).val, 0, 0] := by revert c q; decide
theorem off54 (c : Dev nD) (q : Fin 4) : k0_off54 c (qw q) = ![(dd c q 0).val, 0, 0] := by revert c q; decide
theorem off55 (c : Dev nD) : k0_off55 c = ![c.val * 256, 0] := by revert c; decide
theorem own1 (c : Dev nD) (q : Fin 4) : Scalar.cmpi .ne (Scalar.extui (Scalar.cmpi .eq (Scalar.addi (Scalar.muli (qw q) 4#32) 1#32) (Scalar.remsi (Scalar.divsi (Dev.word c) 1#32) 16#32)) : BitVec 32) 0#32 = 1#1 ↔ dd c q 1 = 0 := by revert c q; decide
theorem cond21 (c : Dev nD) (q : Fin 4) : k0_cond21 c (qw q) = 1#1 ↔ dd c q 1 ≠ 0 := by revert c q; decide
theorem off56 (c : Dev nD) (q : Fin 4) : k0_off56 c (qw q) = ![(dd c q 1).val] := by revert c q; decide
theorem off57 (c : Dev nD) (q : Fin 4) : k0_off57 c (qw q) = ![(dd c q 1).val, 0, 0] := by revert c q; decide
theorem off58 (c : Dev nD) (q : Fin 4) : k0_off58 c (qw q) = ![(dd c q 1).val, 0, 0] := by revert c q; decide
theorem off59 (c : Dev nD) : k0_off59 c = ![c.val * 256, 0] := by revert c; decide
theorem own2 (c : Dev nD) (q : Fin 4) : Scalar.cmpi .ne (Scalar.extui (Scalar.cmpi .eq (Scalar.addi (Scalar.muli (qw q) 4#32) 2#32) (Scalar.remsi (Scalar.divsi (Dev.word c) 1#32) 16#32)) : BitVec 32) 0#32 = 1#1 ↔ dd c q 2 = 0 := by revert c q; decide
theorem cond23 (c : Dev nD) (q : Fin 4) : k0_cond23 c (qw q) = 1#1 ↔ dd c q 2 ≠ 0 := by revert c q; decide
theorem off60 (c : Dev nD) (q : Fin 4) : k0_off60 c (qw q) = ![(dd c q 2).val] := by revert c q; decide
theorem off61 (c : Dev nD) (q : Fin 4) : k0_off61 c (qw q) = ![(dd c q 2).val, 0, 0] := by revert c q; decide
theorem off62 (c : Dev nD) (q : Fin 4) : k0_off62 c (qw q) = ![(dd c q 2).val, 0, 0] := by revert c q; decide
theorem off63 (c : Dev nD) : k0_off63 c = ![c.val * 256, 0] := by revert c; decide
theorem own3 (c : Dev nD) (q : Fin 4) : Scalar.cmpi .ne (Scalar.extui (Scalar.cmpi .eq (Scalar.addi (Scalar.muli (qw q) 4#32) 3#32) (Scalar.remsi (Scalar.divsi (Dev.word c) 1#32) 16#32)) : BitVec 32) 0#32 = 1#1 ↔ dd c q 3 = 0 := by revert c q; decide
theorem cond25 (c : Dev nD) (q : Fin 4) : k0_cond25 c (qw q) = 1#1 ↔ dd c q 3 ≠ 0 := by revert c q; decide
theorem off64 (c : Dev nD) (q : Fin 4) : k0_off64 c (qw q) = ![(dd c q 3).val] := by revert c q; decide
theorem off65 (c : Dev nD) (q : Fin 4) : k0_off65 c (qw q) = ![(dd c q 3).val, 0, 0] := by revert c q; decide
theorem off66 (c : Dev nD) (q : Fin 4) : k0_off66 c (qw q) = ![(dd c q 3).val, 0, 0] := by revert c q; decide
theorem chk (c : Dev nD) (q : Fin 4) : k0_chk1 c (qw q) := by revert c q; decide

/-- The distances not served yet before point `t`. -/
def left (c : Dev nD) (q : Fin 4) (S : Finset (Fin 16)) : Finset (Fin 16) :=
  (((S.erase (dd c q 0)).erase (dd c q 1)).erase (dd c q 2)).erase (dd c q 3)

theorem dd_ne (c : Dev nD) (q q' i j : Fin 4) (h : (q, i) ≠ (q', j)) : dd c q i ≠ dd c q' j := by
  revert c q q' i j; decide

end Cert.Talk
-- ==== Proof.Parts.lean ====
/-
  The talk of point 0: the fifteen signals, the barrier wait, the copies; and the waits for their sources at the
  last point. Each printed part of the body is run once, at any device.
-/
module

public import proofs.«01_k».proof.Proof.Facts

@[expose] public section

noncomputable section

namespace Cert.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Xs F) (κ : GSem nD τ sig → ℕ)

/-! ## The sets of distances, step by step -/

/-- The distances not signalled after the first `n` signals. -/
def unsig : ℕ → Finset (Fin 16)
  | 0 => Finset.univ
  | n + 1 => (unsig n).erase (Fin.ofNat 16 (n + 1))

/-- The distances not served after the first `n` copies of device `c`. -/
def unsent (c : Dev nD) : ℕ → Finset (Fin 16)
  | 0 => Finset.univ
  | n + 1 => (unsent c n).erase (sd c (Fin.ofNat 16 n))

theorem unsig_end : (unsig 15).erase 0 = ∅ := by decide
theorem unsent_end (c : Dev nD) : (unsent c 16).erase 0 = ∅ := by revert c; decide

section Parts

variable (c : Dev nD) (i : grid0.Coords)
  {h1 : (Memref.whole main_v8 : Memref sig .tc .smem S4 .i32).IsWhole} {h2 : xM.IsWhole}
  {a3 : Memref sig .tc .vmem S1024x8192 .i8} {h3 : a3.IsWhole}
  {a4 : Memref sig .tc .smem S1 .f32} {h4 : a4.IsWhole} {a5 : Memref sig .tc .smem S1 .f32} {h5 : a5.IsWhole}
  {a6 : Memref sig .tc .vmem S256x8192 .f32} {h6 : a6.IsWhole} {h7 : commM.IsWhole} {h8 : catM.IsWhole}
  {a9 : Memref sig .tc .vmem S256x8192 .f32} {h9 : a9.IsWhole}

theorem part1_wp (v2 : BitVec 32) (h : k0_cond1 i = 1#1) {O' : CellTallies nD τ sig Unit} {W : Waits sig Unit} {R : sProp 𝕄} :
    sigSt X κ c (unsig 0) O' W R ⊢ WP c (k0_part1 (F := F) i (Memref.whole main_v8) h1 xM h2 a3 h3 a4 h4 a5 h5 a6 h6 commM h7 catM h8 a9 h9 cc0_scratch3 cc0_scratch4 c v2 h) fun r =>
      iprop(⌜r.sem = barS⌝ ∗ sigSt X κ c (unsig 5) O' W R) := by
  rw [k0_part1_eq_skeleton]
  refine wp_sig X κ c 1 (by decide) (by decide) (dev1 c _) ?_
  refine wp_sig X κ c 2 (by decide) (by decide) (dev2 c _) ?_
  refine wp_sig X κ c 3 (by decide) (by decide) (dev3 c _) ?_
  refine wp_sig X κ c 4 (by decide) (by decide) (dev4 c _) ?_
  refine wp_sig X κ c 5 (by decide) (by decide) (dev5 c _) ?_
  refine wp_done ?_
  iintro H
  isplitr
  · ipureintro; rfl
  · iexact H

theorem part2_wp (v2 : BitVec 32) (h : k0_cond1 i = 1#1) {v64 : Sems sig S_} (hv : v64.sem = barS) {O' : CellTallies nD τ sig Unit} {W : Waits sig Unit} {R : sProp 𝕄} :
    sigSt X κ c (unsig 5) O' W R ⊢ WP c (k0_part2 (F := F) i (Memref.whole main_v8) h1 xM h2 a3 h3 a4 h4 a5 h5 a6 h6 commM h7 catM h8 a9 h9 cc0_scratch3 cc0_scratch4 c v2 h v64) fun _ =>
      sigSt X κ c (unsig 11) O' W R := by
  rw [k0_part2_eq_skeleton]
  unfold k0_part2_skel
  simp only [hv]
  refine wp_sig X κ c 6 (by decide) (by decide) (dev6 c _) ?_
  refine wp_sig X κ c 7 (by decide) (by decide) (dev7 c _) ?_
  refine wp_sig X κ c 8 (by decide) (by decide) (dev8 c _) ?_
  refine wp_sig X κ c 9 (by decide) (by decide) (dev9 c _) ?_
  refine wp_sig X κ c 10 (by decide) (by decide) (dev10 c _) ?_
  refine wp_sig X κ c 11 (by decide) (by decide) (dev11 c _) ?_
  exact wp_done (BI.Entails.refl _)

/-- The last signals and the wait for everyone's. -/
theorem part3_wp (v2 : BitVec 32) (h : k0_cond1 i = 1#1) {v64 : Sems sig S_} (hv : v64.sem = barS) {W : Waits sig Unit} {R : sProp 𝕄} :
    sigSt X κ c (unsig 11) (oweR c Finset.univ) W iprop(levAts L lv ∗ cred (tallyAt (barCell c) () 15) ∗ atPos ET (barCell c) 0 ∅ 0 ∗ R)
      ⊢ WP c (k0_part3 (F := F) i (Memref.whole main_v8) h1 xM h2 a3 h3 a4 h4 a5 h5 a6 h6 commM h7 catM h8 a9 h9 cc0_scratch3 cc0_scratch4 c v2 h v64) fun _ =>
        iprop(recs X κ ∗ opened c ∗ owes (tc c) (oweR c Finset.univ) (insert (SemLoc.reg barS, ()) W) ∗ atPos ET (barCell c) (0 + 1) ∅ 0
          ∗ bigSep (Finset.univ.erase 0) (barPay (F := F) c) ∗ R) := by
  rw [k0_part3_eq_skeleton]
  unfold k0_part3_skel
  simp only [hv]
  refine wp_sig X κ c 12 (by decide) (by decide) (dev12 c _) ?_
  refine wp_sig X κ c 13 (by decide) (by decide) (dev13 c _) ?_
  refine wp_sig X κ c 14 (by decide) (by decide) (dev14 c _) ?_
  refine wp_sig X κ c 15 (by decide) (by decide) (dev15 c _) ?_
  unfold sigSt
  rw [show oweB c (((((unsig 11).erase 12).erase 13).erase 14).erase 15) + oweR c Finset.univ = oweR c Finset.univ from by
    rw [show ((((unsig 11).erase 12).erase 13).erase 14).erase 15 = ({0} : Finset (Fin 16)) from by decide]; unfold oweB; simp]
  iintro ⟨#HR, #Hop, -, HO, #Hlev, Hc, Hat, HF⟩
  iapply (wp_barWait X κ c) $$ [HO Hc Hat]
  · isplitr; · iexact HR
    isplitr; · iexact Hlev
    isplitl [Hc]; · iexact Hc
    isplitl [HO] <;> iassumption
  iintro ⟨HO, Hat, Hp⟩
  unfold WP
  iapply (fupd_wp (Fr := frame) (wpE := wpE (defs₀ (F := F)) Variants.none (tc c) none))
  imodintro
  iapply (wp_done (F := F) (c := c) (BI.Entails.refl _))
  isplitr; · iexact HR
  isplitr; · iexact Hop
  isplitl [HO]; · iexact HO
  isplitl [Hat]; · iexact Hat
  isplitl [Hp] <;> iassumption

set_option maxHeartbeats 1000000 in
theorem part4_wp (v2 v142 : BitVec 32) (h : k0_cond1 i = 1#1) {W : Waits sig Unit} {R : sProp 𝕄} :
    copySt X κ c (unsent c 0) W R ⊢ WP c (k0_part4 (F := F) i (Memref.whole main_v8) h1 xM h2 a3 h3 a4 h4 a5 h5 a6 h6 commM h7 catM h8 a9 h9 cc0_scratch3 cc0_scratch4 c v2 h v142) fun _ => copySt X κ c (unsent c 4) W R := by
  rw [k0_part4_eq_skeleton]
  simp only [k0_part4_skel, Prog.lift, Prog.bind_op, Prog.bind_ret, Prog.pure_eq_ret]
  refine wp_copy X κ c (d := sd c 0) (by revert c; decide) (cd := k0_cond2 c) (cond2 c) (os := k0_off2 c) (hs := k0_off2_inb i c h) (off2 c)
    (oc := k0_off3 c) (hc := k0_off3_inb i c h) (off3 c) (ox := k0_off4 c) (hx := k0_off4_inb i c h) (off4 c)
    (hn := k0_dev16_lt i c h) (dev16 c) ?_
  refine wp_copy X κ c (d := sd c 1) (by revert c; decide) (cd := k0_cond3 c) (cond3 c) (os := k0_off5 c) (hs := k0_off5_inb i c h) (off5 c)
    (oc := k0_off6 c) (hc := k0_off6_inb i c h) (off6 c) (ox := k0_off7 c) (hx := k0_off7_inb i c h) (off7 c)
    (hn := k0_dev17_lt i c h) (dev17 c) ?_
  refine wp_copy X κ c (d := sd c 2) (by revert c; decide) (cd := k0_cond4 c) (cond4 c) (os := k0_off8 c) (hs := k0_off8_inb i c h) (off8 c)
    (oc := k0_off9 c) (hc := k0_off9_inb i c h) (off9 c) (ox := k0_off10 c) (hx := k0_off10_inb i c h) (off10 c)
    (hn := k0_dev18_lt i c h) (dev18 c) ?_
  refine wp_copy X κ c (d := sd c 3) (by revert c; decide) (cd := k0_cond5 c) (cond5 c) (os := k0_off11 c) (hs := k0_off11_inb i c h) (off11 c)
    (oc := k0_off12 c) (hc := k0_off12_inb i c h) (off12 c) (ox := k0_off13 c) (hx := k0_off13_inb i c h) (off13 c)
    (hn := k0_dev19_lt i c h) (dev19 c) ?_
  exact wp_done (BI.Entails.refl _)

set_option maxHeartbeats 1000000 in
theorem part5_wp (v2 v142 v176 : BitVec 32) (h : k0_cond1 i = 1#1) {W : Waits sig Unit} {R : sProp 𝕄} :
    copySt X κ c (unsent c 4) W R ⊢ WP c (k0_part5 (F := F) i (Memref.whole main_v8) h1 xM h2 a3 h3 a4 h4 a5 h5 a6 h6 commM h7 catM h8 a9 h9 cc0_scratch3 cc0_scratch4 c v2 h v142 v176) fun _ => copySt X κ c (unsent c 8) W R := by
  rw [k0_part5_eq_skeleton]
  simp only [k0_part5_skel, Prog.lift, Prog.bind_op, Prog.bind_ret, Prog.pure_eq_ret]
  refine wp_copy X κ c (d := sd c 4) (by revert c; decide) (cd := k0_cond6 c) (cond6 c) (os := k0_off14 c) (hs := k0_off14_inb i c h) (off14 c)
    (oc := k0_off15 c) (hc := k0_off15_inb i c h) (off15 c) (ox := k0_off16 c) (hx := k0_off16_inb i c h) (off16 c)
    (hn := k0_dev20_lt i c h) (dev20 c) ?_
  refine wp_copy X κ c (d := sd c 5) (by revert c; decide) (cd := k0_cond7 c) (cond7 c) (os := k0_off17 c) (hs := k0_off17_inb i c h) (off17 c)
    (oc := k0_off18 c) (hc := k0_off18_inb i c h) (off18 c) (ox := k0_off19 c) (hx := k0_off19_inb i c h) (off19 c)
    (hn := k0_dev21_lt i c h) (dev21 c) ?_
  refine wp_copy X κ c (d := sd c 6) (by revert c; decide) (cd := k0_cond8 c) (cond8 c) (os := k0_off20 c) (hs := k0_off20_inb i c h) (off20 c)
    (oc := k0_off21 c) (hc := k0_off21_inb i c h) (off21 c) (ox := k0_off22 c) (hx := k0_off22_inb i c h) (off22 c)
    (hn := k0_dev22_lt i c h) (dev22 c) ?_
  refine wp_copy X κ c (d := sd c 7) (by revert c; decide) (cd := k0_cond9 c) (cond9 c) (os := k0_off23 c) (hs := k0_off23_inb i c h) (off23 c)
    (oc := k0_off24 c) (hc := k0_off24_inb i c h) (off24 c) (ox := k0_off25 c) (hx := k0_off25_inb i c h) (off25 c)
    (hn := k0_dev23_lt i c h) (dev23 c) ?_
  exact wp_done (BI.Entails.refl _)

set_option maxHeartbeats 1000000 in
theorem part6_wp (v2 v142 v208 v210 w : BitVec 32) (h : k0_cond1 i = 1#1) {W : Waits sig Unit} {R : sProp 𝕄} :
    copySt X κ c (unsent c 8) W R ⊢ WP c (k0_part6 (F := F) i (Memref.whole main_v8) h1 xM h2 a3 h3 a4 h4 a5 h5 a6 h6 commM h7 catM h8 a9 h9 cc0_scratch3 cc0_scratch4 c v2 h v142 v208 v210 w) fun _ => copySt X κ c (unsent c 12) W R := by
  rw [k0_part6_eq_skeleton]
  simp only [k0_part6_skel, Prog.lift, Prog.bind_op, Prog.bind_ret, Prog.pure_eq_ret]
  refine wp_copy X κ c (d := sd c 8) (by revert c; decide) (cd := k0_cond10 c) (cond10 c) (os := k0_off26 c) (hs := k0_off26_inb i c h) (off26 c)
    (oc := k0_off27 c) (hc := k0_off27_inb i c h) (off27 c) (ox := k0_off28 c) (hx := k0_off28_inb i c h) (off28 c)
    (hn := k0_dev24_lt i c h) (dev24 c) ?_
  refine wp_copy X κ c (d := sd c 9) (by revert c; decide) (cd := k0_cond11 c) (cond11 c) (os := k0_off29 c) (hs := k0_off29_inb i c h) (off29 c)
    (oc := k0_off30 c) (hc := k0_off30_inb i c h) (off30 c) (ox := k0_off31 c) (hx := k0_off31_inb i c h) (off31 c)
    (hn := k0_dev25_lt i c h) (dev25 c) ?_
  refine wp_copy X κ c (d := sd c 10) (by revert c; decide) (cd := k0_cond12 c) (cond12 c) (os := k0_off32 c) (hs := k0_off32_inb i c h) (off32 c)
    (oc := k0_off33 c) (hc := k0_off33_inb i c h) (off33 c) (ox := k0_off34 c) (hx := k0_off34_inb i c h) (off34 c)
    (hn := k0_dev26_lt i c h) (dev26 c) ?_
  refine wp_copy X κ c (d := sd c 11) (by revert c; decide) (cd := k0_cond13 c) (cond13 c) (os := k0_off35 c) (hs := k0_off35_inb i c h) (off35 c)
    (oc := k0_off36 c) (hc := k0_off36_inb i c h) (off36 c) (ox := k0_off37 c) (hx := k0_off37_inb i c h) (off37 c)
    (hn := k0_dev27_lt i c h) (dev27 c) ?_
  exact wp_done (BI.Entails.refl _)

/-- The distances whose source is not waited for after the first `n` waits. -/
def unsrc : ℕ → Finset (Fin 16)
  | 0 => Finset.univ
  | n + 1 => (unsrc n).erase (Fin.ofNat 16 (n + 1))

theorem part7_wp {R : sProp 𝕄} :
    srcSt X κ c (unsrc 0) R ⊢ WP c (k0_part7 (F := F) i (Memref.whole main_v8) h1 xM h2 a3 h3 a4 h4 a5 h5 a6 h6 commM h7 catM h8 a9 h9 cc0_scratch3 cc0_scratch4) fun _ => srcSt X κ c (unsrc 4) R := by
  rw [k0_part7_eq_skeleton]
  refine wp_srcWait X κ c 1 (by decide) (by decide) (rfl : _ = sendS 1) rfl ?_
  refine wp_srcWait X κ c 2 (by decide) (by decide) (rfl : _ = sendS 2) rfl ?_
  refine wp_srcWait X κ c 3 (by decide) (by decide) (rfl : _ = sendS 3) rfl ?_
  refine wp_srcWait X κ c 4 (by decide) (by decide) (rfl : _ = sendS 4) rfl ?_
  exact wp_done (BI.Entails.refl _)

theorem part8_wp {R : sProp 𝕄} :
    srcSt X κ c (unsrc 4) R ⊢ WP c (k0_part8 (F := F) i (Memref.whole main_v8) h1 xM h2 a3 h3 a4 h4 a5 h5 a6 h6 commM h7 catM h8 a9 h9 cc0_scratch3 cc0_scratch4) fun _ => srcSt X κ c (unsrc 8) R := by
  rw [k0_part8_eq_skeleton]
  refine wp_srcWait X κ c 5 (by decide) (by decide) (rfl : _ = sendS 5) rfl ?_
  refine wp_srcWait X κ c 6 (by decide) (by decide) (rfl : _ = sendS 6) rfl ?_
  refine wp_srcWait X κ c 7 (by decide) (by decide) (rfl : _ = sendS 7) rfl ?_
  refine wp_srcWait X κ c 8 (by decide) (by decide) (rfl : _ = sendS 8) rfl ?_
  exact wp_done (BI.Entails.refl _)

theorem part9_wp {R : sProp 𝕄} :
    srcSt X κ c (unsrc 8) R ⊢ WP c (k0_part9 (F := F) i (Memref.whole main_v8) h1 xM h2 a3 h3 a4 h4 a5 h5 a6 h6 commM h7 catM h8 a9 h9 cc0_scratch3 cc0_scratch4) fun _ => srcSt X κ c (unsrc 12) R := by
  rw [k0_part9_eq_skeleton]
  refine wp_srcWait X κ c 9 (by decide) (by decide) (rfl : _ = sendS 9) rfl ?_
  refine wp_srcWait X κ c 10 (by decide) (by decide) (rfl : _ = sendS 10) rfl ?_
  refine wp_srcWait X κ c 11 (by decide) (by decide) (rfl : _ = sendS 11) rfl ?_
  refine wp_srcWait X κ c 12 (by decide) (by decide) (rfl : _ = sendS 12) rfl ?_
  exact wp_done (BI.Entails.refl _)

end Parts

end Cert.Talk
-- ==== Proof.Head.lean ====
/-
  The first half of the body: the talk of point 0, the entry of the table, and the first two chunks, run once at
  any device.
-/
module

public import proofs.«01_k».proof.Proof.Parts

@[expose] public section
noncomputable section
namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (X : Xs F) (κ : GSem nD τ sig → ℕ)

theorem pure_sep {φ : Prop} {P Q : sProp 𝕄} (h : φ → P ⊢ Q) : iprop(⌜φ⌝ ∗ P) ⊢ Q := by
  iintro ⟨%hp, H⟩
  iapply (h hp) $$ H

/-- The place of point `t` in the table. -/
def ix (t : Fin 4) : S4.Idx := fun a => match a with | 0 => t

/-- The table of quadrants on device `c`. -/
def tabPt (c : Dev nD) (T : S4.Idx → BitVec 32) : sProp 𝕄 :=
  (Memref.whole main_v8 : Memref sig .tc .smem S4 .i32).view.loc (tc c) ↦{fullShare} (show Buf (Elt F) _ from T)

theorem wp_tab (c : Dev nD) (T : S4.Idx → BitVec 32) {t : Fin 4} {off : Fin 1 → ℕ} (ho : off = ![t.val])
    {inb : ∀ a, off a + S1.size a ≤ S4.size a} {hn : (Rect.unit (s := S4) off S1.size inb).shape.numel = 1} {hp : EltTy.packing .i32 = 1}
    {q : Fin 4} {n : ℕ} {S : Finset (Fin 16)} {R : sProp 𝕄} {α : Type} {k : Elt F .i32 → Prog (TpuEff nD τ sig (Elt F) Λ₀ .tc) α} {Q : α → sProp 𝕄}
    (hk : chunkSt X κ c q n S iprop(tabPt c T ∗ R) ⊢ WP c (k (T (ix t))) Q) :
    chunkSt X κ c q n S iprop(tabPt c T ∗ R) ⊢ WP c (smemLoad (Memref.whole main_v8) (Rect.unit (s := S4) off S1.size inb) hn hp >>= k) Q := by
  subst ho
  refine wp_seq (fun v => iprop(⌜v = T (ix t)⌝ ∗ chunkSt X κ c q n S iprop(tabPt c T ∗ R))) ?_ ?_
  · unfold smemLoad chunkSt tabPt
    iintro ⟨#HR, Hrows, Hcat, HS, HD, HO, Ht, HF⟩
    iapply (wp_smemLoadElt Variants.none (tc c) none Set.univ (m := Memref.whole main_v8) (S := Finset.univ) (q := fullShare) (Finset.subset_univ _)) $$ [Ht]
    · iexact Ht
    iintro Ht
    iapply (wp_done (F := F) (c := c) (BI.Entails.refl _))
    isplitr
    · ipureintro
      refine congrArg T (funext fun a => ?_)
      fin_cases a
      refine Fin.ext ?_
      rfl
    isplitr; · iexact HR
    isplitl [Hrows]; · iexact Hrows
    isplitl [Hcat]; · iexact Hcat
    isplitl [HS]; · iexact HS
    isplitl [HD]; · iexact HD
    isplitl [HO]; · iexact HO
    isplitl [Ht]; · iexact Ht
    iexact HF
  · intro v
    iintro ⟨%hv, H⟩
    subst hv
    iapply hk $$ H

theorem off50 (i : grid0.Coords) (t : Fin 4) (ht : (i 0).val = t.val) : k0_off50 i = ![t.val] := by
  unfold k0_off50; rw [ht]; clear ht; revert t; decide

section
variable (c : Dev nD) (i : grid0.Coords)
  {h1 : (Memref.whole main_v8 : Memref sig .tc .smem S4 .i32).IsWhole} {h2 : xM.IsWhole}
  {a3 : Memref sig .tc .vmem S1024x8192 .i8} {h3 : a3.IsWhole}
  {a4 : Memref sig .tc .smem S1 .f32} {h4 : a4.IsWhole} {a5 : Memref sig .tc .smem S1 .f32} {h5 : a5.IsWhole}
  {a6 : Memref sig .tc .vmem S256x8192 .f32} {h6 : a6.IsWhole} {h7 : commM.IsWhole} {h8 : catM.IsWhole}
  {a9 : Memref sig .tc .vmem S256x8192 .f32} {h9 : a9.IsWhole}

set_option maxHeartbeats 2000000 in
theorem part10_wpS (t : Fin 4) (ht : (i 0).val = t.val) (h : ¬ k0_cond1 i = 1#1) {q : Fin 4} {S : Finset (Fin 16)} (h0 : dd c q 0 ∈ S) (h1' : dd c q 1 ∈ S)
    (T : S4.Idx → BitVec 32) (hT : T (ix t) = qw q) {R : sProp 𝕄} :
    chunkSt X κ c q 0 S iprop(tabPt c T ∗ R) ⊢ WP c (k0_part10 (F := F) i (Memref.whole main_v8) h1 xM h2 a3 h3 a4 h4 a5 h5 a6 h6 commM h7 catM h8 a9 h9 cc0_scratch3 cc0_scratch4) fun r =>
      iprop(⌜r = ⟨BitVec.ofNat 32 (i 0).val, c, Scalar.remsi (Scalar.divsi (Dev.word c) 1#32) 16#32, qw q, chk c q, Scalar.addi (Scalar.muli (qw q) 4#32) 2#32,
        Scalar.subi (Scalar.remsi (Scalar.divsi (Dev.word c) 1#32) 16#32) (Scalar.addi (Scalar.muli (qw q) 4#32) 2#32), 16#32⟩⌝
        ∗ chunkSt X κ c q 2 ((S.erase (dd c q 0)).erase (dd c q 1)) iprop(tabPt c T ∗ R)) := by
  rw [k0_part10_eq_skeleton]
  simp only [k0_part10_skel, Prog.lift, Prog.bind_op, Prog.bind_ret, Prog.pure_eq_ret]
  unfold WP
  rw [wp_deviceId]
  change _ ⊢ WP c _ _
  rw [dif_neg h]
  refine wp_tab X κ c T (off50 i t ht) ?_
  rw [hT]
  refine BI.Entails.trans ?_ (wp_assume Variants.none (tc c) none Set.univ (chk c q))
  refine wp_own X κ c q 0 (own0 c q) (off51 c) rfl pay9_eq ?_
  refine wp_land X κ c q 0 h0 (cond19 c q) rfl (off52 c q) (off53 c q) (off54 c q) pay10_eq ?_
  refine wp_own X κ c q 1 (own1 c q) (off55 c) rfl pay11_eq ?_
  refine wp_land X κ c q 1 (Finset.mem_erase.mpr ⟨dd_ne c q q 1 0 (by simp), h1'⟩) (cond21 c q) rfl (off56 c q) (off57 c q) (off58 c q) pay12_eq ?_
  refine wp_done ?_
  iintro H
  isplitr
  · ipureintro; rfl
  · iexact H

/-- What the talk of point 0 starts from, beside the signals. -/
def talkRest (c : Dev nD) (R : sProp 𝕄) : sProp 𝕄 :=
  iprop(bigSep (Finset.univ.erase 0) (fun d => iprop(rowsPt X c (c + d) ∗ dutyTok ET (sendCell c d) 0 0 ∗ dutyTok ET (recvCell (c + d) d) 0 0)) ∗ R)

/-- What the device holds through the chunks of a point. -/
def chunkRest (c : Dev nD) (T : S4.Idx → BitVec 32) (R : sProp 𝕄) : sProp 𝕄 :=
  iprop(rowsPt X c c ∗ catPre X c (qt c 0) 0 ∗ bigSep (Finset.univ.erase 0) (rcvRes c) ∗ tabPt c T ∗ R)

theorem talk_copy (c : Dev nD) {W : Waits sig Unit} {R : sProp 𝕄} :
    iprop(recs X κ ∗ opened c ∗ owes (tc c) (oweR c Finset.univ) W ∗ atPos ET (barCell c) (0 + 1) ∅ 0 ∗ bigSep (Finset.univ.erase 0) (barPay (F := F) c) ∗ talkRest X c R)
      ⊢ copySt X κ c (unsent c 0) W iprop(atPos ET (barCell c) (0 + 1) ∅ 0 ∗ R) := by
  unfold copySt talkRest unsent
  rw [show (Finset.univ : Finset (Fin 16))ᶜ.erase 0 = ∅ from by decide, bigSep_empty]
  iintro ⟨#HR, #Hop, HO, Hat, HB, HT, HF⟩
  isplitr; · iexact HR
  isplitr; · iexact Hop
  isplitl [HB HT]
  · iapply (Entails.of_eq (show iprop(bigSep (Finset.univ.erase 0) (barPay (F := F) c) ∗ bigSep (Finset.univ.erase 0) (fun d => iprop(rowsPt X c (c + d) ∗ dutyTok ET (sendCell c d) 0 0 ∗ dutyTok ET (recvCell (c + d) d) 0 0))) = bigSep (Finset.univ.erase 0) (sendRes X c) from (bigSep_sep' _ _ _).symm))
    isplitl [HB] <;> iassumption
  isplitr; · iempintro
  isplitl [HO]; · iexact HO
  isplitl [Hat] <;> iassumption

theorem copy_chunk (c : Dev nD) (T : S4.Idx → BitVec 32) {W : Waits sig Unit} {R : sProp 𝕄} :
    copySt X κ c (unsent c 16) W iprop(atPos ET (barCell c) (0 + 1) ∅ 0 ∗ chunkRest X c T R)
      ⊢ chunkSt X κ c (qt c 0) 0 Finset.univ iprop(tabPt c T ∗ atPos ET (barCell c) (0 + 1) ∅ 0 ∗ bigSep (Finset.univ.erase 0) (sendDone (F := F) c) ∗ R) := by
  unfold copySt chunkSt chunkRest clear
  rw [show (unsent c 16)ᶜ.erase 0 = Finset.univ.erase 0 from by revert c; decide, show (unsent c 16).erase 0 = ∅ from unsent_end c,
    show (Finset.univ : Finset (Fin 16))ᶜ.erase 0 = ∅ from by decide, bigSep_empty, bigSep_empty, show oweR c (unsent c 16) = 0 from by unfold oweR; rw [unsent_end]; rfl]
  iintro ⟨#HR, #Hop, -, HD, HO, Hat, Hrows, Hcat, Hrcv, Ht, HF⟩
  isplitr; · iexact HR
  isplitl [Hrows]; · iexact Hrows
  isplitl [Hcat]; · iexact Hcat
  isplitl [Hrcv]; · iexact Hrcv
  isplitr; · iempintro
  isplitl [HO]; · iexists W; iexact HO
  isplitl [Ht]; · iexact Ht
  isplitl [Hat]; · iexact Hat
  isplitl [HD] <;> iassumption

set_option maxHeartbeats 4000000 in
theorem part10_wp0 (ht : (i 0).val = 0) (h : k0_cond1 i = 1#1) (T : S4.Idx → BitVec 32) (hT : T (ix 0) = qw (qt c 0)) {W : Waits sig Unit} {R : sProp 𝕄} :
    sigSt X κ c (unsig 0) (oweR c Finset.univ) W iprop(levAts L lv ∗ cred (tallyAt (barCell c) () 15) ∗ atPos ET (barCell c) 0 ∅ 0 ∗ talkRest X c (chunkRest X c T R))
      ⊢ WP c (k0_part10 (F := F) i (Memref.whole main_v8) h1 xM h2 a3 h3 a4 h4 a5 h5 a6 h6 commM h7 catM h8 a9 h9 cc0_scratch3 cc0_scratch4) fun r =>
      iprop(⌜r = ⟨BitVec.ofNat 32 (i 0).val, c, Scalar.remsi (Scalar.divsi (Dev.word c) 1#32) 16#32, qw (qt c 0), chk c (qt c 0), Scalar.addi (Scalar.muli (qw (qt c 0)) 4#32) 2#32,
        Scalar.subi (Scalar.remsi (Scalar.divsi (Dev.word c) 1#32) 16#32) (Scalar.addi (Scalar.muli (qw (qt c 0)) 4#32) 2#32), 16#32⟩⌝
        ∗ chunkSt X κ c (qt c 0) 2 ((Finset.univ.erase (dd c (qt c 0) 0)).erase (dd c (qt c 0) 1)) iprop(tabPt c T ∗ atPos ET (barCell c) (0 + 1) ∅ 0 ∗ bigSep (Finset.univ.erase 0) (sendDone (F := F) c) ∗ R)) := by
  rw [k0_part10_eq_skeleton]
  simp only [k0_part10_skel, Prog.lift, Prog.bind_op, Prog.bind_ret, Prog.pure_eq_ret]
  unfold WP
  rw [wp_deviceId]
  change _ ⊢ WP c _ _
  rw [dif_pos h]
  refine wp_seq _ (part1_wp X κ c i _ h) fun v64 => ?_
  refine pure_sep fun hv => ?_
  refine wp_seq _ (part2_wp X κ c i _ h hv) fun _ => ?_
  refine wp_seq _ (part3_wp X κ c i _ h hv) fun v142 => ?_
  refine (talk_copy X κ c).trans ?_
  refine wp_seq _ (part4_wp X κ c i _ _ h) fun v176 => ?_
  refine wp_seq _ (part5_wp X κ c i _ _ _ h) fun r => ?_
  obtain ⟨v208, v210, w⟩ := r
  refine wp_seq _ (part6_wp X κ c i _ _ _ _ _ h) fun r => ?_
  obtain ⟨v240, v245, w'⟩ := r
  refine wp_copy X κ c (d := sd c 12) (by clear hT; revert c; decide) (cd := k0_cond14 c) (cond14 c) (os := k0_off38 c) (hs := k0_off38_inb i c h) (off38 c)
    (oc := k0_off39 c) (hc := k0_off39_inb i c h) (off39 c) (ox := k0_off40 c) (hx := k0_off40_inb i c h) (off40 c)
    (hn := k0_dev28_lt i c h) (dev28 c) ?_
  refine wp_copy X κ c (d := sd c 13) (by clear hT; revert c; decide) (cd := k0_cond15 c) (cond15 c) (os := k0_off41 c) (hs := k0_off41_inb i c h) (off41 c)
    (oc := k0_off42 c) (hc := k0_off42_inb i c h) (off42 c) (ox := k0_off43 c) (hx := k0_off43_inb i c h) (off43 c)
    (hn := k0_dev29_lt i c h) (dev29 c) ?_
  refine wp_copy X κ c (d := sd c 14) (by clear hT; revert c; decide) (cd := k0_cond16 c) (cond16 c) (os := k0_off44 c) (hs := k0_off44_inb i c h) (off44 c)
    (oc := k0_off45 c) (hc := k0_off45_inb i c h) (off45 c) (ox := k0_off46 c) (hx := k0_off46_inb i c h) (off46 c)
    (hn := k0_dev30_lt i c h) (dev30 c) ?_
  refine wp_copy X κ c (d := sd c 15) (by clear hT; revert c; decide) (cd := k0_cond17 c) (cond17 c) (os := k0_off47 c) (hs := k0_off47_inb i c h) (off47 c)
    (oc := k0_off48 c) (hc := k0_off48_inb i c h) (off48 c) (ox := k0_off49 c) (hx := k0_off49_inb i c h) (off49 c)
    (hn := k0_dev31_lt i c h) (dev31 c) ?_
  refine (copy_chunk X κ c T).trans ?_
  refine wp_tab X κ c T (off50 i 0 ht) ?_
  rw [hT]
  refine BI.Entails.trans ?_ (wp_assume Variants.none (tc c) none Set.univ (chk c (qt c 0)))
  refine wp_own X κ c (qt c 0) 0 (own0 c _) (off51 c) rfl pay9_eq ?_
  refine wp_land X κ c (qt c 0) 0 (Finset.mem_univ _) (cond19 c _) rfl (off52 c _) (off53 c _) (off54 c _) pay10_eq ?_
  refine wp_own X κ c (qt c 0) 1 (own1 c _) (off55 c) rfl pay11_eq ?_
  refine wp_land X κ c (qt c 0) 1 (Finset.mem_erase.mpr ⟨dd_ne c _ _ 1 0 (by simp), Finset.mem_univ _⟩) (cond21 c _) rfl (off56 c _) (off57 c _) (off58 c _) pay12_eq ?_
  refine wp_done ?_
  iintro H
  isplitr
  · ipureintro; rfl
  · iexact H
end
end Cert.Talk
-- ==== Proof.Product.lean ====
/-
  The product of a point, at any device: the weight's block, the operand and the accumulator are read, the
  accumulator written.
-/
module

public import proofs.«01_k».proof.Proof.Head

@[expose] public section
noncomputable section
namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (X : Xs F) (κ : GSem nD τ sig → ℕ)

theorem catPre_of_full (c : Dev nD) (q : Fin 4) : (catM.view.loc (tc c) ↦{fullShare} (catV X c q)) ⊢ catPre X c q 4 := by
  unfold catPre
  iintro H
  iexists (catV X c q)
  isplitr
  · ipureintro; intro j _; rfl
  · iexact H

/-! ## Loads and stores of whole buffers -/

theorem ld_zero {cs : CoreSpace} {i : Fin (sig.nNear .tc cs)} {hκ : sig.names .tc cs i = true} (c : Dev nD)
    {off : Fin (sig.tyNear .tc cs i).shape.rank → ℕ} (h : off = fun _ => 0) {inb : ∀ a, off a + (sig.tyNear .tc cs i).shape.size a ≤ (sig.tyNear .tc cs i).shape.size a}
    {hl : (Memref.whole ⟨cs, i, hκ⟩ : Memref sig .tc _ _ _).view.LoadsAt (Rect.unit off _ inb).toLoadRect}
    {α : Type} {k : ((sig.tyNear .tc cs i).Contents (Elt F)) → Prog (TpuEff nD τ sig (Elt F) Λ₀ .tc) α} {Q : α → sProp 𝕄}
    {q : PosShare TreeShare} {f : Buf (Elt F) ((tc c).loc ⟨cs, i, hκ⟩)} :
    (((tc c).loc ⟨cs, i, hκ⟩) ↦{q} f) ⊢ iprop(((((tc c).loc ⟨cs, i, hκ⟩) ↦{q} f) -∗ WP c (k f) Q)
      -∗ WP c (.op (.load (Memref.whole ⟨cs, i, hκ⟩) (Rect.unit off _ inb).toLoadRect hl) k) Q) := by
  subst h
  exact wp_load_whole Variants.none (tc c) none Set.univ

theorem st_zero {cs : CoreSpace} {i : Fin (sig.nNear .tc cs)} {hκ : sig.names .tc cs i = true} (c : Dev nD)
    {off : Fin (sig.tyNear .tc cs i).shape.rank → ℕ} (h : off = fun _ => 0) {inb : ∀ a, off a + (sig.tyNear .tc cs i).shape.size a ≤ (sig.tyNear .tc cs i).shape.size a}
    {w : (sig.tyNear .tc cs i).Contents (Elt F)}
    {hx : ((Memref.whole ⟨cs, i, hκ⟩).access (Rect.unit off _ inb) : View sig .tc _ _ _).Stores Finset.univ}
    {hm : (Finset.univ : Finset (Rect.unit off _ inb).shape.Idx) = Finset.univ ∨ ∀ a, (Rect.unit off _ inb).stride a = 1}
    {α : Type} {k : PUnit → Prog (TpuEff nD τ sig (Elt F) Λ₀ .tc) α} {Q : α → sProp 𝕄} {f : Buf (Elt F) ((tc c).loc ⟨cs, i, hκ⟩)} :
    (((tc c).loc ⟨cs, i, hκ⟩) ↦{fullShare} f) ⊢ iprop(((((tc c).loc ⟨cs, i, hκ⟩) ↦{fullShare} w) -∗ WP c (k PUnit.unit) Q)
      -∗ WP c (.op (.store (Memref.whole ⟨cs, i, hκ⟩) (Rect.unit off _ inb) w Finset.univ hx hm) k) Q) := by
  subst h
  exact wp_store_whole Variants.none (tc c) none Set.univ

/-- The weight's block in staging buffer `s` of device `c`. -/
def wPt (c : Dev nD) (s : Fin 2) (w : Vec F S1024x8192 .i8) : sProp 𝕄 :=
  match s with
  | 0 => (Memref.whole cc0_stg1_0 : Memref sig .tc .vmem S1024x8192 .i8).view.loc (tc c) ↦{fullShare} w
  | 1 => (Memref.whole cc0_stg1_1 : Memref sig .tc .vmem S1024x8192 .i8).view.loc (tc c) ↦{fullShare} w

/-- The accumulator of device `c`. -/
def accPt (c : Dev nD) (v : Vec F S256x8192 .f32) : sProp 𝕄 :=
  (Memref.whole cc0_scratch2 : Memref sig .tc .vmem S256x8192 .f32).view.loc (tc c) ↦{fullShare} v

/-- The result's staging buffer of device `c`. -/
def outPt (c : Dev nD) (v : Vec F S256x8192 .f32) : sProp 𝕄 :=
  (Memref.whole cc0_stg4_0 : Memref sig .tc .vmem S256x8192 .f32).view.loc (tc c) ↦{fullShare} v

/-- The two scales on device `c`. -/
def sxPt (c : Dev nD) (v : Vec F S1 .f32) : sProp 𝕄 :=
  (Memref.whole cc0_stg2_0 : Memref sig .tc .smem S1 .f32).view.loc (tc c) ↦{fullShare} v
def swPt (c : Dev nD) (v : Vec F S1 .f32) : sProp 𝕄 :=
  (Memref.whole cc0_stg3_0 : Memref sig .tc .smem S1 .f32).view.loc (tc c) ↦{fullShare} v

/-- The one place of a scale. -/
def o1 : S1.Idx := fun a => match a with | 0 => (0 : Fin 1)

theorem wp_ldW (c : Dev nD) (s : Fin 2) {w : Vec F S1024x8192 .i8} {off : Fin 2 → ℕ} (h : off = fun _ => 0) {inb : ∀ a, off a + S1024x8192.size a ≤ S1024x8192.size a}
    {hl : (stage0_1 s).view.LoadsAt (Rect.unit (s := S1024x8192) off S1024x8192.size inb).toLoadRect}
    {α : Type} {k : Vec F S1024x8192 .i8 → Prog (TpuEff nD τ sig (Elt F) Λ₀ .tc) α} {Q : α → sProp 𝕄} :
    wPt c s w ⊢ iprop((wPt c s w -∗ WP c (k w) Q)
      -∗ WP c (.op (.load (stage0_1 s) (Rect.unit (s := S1024x8192) off S1024x8192.size inb).toLoadRect hl) k) Q) := by
  match s with
  | 0 => exact ld_zero c h
  | 1 => exact ld_zero c h

theorem zero2 : (![0, 0] : Fin 2 → ℕ) = fun _ => 0 := by decide

/-- The first product goes to the accumulator. -/
theorem wp_mm0 (c : Dev nD) (q : Fin 4) (s : Fin 2) {S : Finset (Fin 16)} {w : Vec F S1024x8192 .i8} {v : Vec F S256x8192 .f32} {R : sProp 𝕄}
    {hl1 : (stage0_1 s).view.LoadsAt (Rect.unit (s := S1024x8192) ![0, 0] S1024x8192.size inb_S1024x8192_S1024x8192_0_0).toLoadRect}
    {hl2 : catM.view.LoadsAt (Rect.unit (s := S256x1024) ![0, 0] S256x1024.size inb_S256x1024_S256x1024_0_0).toLoadRect}
    {hl3 : (Memref.whole cc0_scratch2 : Memref sig .tc .vmem S256x8192 .f32).view.LoadsAt (Rect.unit (s := S256x8192) ![0, 0] S256x8192.size inb_S256x8192_S256x8192_0_0).toLoadRect}
    {hx : ((Memref.whole cc0_scratch2 : Memref sig .tc .vmem S256x8192 .f32).access (Rect.unit (s := S256x8192) ![0, 0] S256x8192.size inb_S256x8192_S256x8192_0_0)).Stores Finset.univ}
    {hm : (Finset.univ : Finset (Rect.unit (s := S256x8192) ![0, 0] S256x8192.size inb_S256x8192_S256x8192_0_0).shape.Idx) = Finset.univ ∨ ∀ a, (Rect.unit (s := S256x8192) ![0, 0] S256x8192.size inb_S256x8192_S256x8192_0_0).stride a = 1}
    {α : Type} {J : Prog (TpuEff nD τ sig (Elt F) Λ₀ .tc) α} {Q : α → sProp 𝕄}
    (hJ : chunkSt X κ c q 4 S iprop(wPt c s w ∗ accPt c (k0_pay6 w (catV X c q)) ∗ R) ⊢ WP c J Q) :
    chunkSt X κ c q 4 S iprop(wPt c s w ∗ accPt c v ∗ R) ⊢ WP c
      (.op (.load (stage0_1 s) (Rect.unit (s := S1024x8192) ![0, 0] S1024x8192.size inb_S1024x8192_S1024x8192_0_0).toLoadRect hl1) fun v52 =>
        .op (.load catM (Rect.unit (s := S256x1024) ![0, 0] S256x1024.size inb_S256x1024_S256x1024_0_0).toLoadRect hl2) fun v64 =>
        .op (.load (Memref.whole cc0_scratch2) (Rect.unit (s := S256x8192) ![0, 0] S256x8192.size inb_S256x8192_S256x8192_0_0).toLoadRect hl3) fun _ =>
        .op (.store (Memref.whole cc0_scratch2) (Rect.unit (s := S256x8192) ![0, 0] S256x8192.size inb_S256x8192_S256x8192_0_0) (k0_pay6 v52 v64) Finset.univ hx hm) fun _ => J) Q := by
  unfold chunkSt accPt at hJ ⊢
  iintro ⟨#HR, Hrows, Hcat, HS, HD, HO, Hw, Ha, HF⟩
  ihave Hcat := (catPre_full X c q) $$ Hcat
  iapply (wp_ldW c s zero2) $$ Hw
  iintro Hw
  iapply (ld_zero c zero2) $$ Hcat
  iintro Hcat
  iapply (ld_zero c zero2) $$ Ha
  iintro Ha
  iapply (st_zero c zero2) $$ Ha
  iintro Ha
  iapply hJ
  isplitr; · iexact HR
  isplitl [Hrows]; · iexact Hrows
  isplitl [Hcat]
  · iapply (catPre_of_full X c q); iexact Hcat
  isplitl [HS]; · iexact HS
  isplitl [HD]; · iexact HD
  isplitl [HO]; · iexact HO
  isplitl [Hw]; · iexact Hw
  isplitl [Ha] <;> iassumption

/-- A later product is added to it. -/
theorem wp_mmS (c : Dev nD) (q : Fin 4) (s : Fin 2) {S : Finset (Fin 16)} {w : Vec F S1024x8192 .i8} {v : Vec F S256x8192 .f32} {R : sProp 𝕄}
    {hl1 : (stage0_1 s).view.LoadsAt (Rect.unit (s := S1024x8192) ![0, 0] S1024x8192.size inb_S1024x8192_S1024x8192_0_0).toLoadRect}
    {hl2 : catM.view.LoadsAt (Rect.unit (s := S256x1024) ![0, 0] S256x1024.size inb_S256x1024_S256x1024_0_0).toLoadRect}
    {hl3 hl4 : (Memref.whole cc0_scratch2 : Memref sig .tc .vmem S256x8192 .f32).view.LoadsAt (Rect.unit (s := S256x8192) ![0, 0] S256x8192.size inb_S256x8192_S256x8192_0_0).toLoadRect}
    {hx : ((Memref.whole cc0_scratch2 : Memref sig .tc .vmem S256x8192 .f32).access (Rect.unit (s := S256x8192) ![0, 0] S256x8192.size inb_S256x8192_S256x8192_0_0)).Stores Finset.univ}
    {hm : (Finset.univ : Finset (Rect.unit (s := S256x8192) ![0, 0] S256x8192.size inb_S256x8192_S256x8192_0_0).shape.Idx) = Finset.univ ∨ ∀ a, (Rect.unit (s := S256x8192) ![0, 0] S256x8192.size inb_S256x8192_S256x8192_0_0).stride a = 1}
    {α : Type} {J : Prog (TpuEff nD τ sig (Elt F) Λ₀ .tc) α} {Q : α → sProp 𝕄}
    (hJ : chunkSt X κ c q 4 S iprop(wPt c s w ∗ accPt c (k0_pay7 w v (catV X c q)) ∗ R) ⊢ WP c J Q) :
    chunkSt X κ c q 4 S iprop(wPt c s w ∗ accPt c v ∗ R) ⊢ WP c
      (.op (.load (stage0_1 s) (Rect.unit (s := S1024x8192) ![0, 0] S1024x8192.size inb_S1024x8192_S1024x8192_0_0).toLoadRect hl1) fun v52 =>
        .op (.load (Memref.whole cc0_scratch2) (Rect.unit (s := S256x8192) ![0, 0] S256x8192.size inb_S256x8192_S256x8192_0_0).toLoadRect hl3) fun v64 =>
        .op (.load catM (Rect.unit (s := S256x1024) ![0, 0] S256x1024.size inb_S256x1024_S256x1024_0_0).toLoadRect hl2) fun v65 =>
        .op (.load (Memref.whole cc0_scratch2) (Rect.unit (s := S256x8192) ![0, 0] S256x8192.size inb_S256x8192_S256x8192_0_0).toLoadRect hl4) fun _ =>
        .op (.store (Memref.whole cc0_scratch2) (Rect.unit (s := S256x8192) ![0, 0] S256x8192.size inb_S256x8192_S256x8192_0_0) (k0_pay7 v52 v64 v65) Finset.univ hx hm) fun _ => J) Q := by
  unfold chunkSt accPt at hJ ⊢
  iintro ⟨#HR, Hrows, Hcat, HS, HD, HO, Hw, Ha, HF⟩
  ihave Hcat := (catPre_full X c q) $$ Hcat
  iapply (wp_ldW c s zero2) $$ Hw
  iintro Hw
  iapply (ld_zero c zero2) $$ Ha
  iintro Ha
  iapply (ld_zero c zero2) $$ Hcat
  iintro Hcat
  iapply (ld_zero c zero2) $$ Ha
  iintro Ha
  iapply (st_zero c zero2) $$ Ha
  iintro Ha
  iapply hJ
  isplitr; · iexact HR
  isplitl [Hrows]; · iexact Hrows
  isplitl [Hcat]
  · iapply (catPre_of_full X c q); iexact Hcat
  isplitl [HS]; · iexact HS
  isplitl [HD]; · iexact HD
  isplitl [HO]; · iexact HO
  isplitl [Hw]; · iexact Hw
  isplitl [Ha] <;> iassumption

end Cert.Talk
-- ==== Proof.Body.lean ====
/-
  The whole body at one point, run once at any device: at the first point, at the middle ones, at the last.
-/
module

public import proofs.«01_k».proof.Proof.Product

@[expose] public section
noncomputable section
namespace Cert.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (X : Xs F) (κ : GSem nD τ sig → ℕ)

theorem ent {P Q : sProp 𝕄} (h : P ⊢ Q) : P ⊢ Q := h

theorem chunk_frame (c : Dev nD) {q : Fin 4} {n : ℕ} {S : Finset (Fin 16)} {R R' : sProp 𝕄} (h : R ⊢ R') : chunkSt X κ c q n S R ⊢ chunkSt X κ c q n S R' := by
  unfold chunkSt
  iintro ⟨#HR, Hrows, Hcat, HS, HD, HO, HF⟩
  isplitr; · iexact HR
  isplitl [Hrows]; · iexact Hrows
  isplitl [Hcat]; · iexact Hcat
  isplitl [HS]; · iexact HS
  isplitl [HD]; · iexact HD
  isplitl [HO]; · iexact HO
  iapply h $$ HF

/-- The two scales are read. -/
theorem wp_scales (c : Dev nD) {sx sw : Vec F S1 .f32} {R : sProp 𝕄} {hn hn' : (Rect.unit (s := S1) ![0] S1.size inb_S1_S1_0).shape.numel = 1} {hp hp' : EltTy.packing .f32 = 1}
    {α : Type} {k : F .f32 → F .f32 → Prog (TpuEff nD τ sig (Elt F) Λ₀ .tc) α} {Q : α → sProp 𝕄}
    (hk : iprop(sxPt c sx ∗ swPt c sw ∗ R) ⊢ WP c (k (sx o1) (sw o1)) Q) :
    iprop(sxPt c sx ∗ swPt c sw ∗ R) ⊢ WP c (smemLoad (Memref.whole cc0_stg2_0) (Rect.unit (s := S1) ![0] S1.size inb_S1_S1_0) hn hp >>= fun a =>
      smemLoad (Memref.whole cc0_stg3_0) (Rect.unit (s := S1) ![0] S1.size inb_S1_S1_0) hn' hp' >>= fun b => k a b) Q := by
  refine wp_seq (fun v => iprop(⌜v = sx o1⌝ ∗ sxPt c sx ∗ swPt c sw ∗ R)) ?_ fun a => pure_sep fun ha => ?_
  · unfold smemLoad sxPt
    iintro ⟨Ht, HF⟩
    iapply (wp_smemLoadElt Variants.none (tc c) none Set.univ (m := Memref.whole cc0_stg2_0) (S := Finset.univ) (q := fullShare) (Finset.subset_univ _)) $$ [Ht]
    · iexact Ht
    iintro Ht
    iapply (wp_done (F := F) (c := c) (BI.Entails.refl _))
    isplitr
    · ipureintro
      refine congrArg sx (funext fun a => ?_)
      fin_cases a
      exact Subsingleton.elim (α := Fin 1) _ _
    isplitl [Ht]; · iexact Ht
    iexact HF
  refine wp_seq (fun v => iprop(⌜v = sw o1⌝ ∗ sxPt c sx ∗ swPt c sw ∗ R)) ?_ fun b => pure_sep fun hb => ?_
  · unfold smemLoad swPt
    iintro ⟨Hx, Ht, HF⟩
    iapply (wp_smemLoadElt Variants.none (tc c) none Set.univ (m := Memref.whole cc0_stg3_0) (S := Finset.univ) (q := fullShare) (Finset.subset_univ _)) $$ [Ht]
    · iexact Ht
    iintro Ht
    iapply (wp_done (F := F) (c := c) (BI.Entails.refl _))
    isplitr
    · ipureintro
      refine congrArg sw (funext fun a => ?_)
      fin_cases a
      exact Subsingleton.elim (α := Fin 1) _ _
    isplitl [Hx]; · iexact Hx
    isplitl [Ht]; · iexact Ht
    iexact HF
  rw [ha, hb]
  exact hk

/-- The result of the scales and the accumulator is stored. -/
theorem wp_store_out (c : Dev nD) {a b : F .f32} {v u : Vec F S256x8192 .f32} {R : sProp 𝕄}
    {hl3 : (Memref.whole cc0_scratch2 : Memref sig .tc .vmem S256x8192 .f32).view.LoadsAt (Rect.unit (s := S256x8192) ![0, 0] S256x8192.size inb_S256x8192_S256x8192_0_0).toLoadRect}
    {hl4 : (Memref.whole cc0_stg4_0 : Memref sig .tc .vmem S256x8192 .f32).view.LoadsAt (Rect.unit (s := S256x8192) ![0, 0] S256x8192.size inb_S256x8192_S256x8192_0_0).toLoadRect}
    {hx : ((Memref.whole cc0_stg4_0 : Memref sig .tc .vmem S256x8192 .f32).access (Rect.unit (s := S256x8192) ![0, 0] S256x8192.size inb_S256x8192_S256x8192_0_0)).Stores Finset.univ}
    {hm : (Finset.univ : Finset (Rect.unit (s := S256x8192) ![0, 0] S256x8192.size inb_S256x8192_S256x8192_0_0).shape.Idx) = Finset.univ ∨ ∀ a, (Rect.unit (s := S256x8192) ![0, 0] S256x8192.size inb_S256x8192_S256x8192_0_0).stride a = 1}
    {α : Type} {J : Prog (TpuEff nD τ sig (Elt F) Λ₀ .tc) α} {Q : α → sProp 𝕄}
    (hJ : iprop(accPt c v ∗ outPt c (k0_pay8 a b v) ∗ R) ⊢ WP c J Q) :
    iprop(accPt c v ∗ outPt c u ∗ R) ⊢ WP c
      (.op (.load (Memref.whole cc0_scratch2) (Rect.unit (s := S256x8192) ![0, 0] S256x8192.size inb_S256x8192_S256x8192_0_0).toLoadRect hl3) fun v142 =>
        .op (.load (Memref.whole cc0_stg4_0) (Rect.unit (s := S256x8192) ![0, 0] S256x8192.size inb_S256x8192_S256x8192_0_0).toLoadRect hl4) fun _ =>
        .op (.store (Memref.whole cc0_stg4_0) (Rect.unit (s := S256x8192) ![0, 0] S256x8192.size inb_S256x8192_S256x8192_0_0) (k0_pay8 a b v142) Finset.univ hx hm) fun _ => J) Q := by
  unfold accPt outPt at hJ ⊢
  iintro ⟨Ha, Ho, HF⟩
  iapply (ld_zero c zero2) $$ Ha
  iintro Ha
  iapply (ld_zero c zero2) $$ Ho
  iintro Ho
  iapply (st_zero c zero2) $$ Ho
  iintro Ho
  iapply hJ
  isplitl [Ha]; · iexact Ha
  isplitl [Ho] <;> iassumption

/-! ## The conditions on the point -/

theorem first_iff (i : grid0.Coords) (t : Fin 4) (ht : (i 0).val = t.val) : k0_cond1 i = 1#1 ↔ t = 0 := by
  unfold k0_cond1; rw [ht]; clear ht; revert t; decide
theorem last_iff (i : grid0.Coords) (t : Fin 4) (ht : (i 0).val = t.val) : k0_cond28 i = 1#1 ↔ t = 3 := by
  unfold k0_cond28; rw [ht]; clear ht; revert t; decide
theorem eq_iff (i : grid0.Coords) (t : Fin 4) (ht : (i 0).val = t.val) :
    Scalar.cmpi .ne (Scalar.extui (Scalar.cmpi .eq (BitVec.ofNat 32 (i 0).val) 0#32) : BitVec 32) 0#32 = 1#1 ↔ t = 0 := by
  rw [ht]; clear ht; revert t; decide
theorem gt_iff (i : grid0.Coords) (t : Fin 4) (ht : (i 0).val = t.val) :
    Scalar.cmpi .ne (Scalar.extui (Scalar.cmpi .sgt (BitVec.ofNat 32 (i 0).val) 0#32) : BitVec 32) 0#32 = 1#1 ↔ t ≠ 0 := by
  rw [ht]; clear ht; revert t; decide

theorem mem2 (c : Dev nD) (q : Fin 4) {S : Finset (Fin 16)} (h : ∀ i, dd c q i ∈ S) : dd c q 2 ∈ (S.erase (dd c q 0)).erase (dd c q 1) :=
  Finset.mem_erase.mpr ⟨dd_ne c q q 2 1 (by simp), Finset.mem_erase.mpr ⟨dd_ne c q q 2 0 (by simp), h 2⟩⟩
theorem mem3 (c : Dev nD) (q : Fin 4) {S : Finset (Fin 16)} (h : ∀ i, dd c q i ∈ S) : dd c q 3 ∈ ((S.erase (dd c q 0)).erase (dd c q 1)).erase (dd c q 2) :=
  Finset.mem_erase.mpr ⟨dd_ne c q q 3 2 (by simp), Finset.mem_erase.mpr ⟨dd_ne c q q 3 1 (by simp), Finset.mem_erase.mpr ⟨dd_ne c q q 3 0 (by simp), h 3⟩⟩⟩

section
variable (c : Dev nD) (i : grid0.Coords) (s : Fin 2)
  {h1 : (Memref.whole main_v8 : Memref sig .tc .smem S4 .i32).IsWhole} {h2 : xM.IsWhole} {h3 : (stage0_1 s).IsWhole}
  {h4 : (Memref.whole cc0_stg2_0 : Memref sig .tc .smem S1 .f32).IsWhole} {h5 : (Memref.whole cc0_stg3_0 : Memref sig .tc .smem S1 .f32).IsWhole}
  {h6 : (Memref.whole cc0_stg4_0 : Memref sig .tc .vmem S256x8192 .f32).IsWhole} {h7 : commM.IsWhole} {h8 : catM.IsWhole}
  {h9 : (Memref.whole cc0_scratch2 : Memref sig .tc .vmem S256x8192 .f32).IsWhole}

set_option maxHeartbeats 2000000 in
/-- A point between the first and the last. -/
theorem body_mid (t : Fin 4) (ht : (i 0).val = t.val) (h0 : t ≠ 0) (h3' : t ≠ 3) {q : Fin 4} {S : Finset (Fin 16)} (hS : ∀ i, dd c q i ∈ S)
    (T : S4.Idx → BitVec 32) (hT : T (ix t) = qw q) {w : Vec F S1024x8192 .i8} {v : Vec F S256x8192 .f32} {R : sProp 𝕄} :
    chunkSt X κ c q 0 S iprop(tabPt c T ∗ wPt c s w ∗ accPt c v ∗ R) ⊢ WP c (cc0_body (F := F) i (Memref.whole main_v8) h1 xM h2 (stage0_1 s) h3 (Memref.whole cc0_stg2_0) h4
      (Memref.whole cc0_stg3_0) h5 (Memref.whole cc0_stg4_0) h6 commM h7 catM h8 (Memref.whole cc0_scratch2) h9 cc0_scratch3 cc0_scratch4) fun _ =>
      chunkSt X κ c q 4 (left c q S) iprop(wPt c s w ∗ accPt c (k0_pay7 w v (catV X c q)) ∗ tabPt c T ∗ R) := by
  rw [cc0_body_eq_skeleton]
  unfold cc0_body_skel
  refine wp_seq _ (part10_wpS X κ c i t ht (fun h => h0 ((first_iff i t ht).mp h)) (hS 0) (hS 1) T hT) fun r => pure_sep fun hr => ?_
  subst hr
  simp only [Prog.lift, Prog.bind_op, Prog.bind_ret, Prog.pure_eq_ret, eq_false (fun h => h0 ((eq_iff i t ht).mp h)), eq_true ((gt_iff i t ht).mpr h0),
    eq_false (fun h => h3' ((last_iff i t ht).mp h)), dite_true, dite_false]
  refine wp_own X κ c q 2 (own2 c q) (off59 c) rfl pay1_eq ?_
  refine wp_land X κ c q 2 (mem2 c q hS) (cond23 c q) rfl (off60 c q) (off61 c q) (off62 c q) pay2_eq ?_
  refine wp_own X κ c q 3 (own3 c q) (off63 c) rfl pay3_eq ?_
  refine wp_land X κ c q 3 (mem3 c q hS) (cond25 c q) rfl (off64 c q) (off65 c q) (off66 c q) pay4_eq ?_
  refine (chunk_frame X κ c (R' := iprop(wPt c s w ∗ accPt c v ∗ tabPt c T ∗ R)) ?_).trans (wp_mmS X κ c q s ?_)
  · iintro ⟨Ht, Hw, Ha, HF⟩
    isplitl [Hw]; · iexact Hw
    isplitl [Ha]; · iexact Ha
    isplitl [Ht] <;> iassumption
  exact wp_done (BI.Entails.refl _)

set_option maxHeartbeats 2000000 in
/-- The first point. -/
theorem body_first (ht : (i 0).val = 0) (T : S4.Idx → BitVec 32) (hT : T (ix 0) = qw (qt c 0)) {w : Vec F S1024x8192 .i8} {v : Vec F S256x8192 .f32}
    {W : Waits sig Unit} {R : sProp 𝕄} :
    sigSt X κ c Finset.univ (oweR c Finset.univ) W iprop(levAts L lv ∗ cred (tallyAt (barCell c) () 15) ∗ atPos ET (barCell c) 0 ∅ 0
        ∗ talkRest X c (chunkRest X c T iprop(wPt c s w ∗ accPt c v ∗ R)))
      ⊢ WP c (cc0_body (F := F) i (Memref.whole main_v8) h1 xM h2 (stage0_1 s) h3 (Memref.whole cc0_stg2_0) h4
      (Memref.whole cc0_stg3_0) h5 (Memref.whole cc0_stg4_0) h6 commM h7 catM h8 (Memref.whole cc0_scratch2) h9 cc0_scratch3 cc0_scratch4) fun _ =>
      chunkSt X κ c (qt c 0) 4 (left c (qt c 0) Finset.univ) iprop(wPt c s w ∗ accPt c (k0_pay6 w (catV X c (qt c 0))) ∗ tabPt c T ∗ atPos ET (barCell c) (0 + 1) ∅ 0 ∗ bigSep (Finset.univ.erase 0) (sendDone (F := F) c) ∗ R) := by
  rw [cc0_body_eq_skeleton]
  unfold cc0_body_skel
  refine wp_seq _ (part10_wp0 X κ c i ht ((first_iff i 0 ht).mpr rfl) T hT) fun r => pure_sep fun hr => ?_
  subst hr
  simp only [Prog.lift, Prog.bind_op, Prog.bind_ret, Prog.pure_eq_ret, eq_true ((eq_iff i 0 ht).mpr rfl), eq_false (fun h => (gt_iff i 0 ht).mp h rfl),
    eq_false (fun h => absurd ((last_iff i 0 ht).mp h) (by decide)), dite_true, dite_false]
  refine wp_own X κ c (qt c 0) 2 (own2 c _) (off59 c) rfl pay1_eq ?_
  refine wp_land X κ c (qt c 0) 2 (mem2 c _ fun _ => Finset.mem_univ _) (cond23 c _) rfl (off60 c _) (off61 c _) (off62 c _) pay2_eq ?_
  refine wp_own X κ c (qt c 0) 3 (own3 c _) (off63 c) rfl pay3_eq ?_
  refine wp_land X κ c (qt c 0) 3 (mem3 c _ fun _ => Finset.mem_univ _) (cond25 c _) rfl (off64 c _) (off65 c _) (off66 c _) pay4_eq ?_
  refine (chunk_frame X κ c (R' := iprop(wPt c s w ∗ accPt c v ∗ tabPt c T ∗ atPos ET (barCell c) (0 + 1) ∅ 0 ∗ bigSep (Finset.univ.erase 0) (sendDone (F := F) c) ∗ R)) ?_).trans (wp_mm0 X κ c (qt c 0) s ?_)
  · iintro ⟨Ht, Hat, HD, Hw, Ha, HF⟩
    isplitl [Hw]; · iexact Hw
    isplitl [Ha]; · iexact Ha
    isplitl [Ht]; · iexact Ht
    isplitl [Hat]; · iexact Hat
    isplitl [HD] <;> iassumption
  exact wp_done (BI.Entails.refl _)

/-- What the last point keeps of its chunks through the waits for the sources. -/
def lastRest (c : Dev nD) (q : Fin 4) (S : Finset (Fin 16)) (R : sProp 𝕄) : sProp 𝕄 :=
  iprop(rowsPt X c c ∗ catPre X c q 4 ∗ bigSep (S.erase 0) (rcvRes c) ∗ bigSep (Sᶜ.erase 0) (rcvDone X c) ∗ R)

theorem chunk_src (c : Dev nD) {q : Fin 4} {S : Finset (Fin 16)} {R : sProp 𝕄} :
    chunkSt X κ c q 4 S iprop(bigSep (Finset.univ.erase 0) (srcRes c) ∗ R) ⊢ srcSt X κ c (unsrc 0) (lastRest X c q S R) := by
  unfold chunkSt srcSt lastRest
  rw [show (unsrc 0).erase 0 = Finset.univ.erase 0 from by decide, show (unsrc 0)ᶜ.erase 0 = ∅ from by decide, bigSep_empty]
  iintro ⟨#HR, Hrows, Hcat, HS, HD, HO, Hs, HF⟩
  isplitr; · iexact HR
  isplitl [Hs]; · iexact Hs
  isplitr; · iempintro
  isplitl [HO]; · iexact HO
  isplitl [Hrows]; · iexact Hrows
  isplitl [Hcat]; · iexact Hcat
  isplitl [HS]; · iexact HS
  isplitl [HD] <;> iassumption

theorem src_chunk (c : Dev nD) {q : Fin 4} {S S' : Finset (Fin 16)} (hS : S'.erase 0 = ∅) (hS' : S'ᶜ.erase 0 = Finset.univ.erase 0) {R : sProp 𝕄} :
    srcSt X κ c S' (lastRest X c q S R) ⊢ chunkSt X κ c q 4 S iprop(bigSep (Finset.univ.erase 0) (srcDone X c) ∗ R) := by
  unfold chunkSt srcSt lastRest
  rw [hS, hS', bigSep_empty]
  iintro ⟨#HR, -, Hs, HO, Hrows, Hcat, HS, HD, HF⟩
  isplitr; · iexact HR
  isplitl [Hrows]; · iexact Hrows
  isplitl [Hcat]; · iexact Hcat
  isplitl [HS]; · iexact HS
  isplitl [HD]; · iexact HD
  isplitl [HO]; · iexact HO
  isplitl [Hs] <;> iassumption

/-- A frame beside the chunks can be brought to the front and back. -/
theorem chunk_front (c : Dev nD) {q : Fin 4} {n : ℕ} {S : Finset (Fin 16)} {P R : sProp 𝕄} :
    chunkSt X κ c q n S iprop(P ∗ R) ⊣⊢ iprop(P ∗ chunkSt X κ c q n S R) := by
  unfold chunkSt
  constructor
  · iintro ⟨#HR, Hrows, Hcat, HS, HD, HO, HP, HF⟩
    isplitl [HP]; · iexact HP
    isplitr; · iexact HR
    isplitl [Hrows]; · iexact Hrows
    isplitl [Hcat]; · iexact Hcat
    isplitl [HS]; · iexact HS
    isplitl [HD]; · iexact HD
    isplitl [HO] <;> iassumption
  · iintro ⟨HP, #HR, Hrows, Hcat, HS, HD, HO, HF⟩
    isplitr; · iexact HR
    isplitl [Hrows]; · iexact Hrows
    isplitl [Hcat]; · iexact Hcat
    isplitl [HS]; · iexact HS
    isplitl [HD]; · iexact HD
    isplitl [HO]; · iexact HO
    isplitl [HP] <;> iassumption

set_option maxHeartbeats 4000000 in
/-- The last point. -/
theorem body_last (ht : (i 0).val = 3) {q : Fin 4} {S : Finset (Fin 16)} (hS : ∀ i, dd c q i ∈ S)
    (T : S4.Idx → BitVec 32) (hT : T (ix 3) = qw q) {w : Vec F S1024x8192 .i8} {v u : Vec F S256x8192 .f32} {sx sw : Vec F S1 .f32} {R : sProp 𝕄} :
    chunkSt X κ c q 0 S iprop(tabPt c T ∗ wPt c s w ∗ accPt c v ∗ bigSep (Finset.univ.erase 0) (srcRes c) ∗ sxPt c sx ∗ swPt c sw ∗ outPt c u ∗ R)
      ⊢ WP c (cc0_body (F := F) i (Memref.whole main_v8) h1 xM h2 (stage0_1 s) h3 (Memref.whole cc0_stg2_0) h4
      (Memref.whole cc0_stg3_0) h5 (Memref.whole cc0_stg4_0) h6 commM h7 catM h8 (Memref.whole cc0_scratch2) h9 cc0_scratch3 cc0_scratch4) fun _ =>
      iprop(accPt c (k0_pay7 w v (catV X c q)) ∗ outPt c (k0_pay8 (sx o1) (sw o1) (k0_pay7 w v (catV X c q))) ∗ sxPt c sx ∗ swPt c sw
        ∗ chunkSt X κ c q 4 (left c q S) iprop(bigSep (Finset.univ.erase 0) (srcDone X c) ∗ wPt c s w ∗ tabPt c T ∗ R)) := by
  rw [cc0_body_eq_skeleton]
  unfold cc0_body_skel
  refine wp_seq _ (part10_wpS X κ c i 3 ht (fun h => absurd ((first_iff i 3 ht).mp h) (by decide)) (hS 0) (hS 1) T hT) fun r => pure_sep fun hr => ?_
  subst hr
  simp only [Prog.lift, Prog.bind_op, Prog.bind_ret, Prog.pure_eq_ret, eq_false (fun h => absurd ((eq_iff i 3 ht).mp h) (by decide)), eq_true ((gt_iff i 3 ht).mpr (by decide)),
    (last_iff i 3 ht).mpr rfl, dite_true, dite_false]
  refine wp_own X κ c q 2 (own2 c q) (off59 c) rfl pay1_eq ?_
  refine wp_land X κ c q 2 (mem2 c q hS) (cond23 c q) rfl (off60 c q) (off61 c q) (off62 c q) pay2_eq ?_
  refine wp_own X κ c q 3 (own3 c q) (off63 c) rfl pay3_eq ?_
  refine wp_land X κ c q 3 (mem3 c q hS) (cond25 c q) rfl (off64 c q) (off65 c q) (off66 c q) pay4_eq ?_
  refine (chunk_frame X κ c (R' := iprop(wPt c s w ∗ accPt c v ∗ bigSep (Finset.univ.erase 0) (srcRes c) ∗ tabPt c T ∗ sxPt c sx ∗ swPt c sw ∗ outPt c u ∗ R)) ?_).trans (wp_mmS X κ c q s ?_)
  · iintro ⟨Ht, Hw, Ha, Hs, HF⟩
    isplitl [Hw]; · iexact Hw
    isplitl [Ha]; · iexact Ha
    isplitl [Hs]; · iexact Hs
    isplitl [Ht] <;> iassumption
  refine (chunk_frame X κ c (R' := iprop(bigSep (Finset.univ.erase 0) (srcRes c) ∗ sxPt c sx ∗ swPt c sw ∗ accPt c (k0_pay7 w v (catV X c q)) ∗ outPt c u ∗ wPt c s w ∗ tabPt c T ∗ R)) ?_).trans ((chunk_src X κ c).trans ?_)
  · iintro ⟨Hw, Ha, Hs, Ht, Hx, Hy, Ho, HF⟩
    isplitl [Hs]; · iexact Hs
    isplitl [Hx]; · iexact Hx
    isplitl [Hy]; · iexact Hy
    isplitl [Ha]; · iexact Ha
    isplitl [Ho]; · iexact Ho
    isplitl [Hw]; · iexact Hw
    isplitl [Ht] <;> iassumption
  refine wp_seq _ (part7_wp X κ c i) fun _ => ?_
  refine wp_seq _ (part8_wp X κ c i) fun _ => ?_
  refine wp_seq _ (part9_wp X κ c i) fun _ => ?_
  refine wp_srcWait X κ c 13 (by decide) (by decide) (rfl : _ = sendS 13) rfl ?_
  refine wp_srcWait X κ c 14 (by decide) (by decide) (rfl : _ = sendS 14) rfl ?_
  refine wp_srcWait X κ c 15 (by decide) (by decide) (rfl : _ = sendS 15) rfl ?_
  refine (src_chunk X κ c (by decide) (by decide)).trans ?_
  refine (chunk_front X κ c).1.trans ?_
  refine (ent (Q := iprop(sxPt c sx ∗ swPt c sw ∗ accPt c (k0_pay7 w v (catV X c q)) ∗ outPt c u ∗ chunkSt X κ c q 4 (left c q S) iprop(bigSep (Finset.univ.erase 0) (srcDone X c) ∗ wPt c s w ∗ tabPt c T ∗ R))) ?_).trans (wp_scales c ?_)
  · iintro ⟨Hs, H⟩
    ihave H := (chunk_front X κ c).1 $$ H
    icases H with ⟨Hx, H⟩
    ihave H := (chunk_front X κ c).1 $$ H
    icases H with ⟨Hy, H⟩
    ihave H := (chunk_front X κ c).1 $$ H
    icases H with ⟨Ha, H⟩
    ihave H := (chunk_front X κ c).1 $$ H
    icases H with ⟨Ho, H⟩
    isplitl [Hx]; · iexact Hx
    isplitl [Hy]; · iexact Hy
    isplitl [Ha]; · iexact Ha
    isplitl [Ho]; · iexact Ho
    iapply (chunk_front X κ c).2
    isplitl [Hs]; · iexact Hs
    iexact H
  refine (ent (Q := iprop(accPt c (k0_pay7 w v (catV X c q)) ∗ outPt c u ∗ sxPt c sx ∗ swPt c sw ∗ chunkSt X κ c q 4 (left c q S) iprop(bigSep (Finset.univ.erase 0) (srcDone X c) ∗ wPt c s w ∗ tabPt c T ∗ R))) ?_).trans (wp_store_out c ?_)
  · iintro ⟨Hx, Hy, Ha, Ho, H⟩
    isplitl [Ha]; · iexact Ha
    isplitl [Ho]; · iexact Ho
    isplitl [Hx]; · iexact Hx
    isplitl [Hy] <;> iassumption
  exact wp_done (BI.Entails.refl _)

end
end Cert.Talk
-- ==== Proof.Loop.lean ====
/-
  The six iterations of the pipelined loop as explicit lists of transfers, waits and body calls, for any
  table naming a fresh quadrant at each point.
-/
module

public import proofs.«01_k».proof.Proof.Body
@[expose] public section
noncomputable section
namespace Cert.Talk
open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline
variable {F : FTy → Type} [FloatOps F]
local notation "𝕄" => MT nD τ sig Unit (Elt F) ℕ UU ℕ

variable (A : (pcfg0 (F := F)).Adm)

/-- The table names device `c`'s quadrant at each point. -/
def names (A : (pcfg0 (F := F)).Adm) (c : Dev nD) : Prop := ∀ t : Fin 4, A.1 0 (ix t) = qw (qt c t)

/-- The block of the second window at a point, as the pair of its block numbers. -/
abbrev idx1 (u : Fin 4) : Fin 2 → ℕ := ((cfg0 A).win 1).index u

theorem index1 (c : Dev nD) (h : names A c) (u : Fin 4) : idx1 A u = ![(qt c u).val, 0] := by
  have e : idx1 A u 0 = (A.1 0 (ix u) : BitVec 32).toNat := by
    change BitVec.toNat (A.1.at 0 _ _) = _
    unfold Prefetch.Contents.at
    refine congrArg (fun x => BitVec.toNat (A.1 0 x)) (funext fun (a : Fin 1) => ?_)
    match a with
    | 0 =>
      have g : ∀ u : Fin 4, BitVec.toNat (Scalar.indexCast (BitVec.ofNat 32 (grid0.coords u 0).val)) = u.val := by decide
      exact Fin.ext (g u)
  funext a
  match a with
  | 0 => rw [e, h u]; unfold qw; rw [BitVec.toNat_ofNat]; exact Nat.mod_eq_of_lt (lt_trans (qt c u).isLt (by decide))
  | 1 => rfl

theorem moved (c : Dev nD) (u v : Fin 4) (h : u ≠ v) : (![(qt c u).val, 0] : Fin 2 → ℕ) ≠ ![(qt c v).val, 0] := by
  revert h; revert c u v; decide

theorem fetch1 (c : Dev nD) (h : names A c) (u : Fin 4) : ((cfg0 A).win 1).fetch u = true := by
  unfold Window.fetch
  by_cases h0 : u.val = 0
  · simp only [h0, decide_true, Bool.true_or, Bool.and_true]; rfl
  · have e : decide (∃ h : 0 < u.val, idx1 A u ≠ idx1 A ⟨u.val - 1, by omega⟩) = true := by
      refine decide_eq_true ⟨by omega, ?_⟩
      rw [index1 A c h, index1 A c h]
      exact moved c _ _ fun e => h0 (by
        have := congrArg Fin.val e
        change u.val = u.val - 1 at this
        omega)
    change (true && (decide (u.val = 0) || decide (∃ h : 0 < u.val, idx1 A u ≠ idx1 A ⟨u.val - 1, by omega⟩))) = true
    rw [e, Bool.or_true]; rfl

theorem slot1 (c : Dev nD) (h : names A c) (u : Fin 4) : (cfg0 A).slots u 1 = (⟨u.val % 2, Nat.mod_lt _ (by decide)⟩ : Fin 2) := by
  unfold Cfg.slots
  obtain ⟨u, hu⟩ := u
  induction u with
  | zero => rfl
  | succ t ih =>
    have ih := ih (by omega)
    have e : ((cfg0 A).win 1).slot (t + 1) hu = if ((cfg0 A).win 1).fetch ⟨t + 1, hu⟩ then
      (⟨((((cfg0 A).win 1).slot t (Nat.lt_of_succ_lt hu)).val + 1) % 2, Nat.mod_lt _ (by decide)⟩ : Fin 2)
      else ((cfg0 A).win 1).slot t (Nat.lt_of_succ_lt hu) := rfl
    refine e.trans ((if_pos (fetch1 A c h ⟨t + 1, hu⟩)).trans ?_)
    apply Fin.ext
    change ((((cfg0 A).win 1).slot t (Nat.lt_of_succ_lt hu)).val + 1) % 2 = (t + 1) % 2
    rw [show (((cfg0 A).win 1).slot t (Nat.lt_of_succ_lt hu)).val = t % 2 from congrArg Fin.val ih]
    omega

theorem single0 : ∀ w : Fin 5, ((cfg0 A).win w).single = decide (w ≠ 1) := by intro w; fin_cases w <;> rfl
theorem fetch0 (w : Fin 5) (hw : w ≠ 1) (u : Fin 4) : ((cfg0 A).win w).fetch u = decide (w ≠ 4 ∧ u = 0) := by
  match w, hw with
  | 0, _ => fin_cases u <;> rfl
  | 1, h => exact absurd rfl h
  | 2, _ => fin_cases u <;> rfl
  | 3, _ => fin_cases u <;> rfl
  | 4, _ => fin_cases u <;> rfl
theorem flush0 (w : Fin 5) (u : Fin 4) : ((cfg0 A).win w).flush u = decide (w = 4 ∧ u = 3) := by
  fin_cases w <;> fin_cases u <;> rfl
theorem pro : (cfg0 A).prologue = 1 := by
  unfold Cfg.prologue Cfg.hasInput
  rw [if_pos (decide_eq_true (⟨(0 : Fin 5), rfl⟩ : ∃ w : Fin 5, ((cfg0 A).win w).isOut = false))]
theorem trips : (cfg0 A).tripCount = 6 := by
  unfold Cfg.tripCount Cfg.epilogue Cfg.hasOutput
  rw [pro, if_pos (decide_eq_true (⟨(4 : Fin 5), rfl⟩ : ∃ w : Fin 5, ((cfg0 A).win w).isOut = true))]
  rfl
theorem pt (t d : ℕ) (u : Fin 4) (h : t = u.val + d) : (cfg0 A).point t d = some u := by
  subst h; unfold Cfg.point; rw [dif_pos ⟨by omega, by rw [Nat.add_sub_cancel]; exact u.isLt⟩]; congr 1; apply Fin.ext; simp
theorem npt (t d : ℕ) (h : t < d ∨ d + 4 ≤ t) : (cfg0 A).point t d = none := by
  unfold Cfg.point; rw [dif_neg]; rintro ⟨h1, h2⟩
  have : t - d < 4 := h2
  omega
abbrev PP (F : FTy → Type) [FloatOps F] := Prog (TpuEff nD τ sig (Elt F) (Pipeline.Sig Λ₀ (Fin 1) fun p => (pcfgs (F := F) p).Adm) .tc) PUnit

abbrev eachW (p : Fin 5 → Bool) (f : Fin 5 → PP F → PP F) (k : PP F) : PP F := (cfg0 A).eachWin (P := Fin 1) (A := fun p => (pcfgs (F := F) p).Adm) p f k

theorem each (p : Fin 5 → Bool) (f : Fin 5 → PP F → PP F) (k : PP F) : eachW A p f k
   = (fun g => g 0 (g 1 (g 2 (g 3 (g 4 k))))) (fun w k => if p w then f w k else k) := rfl

theorem each_none (p : Fin 5 → Bool) (f : Fin 5 → PP F → PP F) (k : PP F) (h : ∀ w, p w = false) : eachW A p f k = k := by
  rw [each]; simp [h]
theorem each_w (p : Fin 5 → Bool) (f : Fin 5 → PP F → PP F) (k : PP F) (h : ∀ w, p w = decide (w = 1)) : eachW A p f k = f 1 k := by
  rw [each]; simp [h]
theorem each_once (p : Fin 5 → Bool) (f : Fin 5 → PP F → PP F) (k : PP F) (h : ∀ w, p w = decide (w ≠ 1 ∧ w ≠ 4)) : eachW A p f k = f 0 (f 2 (f 3 k)) := by
  rw [each]; simp [h]
theorem each_in (p : Fin 5 → Bool) (f : Fin 5 → PP F → PP F) (k : PP F) (h : ∀ w, p w = decide (w ≠ 4)) : eachW A p f k = f 0 (f 1 (f 2 (f 3 k))) := by
  rw [each]; simp [h]
theorem each_out (p : Fin 5 → Bool) (f : Fin 5 → PP F → PP F) (k : PP F) (h : ∀ w, p w = decide (w = 4)) : eachW A p f k = f 4 k := by
  rw [each]; simp [h]

theorem fetchF (c : Dev nD) (h : names A c) (w : Fin 5) (u : Fin 4) : ((cfg0 A).win w).fetch u = decide (w = 1 ∨ (w ≠ 4 ∧ u = 0)) := by
  by_cases e : w = 1
  · subst e; exact (fetch1 A c h u).trans (by simp)
  · rw [fetch0 A w e]; simp [e]

theorem pred_single (c : Dev nD) (h : names A c) (u : Fin 4) (w : Fin 5) : (((cfg0 A).win w).single && ((cfg0 A).win w).fetch u) = decide (w ≠ 1 ∧ w ≠ 4 ∧ u = 0) := by
  rw [single0, fetchF A c h]; revert w u; decide
theorem pred_double (c : Dev nD) (h : names A c) (u : Fin 4) (w : Fin 5) : (!((cfg0 A).win w).single && ((cfg0 A).win w).fetch u) = decide (w = 1) := by
  rw [single0, fetchF A c h]; revert w u; decide
theorem pred_out (u : Fin 4) (w : Fin 5) : (((cfg0 A).win w).single && ((cfg0 A).win w).flush u) = decide (w = 4 ∧ u = 3) := by
  rw [single0, flush0]; revert w u; decide
theorem pred_out2 (u : Fin 4) (w : Fin 5) : (!((cfg0 A).win w).single && ((cfg0 A).win w).flush u) = false := by
  rw [single0, flush0]; revert w u; decide

/-! ### The four points and the steps at them -/

abbrev P0 : Fin 4 := 0
abbrev P1 : Fin 4 := 1
abbrev P2 : Fin 4 := 2
abbrev P3 : Fin 4 := 3
abbrev st (w : Fin 5) (u : Fin 4) (k : PP F) : PP F := .op ((cfg0 A).startIn w u) fun _ => k
abbrev wt (w : Fin 5) (u : Fin 4) (k : PP F) : PP F := .op ((cfg0 A).waitIn w u) fun _ => k
abbrev so (w : Fin 5) (u : Fin 4) (k : PP F) : PP F := .op ((cfg0 A).startOut w u) fun _ => k
abbrev wo (w : Fin 5) (u : Fin 4) (k : PP F) : PP F := .op ((cfg0 A).waitOut w u) fun _ => k
abbrev bd (u : Fin 4) (k : PP F) : PP F := .op (.call (kernel (cfg0 A).body) ((cfg0 A).bodyArgs u ((cfg0 A).slots u))) fun _ => k
abbrev nx (ℓ : ℕ) : PP F := .op (.call (pipe 0) (A, ℓ)) fun _ => .ret PUnit.unit
abbrev it (ℓ : ℕ) : PP F := (cfg0 A).iter (P := Fin 1) (A := fun p => (pcfgs (F := F) p).Adm) 0 A ℓ

/-- Iteration by iteration. -/
theorem iter0 (c : Dev nD) (h : names A c) : it A 0 = st A 1 P0 (nx A 1) := by
  unfold it Cfg.iter Cfg.atPoint
  rw [npt A 0 1 (by omega), pt A 0 0 0 rfl, pro, npt A 0 1 (by omega), npt A 0 2 (by omega), trips]
  dsimp only
  refine (each_w A _ _ _ fun w => ?_).trans rfl
  exact pred_double A c h P0 w

theorem iter1 (c : Dev nD) (h : names A c) : it A 1 = st A 0 P0 (st A 2 P0 (st A 3 P0 (st A 1 P1
    (wt A 0 P0 (wt A 1 P0 (wt A 2 P0 (wt A 3 P0 (bd A P0 (nx A 2))))))))) := by
  unfold it Cfg.iter Cfg.atPoint
  rw [pt A 1 1 0 rfl, pt A 1 0 1 rfl, pro, pt A 1 1 0 rfl, npt A 1 2 (by omega), trips]
  dsimp only
  refine (each_once A _ _ _ fun w => (pred_single A c h P0 w).trans (by simp)).trans ?_
  refine congrArg (fun k => st A 0 P0 (st A 2 P0 (st A 3 P0 k))) ?_
  refine (each_w A _ _ _ fun w => pred_double A c h P1 w).trans ?_
  refine congrArg (fun k => st A 1 P1 k) ?_
  refine (each_in A _ _ _ fun w => (fetchF A c h w P0).trans (by revert w; decide)).trans ?_
  refine congrArg (fun k => wt A 0 P0 (wt A 1 P0 (wt A 2 P0 (wt A 3 P0 (bd A P0 k))))) ?_
  refine (each_none A _ _ _ fun w => (flush0 A w P0).trans (by revert w; decide)).trans ?_
  refine (each_none A _ _ _ fun w => (pred_out A P0 w).trans (by revert w; decide)).trans rfl

theorem iter2 (c : Dev nD) (h : names A c) : it A 2 = st A 1 P2 (wt A 1 P1 (bd A P1 (nx A 3))) := by
  unfold it Cfg.iter Cfg.atPoint
  rw [pt A 2 1 1 rfl, pt A 2 0 2 rfl, pro, pt A 2 1 1 rfl, pt A 2 2 0 rfl, trips]
  dsimp only
  refine (each_none A _ _ _ fun w => (pred_single A c h P1 w).trans (by simp)).trans ?_
  refine (each_w A _ _ _ fun w => pred_double A c h P2 w).trans ?_
  refine congrArg (fun k => st A 1 P2 k) ?_
  refine (each_w A _ _ _ fun w => (fetchF A c h w P1).trans (by revert w; decide)).trans ?_
  refine congrArg (fun k => wt A 1 P1 (bd A P1 k)) ?_
  refine (each_none A _ _ _ fun w => (flush0 A w P1).trans (by revert w; decide)).trans ?_
  refine (each_none A _ _ _ fun w => (pred_out A P1 w).trans (by revert w; decide)).trans ?_
  refine (each_none A _ _ _ fun w => (pred_out2 A P0 w)).trans rfl

theorem iter3 (c : Dev nD) (h : names A c) : it A 3 = st A 1 P3 (wt A 1 P2 (bd A P2 (nx A 4))) := by
  unfold it Cfg.iter Cfg.atPoint
  rw [pt A 3 1 2 rfl, pt A 3 0 3 rfl, pro, pt A 3 1 2 rfl, pt A 3 2 1 rfl, trips]
  dsimp only
  refine (each_none A _ _ _ fun w => (pred_single A c h P2 w).trans (by revert w; decide)).trans ?_
  refine (each_w A _ _ _ fun w => pred_double A c h P3 w).trans ?_
  refine congrArg (fun k => st A 1 P3 k) ?_
  refine (each_w A _ _ _ fun w => (fetchF A c h w P2).trans (by revert w; decide)).trans ?_
  refine congrArg (fun k => wt A 1 P2 (bd A P2 k)) ?_
  refine (each_none A _ _ _ fun w => (flush0 A w P2).trans (by revert w; decide)).trans ?_
  refine (each_none A _ _ _ fun w => (pred_out A P2 w).trans (by revert w; decide)).trans ?_
  refine (each_none A _ _ _ fun w => (pred_out2 A P1 w)).trans rfl

theorem iter4 (c : Dev nD) (h : names A c) : it A 4 = wt A 1 P3 (bd A P3 (so A 4 P3 (wo A 4 P3 (nx A 5)))) := by
  unfold it Cfg.iter Cfg.atPoint
  rw [pt A 4 1 3 rfl, npt A 4 0 (by omega), pro, pt A 4 1 3 rfl, pt A 4 2 2 rfl, trips]
  dsimp only
  refine (each_none A _ _ _ fun w => (pred_single A c h P3 w).trans (by revert w; decide)).trans ?_
  refine (each_w A _ _ _ fun w => (fetchF A c h w P3).trans (by revert w; decide)).trans ?_
  refine congrArg (fun k => wt A 1 P3 (bd A P3 k)) ?_
  refine (each_out A _ _ _ fun w => (flush0 A w P3).trans (by revert w; decide)).trans ?_
  refine congrArg (fun k => so A 4 P3 k) ?_
  refine (each_out A _ _ _ fun w => (pred_out A P3 w).trans (by revert w; decide)).trans ?_
  refine congrArg (fun k => wo A 4 P3 k) ?_
  refine (each_none A _ _ _ fun w => (pred_out2 A P2 w)).trans rfl

theorem iter5 : it A 5 = .ret PUnit.unit := by
  unfold it Cfg.iter Cfg.atPoint
  rw [npt A 5 1 (by omega), npt A 5 0 (by omega), pro, npt A 5 1 (by omega), pt A 5 2 3 rfl, trips]
  dsimp only
  exact each_none A _ _ _ fun w => (pred_out2 A P3 w)
end Cert.Talk
-- ==== Proof.Copies.lean ====
/-
  The copies between the arrays and the staging buffers: how each starts, and what its wait gives back.
-/
module

public import proofs.«01_k».proof.Proof.Loop
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ

/-- The variants of the pipelined program over kernels without any. -/
abbrev VL : Variants := Variants.lift Variants.none
/-- The weakest precondition of a program of the whole pipelined call on device `c`. -/
abbrev WL (c : Dev nD) (b : Option VL.V) {α : Type} (P : Prog (TpuEff nD τ sig (Elt F) (Pipeline.Sig Λ₀ (Fin 1) fun p => (pcfgs (F := F) p).Adm) .tc) α) (Q : α → sProp 𝕄) : sProp 𝕄 :=
  wp frame (wpE (defs (F := F)) VL (tc c) b) Set.univ P Q

/-- A transfer under way from `src`, a part of a buffer holding `V`, of which the rest is held beside it. -/
def fly (c : Dev nD) {sp sp' : Space} {s : Shape} {e : EltTy} (src : Memref sig .tc sp s e) (dst : Memref sig .tc sp' s e) (sm : DmaSem sig)
    (q : PosShare TreeShare) (V : Buf (Elt F) (src.view.loc (tc c))) (X : s.Idx → Elt F e) : sProp 𝕄 :=
  iprop(Transfers.Flight EC (tc c) (.dma sm) () dst.view.dmaCredit iprop(owns (tc c) dst fullShare X ∗ (src.view.loc (tc c) ↦[src.view.set]{q} V))
    ∗ (src.view.loc (tc c) ↦[Finset.univ \ src.view.set]{q} V))

theorem part_rest (l : Loc nD τ sig) (S : Finset (Idx l)) (q : PosShare TreeShare) (V : Buf (Elt F) l) :
    (l ↦{q} V : sProp 𝕄) ⊣⊢ iprop((l ↦[S]{q} V) ∗ (l ↦[Finset.univ \ S]{q} V)) :=
  pointsTo_split_subset (Finset.subset_univ S)

theorem wp_take (c : Dev nD) (b : Option VL.V) {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    (q : PosShare TreeShare) (V : Buf (Elt F) (src.view.loc (tc c))) (hN : 0 < dst.view.dmaCredit) {Y : s.Idx → Elt F e}
    {α : Type} {k : PUnit → Prog (TpuEff nD τ sig (Elt F) (Pipeline.Sig Λ₀ (Fin 1) fun p => (pcfgs (F := F) p).Adm) .tc) α} {Q : α → sProp 𝕄} :
    iprop((src.view.loc (tc c) ↦{q} V) ∗ owns (tc c) dst fullShare Y ∗ semVal (tc c, .dma sm) 0)
      ⊢ iprop((fly c src dst sm q V (src.view.read (Elt F) V) -∗ WL c b (k ⟨⟩) Q)
        -∗ WL c b (.op (.enqueueDma src (.here dst) (.dma sm) hsrc hdst hsem) k) Q) := by
  have hm : ∀ fd : dst.view.ty.Contents (Elt F), (Transfers.Flight EC (tc c) (.dma sm) () dst.view.dmaCredit
      iprop((dst.view.loc (tc c) ↦[dst.view.set]{fullShare} (dst.view.write (Elt F) fd (src.view.read (Elt F) V) Finset.univ)) ∗ (src.view.loc (tc c) ↦[src.view.set]{q} V)) : sProp 𝕄)
      ⊢ Transfers.Flight EC (tc c) (.dma sm) () dst.view.dmaCredit iprop(owns (tc c) dst fullShare (src.view.read (Elt F) V) ∗ (src.view.loc (tc c) ↦[src.view.set]{q} V)) :=
    fun fd => Transfers.Flight_mono EC (tc c) (by
      unfold owns
      iintro ⟨Hd, Hs⟩
      isplitl [Hd]
      · iexists _
        isplitr
        · ipureintro; exact View.read_write_univ fd _
        iexact Hd
      · iexact Hs)
  unfold fly owns
  unfold owns at hm
  iintro ⟨Hs, ⟨%fd, %hfd, Hd⟩, Hv⟩ Hk
  ihave Hs := (part_rest _ src.view.set q V).1 $$ Hs
  icases Hs with ⟨Hs, Hr⟩
  iapply (Transfers.wp_dmaLocal EC VL (tc c) b (src := src) (dst := dst) (q := q) (fs := V) (fd := fd) (Sd := dst.view.set) () dst.view.dmaCredit (View.amount_dma _ _) hN (Finset.Subset.refl _)) $$ [Hs Hd Hv]
  · isplitl [Hs]; · iexact Hs
    isplitl [Hd] <;> iassumption
  iintro Hf
  iapply Hk
  isplitl [Hf]
  · iapply (hm fd) $$ Hf
  · iexact Hr

theorem wp_land' (c : Dev nD) (b : Option VL.V) {sp sp' : Space} {s : Shape} {e : EltTy} {src : Memref sig .tc sp s e} {dst : Memref sig .tc sp' s e} {sm : DmaSem sig}
    {hsrc : src.view.WordExact} {hdst : dst.view.WordExact}
    (q : PosShare TreeShare) (V : Buf (Elt F) (src.view.loc (tc c))) {X : s.Idx → Elt F e} {O : CellTallies nD τ sig Unit}
    {α : Type} {k : PUnit → Prog (TpuEff nD τ sig (Elt F) (Pipeline.Sig Λ₀ (Fin 1) fun p => (pcfgs (F := F) p).Adm) .tc) α} {Q : α → sProp 𝕄} :
    iprop(fly c src dst sm q V X ∗ (∃ W, owes (tc c) O W) ∗ MayWait (tc c) (.dma sm) () O)
      ⊢ iprop((iprop((src.view.loc (tc c) ↦{q} V) ∗ owns (tc c) dst fullShare X ∗ semVal (tc c, .dma sm) 0 ∗ (∃ W, owes (tc c) O W)) -∗ WL c b (k ⟨⟩) Q)
        -∗ WL c b (.op (.waitDma2 sm src dst hsrc hdst) k) Q) := by
  unfold fly
  iintro ⟨⟨Hf, Hr⟩, ⟨%W, HO⟩, Hm⟩ Hk
  iapply (Transfers.wp_waitLocalO EC VL (tc c) b () rfl) $$ [Hf HO Hm]
  · isplitl [Hf]; · iexact Hf
    isplitl [HO] <;> iassumption
  iintro ⟨⟨Hd, Hs⟩, Hv, HO⟩
  iapply Hk
  isplitl [Hs Hr]
  · iapply (part_rest _ src.view.set q V).2
    isplitl [Hs] <;> iassumption
  isplitl [Hd]; · iexact Hd
  isplitl [Hv]; · iexact Hv
  iexists _; iexact HO

theorem owns_full (c : Dev nD) (b : Ref sig .tc) {off : Fin b.ty.shape.rank → ℕ} (h0 : off = fun _ => 0) {inb : ∀ a, off a + b.ty.shape.size a ≤ b.ty.shape.size a}
    {hs} (q : PosShare TreeShare) (X : b.ty.Contents (Elt F)) :
    (owns (tc c) ((Memref.whole b).slice (Rect.unit (s := b.ty.shape) off b.ty.shape.size inb) hs) q X : sProp 𝕄) = ((tc c).loc b ↦{q} X) := by
  subst h0
  have hset : ((Memref.whole b).view.slice (Rect.unit (s := b.ty.shape) (fun _ => 0) b.ty.shape.size inb)).set = (Memref.whole b).view.set := by
    rw [View.set_slice, show (Rect.unit (s := b.ty.shape) (fun _ => 0) b.ty.shape.size inb).set = Finset.univ from Rect.set_whole _]; rfl
  have hread (f : b.ty.Contents (Elt F)) :
      ((Memref.whole b).slice (Rect.unit (s := b.ty.shape) (fun _ => 0) b.ty.shape.size inb) hs).view.read (Elt F) f = f := by
    funext x
    exact congrArg f (Rect.emb_whole_apply _ x)
  rw [← owns_whole (tc c) b q X]
  unfold owns
  simp only [hread, Memref.view_slice, hset]
  rfl

variable (A : (pcfg0 (F := F)).Adm)

theorem own_w (c : Dev nD) (u : Fin 4) (s : Fin 2) (w : Vec F S1024x8192 .i8) :
    (owns (tc c) (((cfg0 A).win 1).stg u s) fullShare w : sProp 𝕄) = wPt c s w := by
  match s with
  | 0 => exact owns_full c cc0_stg1_0 rfl fullShare w
  | 1 => exact owns_full c cc0_stg1_1 rfl fullShare w

def xPt (c : Dev nD) (x : Vec F S4096x256 .i8) : sProp 𝕄 := xM.view.loc (tc c) ↦{fullShare} x
theorem own_x (c : Dev nD) (u : Fin 4) (s : Fin 1) (w : Vec F S4096x256 .i8) :
    (owns (tc c) (((cfg0 A).win 0).stg u s) fullShare w : sProp 𝕄) = xPt c w := by
  match s with
  | 0 => exact owns_full c cc0_stg0_0 rfl fullShare w
theorem own_sx (c : Dev nD) (u : Fin 4) (s : Fin 1) (w : Vec F S1 .f32) :
    (owns (tc c) (((cfg0 A).win 2).stg u s) fullShare w : sProp 𝕄) = sxPt c w := by
  match s with
  | 0 => exact owns_full c cc0_stg2_0 rfl fullShare w
theorem own_sw (c : Dev nD) (u : Fin 4) (s : Fin 1) (w : Vec F S1 .f32) :
    (owns (tc c) (((cfg0 A).win 3).stg u s) fullShare w : sProp 𝕄) = swPt c w := by
  match s with
  | 0 => exact owns_full c cc0_stg3_0 rfl fullShare w
theorem own_o (c : Dev nD) (u : Fin 4) (w : Vec F S256x8192 .f32) :
    (owns (tc c) (((cfg0 A).win 4).blk u) fullShare w : sProp 𝕄) = ((tc c).loc main_v9 ↦{fullShare} w) :=
  owns_full c main_v9 (funext fun (a : Fin 2) => by match a with | 0 => exact Nat.zero_mul _ | 1 => exact Nat.zero_mul _) fullShare w

/-- Quadrant `q` of the rows of the weights. -/
def wRows (q : Fin 4) (w : Vec F S4096x8192 .i8) : Vec F S1024x8192 .i8 := fun j =>
  w fun a => match a with
    | 0 => ⟨q.val * 1024 + (j 0).val, by have h1 : (j 0).val < 1024 := (j 0).isLt; have h2 := q.isLt; change _ < 4096; omega⟩
    | 1 => ⟨(j 1).val, (j 1).isLt⟩

theorem read_w (c : Dev nD) (h : names A c) (u : Fin 4) (w : Vec F S4096x8192 .i8) :
    (((cfg0 A).win 1).blk u).view.read (Elt F) w = wRows (qt c u) w := by
  refine funext fun (j : S1024x8192.Idx) => ?_
  refine congrArg w (funext fun (a : Fin 2) => Fin.ext ?_)
  have hi := congrFun (index1 A c h u)
  match a with
  | 0 =>
    change idx1 A u 0 * 1024 + 1 * (j 0).val = (qt c u).val * 1024 + (j 0).val
    rw [hi, Nat.one_mul]; rfl
  | 1 =>
    change idx1 A u 1 * 8192 + 1 * (j 1).val = (j 1).val
    rw [hi, Nat.one_mul]; simp

theorem zz (n m : ℕ) : 0 * n + 1 * m = m := by omega

theorem read_x (u : Fin 4) (w : Vec F S4096x256 .i8) : (((cfg0 A).win 0).blk u).view.read (Elt F) w = w := by
  refine funext fun (j : S4096x256.Idx) => ?_
  refine congrArg w (funext fun (a : Fin 2) => Fin.ext ?_)
  match a with
  | 0 => exact zz _ _
  | 1 => exact zz _ _
theorem read_sx (u : Fin 4) (w : Vec F S1 .f32) : (((cfg0 A).win 2).blk u).view.read (Elt F) w = w := by
  refine funext fun (j : S1.Idx) => ?_
  refine congrArg w (funext fun (a : Fin 1) => Fin.ext ?_)
  match a with
  | 0 => exact zz _ _
theorem read_sw (u : Fin 4) (w : Vec F S1 .f32) : (((cfg0 A).win 3).blk u).view.read (Elt F) w = w := by
  refine funext fun (j : S1.Idx) => ?_
  refine congrArg w (funext fun (a : Fin 1) => Fin.ext ?_)
  match a with
  | 0 => exact zz _ _
theorem own_out (c : Dev nD) (u : Fin 4) (s : Fin 1) (w : Vec F S256x8192 .f32) :
    (owns (tc c) (((cfg0 A).win 4).stg u s) fullShare w : sProp 𝕄) = outPt c w := by
  match s with
  | 0 => exact owns_full c cc0_stg4_0 rfl fullShare w

end Cert.Talk
-- ==== Proof.Windows.lean ====
/-
  The steps of the pipelined loop on one device: each transfer begun, each wait, each call of the body.
-/
module

public import proofs.«01_k».proof.Proof.Copies
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (A : (pcfg0 (F := F)).Adm)

/-- The count of device `c`'s DMA semaphore `s` is zero. -/
abbrev semZ (c : Dev nD) (s : DmaSem sig) : sProp 𝕄 := semVal (tc c, .dma s) 0

section any
variable (cfg : Cfg sig Λ₀) (c : Dev nD) {b : Option VL.V} {k : PP F} {q : PosShare TreeShare} (w : Fin cfg.W) (u : Fin cfg.N)

theorem cfg_start {Q : PUnit → sProp 𝕄} (hN : ∀ i, 0 < ((cfg.win w).xblock i).numel) (V : Buf (Elt F) (((cfg.win w).blk u).view.loc (tc c))) {X} (hX : ((cfg.win w).blk u).view.read (Elt F) V = X) {Y} :
    iprop((((cfg.win w).blk u).view.loc (tc c) ↦{q} V) ∗ owns (tc c) ((cfg.win w).stg u (cfg.slots u w)) fullShare Y ∗ semZ (F := F) c ((cfg.win w).sem (cfg.slots u w)))
      ⊢ iprop((fly c ((cfg.win w).blk u) ((cfg.win w).stg u (cfg.slots u w)) ((cfg.win w).sem (cfg.slots u w)) q V X -∗ WL c b k Q)
        -∗ WL c b (.op (cfg.startIn w u) fun _ => k) Q) := by
  subst hX
  exact wp_take c b (k := fun _ => k) (dst := (cfg.win w).stg u (cfg.slots u w)) (sm := (cfg.win w).sem (cfg.slots u w)) q V (View.dmaCredit_pos _ (hN _))

theorem cfg_land {Q : PUnit → sProp 𝕄} (V : Buf (Elt F) (((cfg.win w).blk u).view.loc (tc c))) {X} {O : CellTallies nD τ sig Unit} :
    iprop(fly c ((cfg.win w).blk u) ((cfg.win w).stg u (cfg.slots u w)) ((cfg.win w).sem (cfg.slots u w)) q V X ∗ (∃ W, owes (tc c) O W) ∗ MayWait (tc c) (.dma ((cfg.win w).sem (cfg.slots u w))) () O)
      ⊢ iprop((iprop((((cfg.win w).blk u).view.loc (tc c) ↦{q} V) ∗ owns (tc c) ((cfg.win w).stg u (cfg.slots u w)) fullShare X ∗ semZ (F := F) c ((cfg.win w).sem (cfg.slots u w)) ∗ (∃ W, owes (tc c) O W)) -∗ WL c b k Q)
        -∗ WL c b (.op (cfg.waitIn w u) fun _ => k) Q) :=
  wp_land' c b (k := fun _ => k) (hsrc := (cfg.win w).wordExact_blk u) (hdst := (cfg.win w).wordExact_stg u _) (dst := (cfg.win w).stg u (cfg.slots u w)) (sm := (cfg.win w).sem (cfg.slots u w)) q V

theorem cfg_startO {Q : PUnit → sProp 𝕄} (hN : ∀ i, 0 < ((cfg.win w).xblock i).numel) (V : Buf (Elt F) (((cfg.win w).stg u (cfg.slots u w)).view.loc (tc c))) {X} (hX : ((cfg.win w).stg u (cfg.slots u w)).view.read (Elt F) V = X) {Y} :
    iprop((((cfg.win w).stg u (cfg.slots u w)).view.loc (tc c) ↦{q} V) ∗ owns (tc c) ((cfg.win w).blk u) fullShare Y ∗ semZ (F := F) c ((cfg.win w).sem (cfg.slots u w)))
      ⊢ iprop((fly c ((cfg.win w).stg u (cfg.slots u w)) ((cfg.win w).blk u) ((cfg.win w).sem (cfg.slots u w)) q V X -∗ WL c b k Q)
        -∗ WL c b (.op (cfg.startOut w u) fun _ => k) Q) := by
  subst hX
  exact wp_take c b (k := fun _ => k) (dst := (cfg.win w).blk u) (sm := (cfg.win w).sem (cfg.slots u w)) q V (View.dmaCredit_pos _ (hN _))

theorem cfg_landO {Q : PUnit → sProp 𝕄} (V : Buf (Elt F) (((cfg.win w).stg u (cfg.slots u w)).view.loc (tc c))) {X} {O : CellTallies nD τ sig Unit} :
    iprop(fly c ((cfg.win w).stg u (cfg.slots u w)) ((cfg.win w).blk u) ((cfg.win w).sem (cfg.slots u w)) q V X ∗ (∃ W, owes (tc c) O W) ∗ MayWait (tc c) (.dma ((cfg.win w).sem (cfg.slots u w))) () O)
      ⊢ iprop((iprop((((cfg.win w).stg u (cfg.slots u w)).view.loc (tc c) ↦{q} V) ∗ owns (tc c) ((cfg.win w).blk u) fullShare X ∗ semZ (F := F) c ((cfg.win w).sem (cfg.slots u w)) ∗ (∃ W, owes (tc c) O W)) -∗ WL c b k Q)
        -∗ WL c b (.op (cfg.waitOut w u) fun _ => k) Q) :=
  wp_land' c b (k := fun _ => k) (hsrc := (cfg.win w).wordExact_stg u _) (hdst := (cfg.win w).wordExact_blk u) (dst := (cfg.win w).blk u) (sm := (cfg.win w).sem (cfg.slots u w)) q V

theorem cfg_body (n : ℕ) {P J : sProp 𝕄} {Q : PUnit → sProp 𝕄}
    (h : P ⊢ WP c (defs₀ (F := F) .tc cfg.body (cfg.bodyArgs u (cfg.slots u))) fun _ => J)
    (hk : J ⊢ WL c (some (.inr n)) k Q) : P ⊢ WL c (some (.inr n)) (.op (.call (kernel cfg.body) (cfg.bodyArgs u (cfg.slots u))) fun _ => k) Q := by
  unfold WL
  iintro H
  iapply (wp_call VL (tc c) (some (.inr n)) Set.univ (Q := Q) (ℓ := kernel cfg.body) (a := cfg.bodyArgs u (cfg.slots u)) (k := fun _ => k) (Sum.inl none)
    (fun v hv => by cases hv; exact Sum.Lex.sep _ _))
  iapply (wp_wand_r frame _ Set.univ)
  isplitl [H]
  · iapply (wp_liftProg (Pipeline.defs (pcfgs (F := F)) defs₀) (defs_kernel pcfgs defs₀) Variants.none (tc c) Set.univ none (defs₀ (F := F) .tc cfg.body (cfg.bodyArgs u (cfg.slots u))) (fun _ => J))
    iapply h $$ H
  · iintro %x HJ
    iapply hk $$ HJ

end any

/-- One more iteration, for any pipelined program. -/
theorem next_any (AA : Fin 1 → Type) (D : Defs nD τ sig (Elt F) (Pipeline.Sig Λ₀ (Fin 1) AA)) (c : Dev nD) (a : AA 0) (ℓ n : ℕ)
    (M : Prog (TpuEff nD τ sig (Elt F) (Pipeline.Sig Λ₀ (Fin 1) AA) .tc) PUnit) (hD : D .tc (pipe 0) (a, ℓ) = M) (Q : PUnit → sProp 𝕄) :
    wp frame (wpE D VL (tc c) (some (.inr n))) Set.univ M Q
      ⊢ wp frame (wpE D VL (tc c) (some (.inr (n + 1)))) Set.univ (.op (.call (pipe 0) (a, ℓ)) fun _ => .ret PUnit.unit) Q := by
  subst hD
  iintro H
  iapply (wp_call VL (tc c) (some (.inr (n + 1))) Set.univ (Q := Q) (ℓ := pipe 0) (a := (a, ℓ)) (k := fun _ => .ret PUnit.unit) (Sum.inr n)
    (fun v hv => by cases hv; exact Sum.Lex.inr (Nat.lt_succ_self _)))
  iapply (wp_wand_r frame _ Set.univ)
  isplitl [H]; · iexact H
  iintro %x HJ
  rw [wp_ret]
  imodintro
  iexact HJ

theorem call_next (c : Dev nD) (ℓ n : ℕ) {P : sProp 𝕄} {Q : PUnit → sProp 𝕄} (h : P ⊢ WL c (some (.inr n)) (it A ℓ) Q) :
    P ⊢ WL c (some (.inr (n + 1))) (nx A ℓ) Q :=
  h.trans (next_any _ (defs (F := F)) c A ℓ n _ (defs_tc_pipe pcfgs defs₀ 0 A ℓ) Q)
theorem numel_pos (w : Fin 5) (i : (cfg0 A).grid.Coords) : 0 < (((cfg0 A).win w).xblock i).numel := by
  match w with
  | 0 => exact block_pos0 0
  | 1 => exact block_pos0 1
  | 2 => exact block_pos0 2
  | 3 => exact block_pos0 3
  | 4 => exact block_pos0 4

/-- The weights' rows of point `u` are on their way to slot `s`. -/
def inW (c : Dev nD) (u : Fin 4) (s : Fin 2) (q : PosShare TreeShare) (w : Vec F S4096x8192 .i8) : sProp 𝕄 :=
  fly c (((cfg0 A).win 1).blk u) (((cfg0 A).win 1).stg u s) (((cfg0 A).win 1).sem s) q w (wRows (qt c u) w)
/-- The operand, the two scales on their way; the result on its way out. -/
def inX (c : Dev nD) (q : PosShare TreeShare) (x : Vec F S4096x256 .i8) : sProp 𝕄 :=
  fly c (((cfg0 A).win 0).blk P0) (((cfg0 A).win 0).stg P0 (0 : Fin 1)) (((cfg0 A).win 0).sem (0 : Fin 1)) q x x
def inSx (c : Dev nD) (q : PosShare TreeShare) (x : Vec F S1 .f32) : sProp 𝕄 :=
  fly c (((cfg0 A).win 2).blk P0) (((cfg0 A).win 2).stg P0 (0 : Fin 1)) (((cfg0 A).win 2).sem (0 : Fin 1)) q x x
def inSw (c : Dev nD) (q : PosShare TreeShare) (x : Vec F S1 .f32) : sProp 𝕄 :=
  fly c (((cfg0 A).win 3).blk P0) (((cfg0 A).win 3).stg P0 (0 : Fin 1)) (((cfg0 A).win 3).sem (0 : Fin 1)) q x x
def outO (c : Dev nD) (y : Vec F S256x8192 .f32) : sProp 𝕄 :=
  fly c (((cfg0 A).win 4).stg P3 (0 : Fin 1)) (((cfg0 A).win 4).blk P3) (((cfg0 A).win 4).sem (0 : Fin 1)) fullShare y y

section steps
variable (c : Dev nD) {b : Option VL.V} {k : PP F} (q : PosShare TreeShare)

theorem start_w {Q : PUnit → sProp 𝕄} (h : names A c) (u : Fin 4) (s : Fin 2) (hs : (cfg0 A).slots u 1 = s) (w : Vec F S4096x8192 .i8) {y : Vec F S1024x8192 .i8} :
    iprop(((tc c).loc main_arg1 ↦{q} w) ∗ wPt c s y ∗ semZ (F := F) c (sem0_1 s)) ⊢ iprop((inW A c u s q w -∗ WL c b k Q) -∗ WL c b (st A 1 u k) Q) := by
  rw [← own_w A c u s]; unfold inW
  subst hs
  exact cfg_start (cfg0 A) c 1 u (numel_pos A 1) w (read_w A c h u w)

theorem land_w {Q : PUnit → sProp 𝕄} (u : Fin 4) (s : Fin 2) (hs : (cfg0 A).slots u 1 = s) (w : Vec F S4096x8192 .i8) {O : CellTallies nD τ sig Unit} :
    iprop(inW A c u s q w ∗ (∃ W, owes (tc c) O W) ∗ MayWait (tc c) (.dma (sem0_1 s)) () O) ⊢
      iprop((iprop(((tc c).loc main_arg1 ↦{q} w) ∗ wPt c s (wRows (qt c u) w) ∗ semZ (F := F) c (sem0_1 s) ∗ (∃ W, owes (tc c) O W)) -∗ WL c b k Q)
        -∗ WL c b (wt A 1 u k) Q) := by
  rw [← own_w A c u s]; unfold inW
  subst hs
  exact cfg_land (cfg0 A) c 1 u w

theorem start_x {Q : PUnit → sProp 𝕄} (x : Vec F S4096x256 .i8) {y : Vec F S4096x256 .i8} :
    iprop(((tc c).loc main_arg0 ↦{q} x) ∗ xPt c y ∗ semZ (F := F) c (sem0_0 0)) ⊢ iprop((inX A c q x -∗ WL c b k Q) -∗ WL c b (st A 0 P0 k) Q) := by
  rw [← own_x A c P0 (0 : Fin 1)]
  unfold inX
  exact cfg_start (cfg0 A) c 0 P0 (numel_pos A 0) x (read_x A P0 x)

theorem land_x {Q : PUnit → sProp 𝕄} (x : Vec F S4096x256 .i8) {O : CellTallies nD τ sig Unit} :
    iprop(inX A c q x ∗ (∃ W, owes (tc c) O W) ∗ MayWait (tc c) (.dma (sem0_0 0)) () O) ⊢
      iprop((iprop(((tc c).loc main_arg0 ↦{q} x) ∗ xPt c x ∗ semZ (F := F) c (sem0_0 0) ∗ (∃ W, owes (tc c) O W)) -∗ WL c b k Q)
        -∗ WL c b (wt A 0 P0 k) Q) := by
  rw [← own_x A c P0 (0 : Fin 1)]; unfold inX
  exact cfg_land (cfg0 A) c 0 P0 x

theorem start_sx {Q : PUnit → sProp 𝕄} (x : Vec F S1 .f32) {y : Vec F S1 .f32} :
    iprop(((tc c).loc main_arg2 ↦{q} x) ∗ sxPt c y ∗ semZ (F := F) c (sem0_2 0)) ⊢ iprop((inSx A c q x -∗ WL c b k Q) -∗ WL c b (st A 2 P0 k) Q) := by
  rw [← own_sx A c P0 (0 : Fin 1)]
  unfold inSx
  exact cfg_start (cfg0 A) c 2 P0 (numel_pos A 2) x (read_sx A P0 x)

theorem land_sx {Q : PUnit → sProp 𝕄} (x : Vec F S1 .f32) {O : CellTallies nD τ sig Unit} :
    iprop(inSx A c q x ∗ (∃ W, owes (tc c) O W) ∗ MayWait (tc c) (.dma (sem0_2 0)) () O) ⊢
      iprop((iprop(((tc c).loc main_arg2 ↦{q} x) ∗ sxPt c x ∗ semZ (F := F) c (sem0_2 0) ∗ (∃ W, owes (tc c) O W)) -∗ WL c b k Q)
        -∗ WL c b (wt A 2 P0 k) Q) := by
  rw [← own_sx A c P0 (0 : Fin 1)]; unfold inSx
  exact cfg_land (cfg0 A) c 2 P0 x

theorem start_sw {Q : PUnit → sProp 𝕄} (x : Vec F S1 .f32) {y : Vec F S1 .f32} :
    iprop(((tc c).loc main_arg3 ↦{q} x) ∗ swPt c y ∗ semZ (F := F) c (sem0_3 0)) ⊢ iprop((inSw A c q x -∗ WL c b k Q) -∗ WL c b (st A 3 P0 k) Q) := by
  rw [← own_sw A c P0 (0 : Fin 1)]
  unfold inSw
  exact cfg_start (cfg0 A) c 3 P0 (numel_pos A 3) x (read_sw A P0 x)

theorem land_sw {Q : PUnit → sProp 𝕄} (x : Vec F S1 .f32) {O : CellTallies nD τ sig Unit} :
    iprop(inSw A c q x ∗ (∃ W, owes (tc c) O W) ∗ MayWait (tc c) (.dma (sem0_3 0)) () O) ⊢
      iprop((iprop(((tc c).loc main_arg3 ↦{q} x) ∗ swPt c x ∗ semZ (F := F) c (sem0_3 0) ∗ (∃ W, owes (tc c) O W)) -∗ WL c b k Q)
        -∗ WL c b (wt A 3 P0 k) Q) := by
  rw [← own_sw A c P0 (0 : Fin 1)]; unfold inSw
  exact cfg_land (cfg0 A) c 3 P0 x

theorem read_out (y : Vec F S256x8192 .f32) : (((cfg0 A).win 4).stg P3 (0 : Fin 1)).view.read (Elt F) y = y := by
  refine funext fun (j : S256x8192.Idx) => ?_
  refine congrArg y (funext fun (a : Fin 2) => Fin.ext ?_)
  have z (n : ℕ) : 0 + 1 * n = n := by omega
  match a with
  | 0 => exact z _
  | 1 => exact z _

theorem start_o {Q : PUnit → sProp 𝕄} (y : Vec F S256x8192 .f32) {z : Vec F S256x8192 .f32} :
    iprop(outPt c y ∗ ((tc c).loc main_v9 ↦{fullShare} z) ∗ semZ (F := F) c (sem0_4 0)) ⊢ iprop((outO A c y -∗ WL c b k Q) -∗ WL c b (so A 4 P3 k) Q) := by
  rw [← own_o A c P3]
  unfold outO
  exact cfg_startO (cfg0 A) c 4 P3 (numel_pos A 4) y (read_out A y)

theorem land_o {Q : PUnit → sProp 𝕄} (y : Vec F S256x8192 .f32) {O : CellTallies nD τ sig Unit} :
    iprop(outO A c y ∗ (∃ W, owes (tc c) O W) ∗ MayWait (tc c) (.dma (sem0_4 0)) () O) ⊢
      iprop((iprop(outPt c y ∗ ((tc c).loc main_v9 ↦{fullShare} y) ∗ semZ (F := F) c (sem0_4 0) ∗ (∃ W, owes (tc c) O W)) -∗ WL c b k Q)
        -∗ WL c b (wo A 4 P3 k) Q) := by
  rw [← own_o A c P3]; unfold outO
  exact cfg_landO (cfg0 A) c 4 P3 y

/-- The call of the body at point `u`, its weights in slot `s`. -/
theorem call_body (u : Fin 4) (s : Fin 2) (hs : (cfg0 A).slots u 1 = s) (n : ℕ) {P J : sProp 𝕄} {Q : PUnit → sProp 𝕄}
    (h : ∀ h1 h2 h3 h4 h5 h6 h7 h8 h9, P ⊢ WP c (cc0_body (F := F) (grid0.coords u) (Memref.whole main_v8) h1 xM h2 (stage0_1 s) h3 (Memref.whole cc0_stg2_0) h4
      (Memref.whole cc0_stg3_0) h5 (Memref.whole cc0_stg4_0) h6 commM h7 catM h8 (Memref.whole cc0_scratch2) h9 cc0_scratch3 cc0_scratch4) fun _ => J)
    (hk : J ⊢ WL c (some (.inr n)) k Q) : P ⊢ WL c (some (.inr n)) (bd A u k) Q := by
  refine cfg_body (cfg0 A) c u n ?_ hk
  subst hs
  have e0 : (cfg0 A).slots u 0 = (0 : Fin 1) := Subsingleton.elim (α := Fin 1) _ _
  have e2 : (cfg0 A).slots u 2 = (0 : Fin 1) := Subsingleton.elim (α := Fin 1) _ _
  have e3 : (cfg0 A).slots u 3 = (0 : Fin 1) := Subsingleton.elim (α := Fin 1) _ _
  have e4 : (cfg0 A).slots u 4 = (0 : Fin 1) := Subsingleton.elim (α := Fin 1) _ _
  generalize (cfg0 A).slots u = z at *
  obtain ⟨z1, hz⟩ : ∃ z1 : Fin 2, z1 = z 1 := ⟨_, rfl⟩
  have hz' : z = (fun | 0 => (0 : Fin 1) | 1 => z1 | 2 => (0 : Fin 1) | 3 => (0 : Fin 1) | 4 => (0 : Fin 1) : (w : Fin 5) → Fin ((spec0 w).nbuf)) := by
    funext (w : Fin 5)
    match w with
    | 0 => exact e0
    | 1 => exact hz.symm
    | 2 => exact e2
    | 3 => exact e3
    | 4 => exact e4
  rw [← hz] at h
  rw [hz']
  exact h _ _ _ _ _ _ _ _ _

end steps
end Cert.Talk
-- ==== Proof.Blocks.lean ====
/-
  The operand's staging buffer held by blocks of rows, and the landing buffer held by slots.
-/
module

public import proofs.«01_k».proof.Proof.Windows
public import Idealize.ShloMosaic.Lib.Ring
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Ring
variable {F : FTy → Type} [FloatOps F]
local notation "𝕄" => MT nD τ sig Unit (Elt F) ℕ UU ℕ
variable (X : Xs F)

abbrev rowR (t : Fin 16) : Rect S4096x256 := Rect.unit (s := S4096x256) ![t.val * 256, 0] S256x256.size (inb_rows t)
theorem row_set (t : Fin 16) : ((rowsM t).view.set : Finset cc0_stg0_0.ty.Idx) = (rowR t).set := View.set_slice_whole _ _
theorem slot_set' (d : Fin 16) : ((slotM d).view.set : Finset cc0_scratch0.ty.Idx) = (slotR d).set := (slot_set d).trans (View.set_slice_whole _ _)

theorem rows_disj (t t' : Fin 16) (h : t ≠ t') : Disjoint (rowR t).set (rowR t').set :=
  lead_disjoint (s := S4096x256) (NB := 16) 0 256 (fun t => ![t.val * 256, 0]) S256x256.size inb_rows (fun b => Nat.mul_comm _ _) rfl t t' h
theorem rows_cover : Finset.univ.biUnion (fun t => (rowR t).set) = Finset.univ :=
  lead_cover (s := S4096x256) (NB := 16) 0 256 (fun t => ![t.val * 256, 0]) S256x256.size inb_rows (fun b => Nat.mul_comm _ _) (by decide) rfl (by decide) rfl
theorem slots_disj (t t' : Fin 16) (h : t ≠ t') : Disjoint (slotR t).set (slotR t').set :=
  lead_disjoint (s := S16x256x256) (NB := 16) 0 1 (fun t => ![t.val, 0, 0]) S1x256x256.size inb_slot (fun b => (Nat.one_mul _).symm) rfl t t' h
theorem slots_cover : Finset.univ.biUnion (fun t => (slotR t).set) = Finset.univ :=
  lead_cover (s := S16x256x256) (NB := 16) 0 1 (fun t => ![t.val, 0, 0]) S1x256x256.size inb_slot (fun b => (Nat.one_mul _).symm) (by decide) rfl (by decide) rfl

/-- The elements of the operand's staging buffer, and of the landing buffer, block by block. -/
def rowSets (c : Dev nD) (t : Fin 16) : Finset (Idx (xM.view.loc (tc c))) := (rowsM t).view.set
def slotSets (c : Dev nD) (t : Fin 16) : Finset (Idx (commM.view.loc (tc c))) := (slotM t).view.set

theorem mem_rowSets (c : Dev nD) (t : Fin 16) (i : S4096x256.Idx) : i ∈ rowSets c t ↔ i ∈ (rowR t).set := by
  unfold rowSets; rw [← row_set]
theorem mem_slotSets (c : Dev nD) (t : Fin 16) (i : S16x256x256.Idx) : i ∈ slotSets c t ↔ i ∈ (slotR t).set := by
  unfold slotSets; rw [← slot_set']

theorem rowSets_disj (c : Dev nD) (t t' : Fin 16) (h : t ≠ t') : Disjoint (rowSets c t) (rowSets c t') :=
  Finset.disjoint_left.mpr fun i hi hi' => Finset.disjoint_left.mp (rows_disj t t' h) ((mem_rowSets c t i).mp hi) ((mem_rowSets c t' i).mp hi')
theorem slotSets_disj (c : Dev nD) (t t' : Fin 16) (h : t ≠ t') : Disjoint (slotSets c t) (slotSets c t') :=
  Finset.disjoint_left.mpr fun i hi hi' => Finset.disjoint_left.mp (slots_disj t t' h) ((mem_slotSets c t i).mp hi) ((mem_slotSets c t' i).mp hi')
theorem rowSets_cover (c : Dev nD) : Finset.univ.biUnion (rowSets c) = Finset.univ := by
  refine Finset.eq_univ_iff_forall.mpr fun i => Finset.mem_biUnion.mpr ?_
  have h : i ∈ Finset.univ.biUnion (fun t => (rowR t).set) := rows_cover ▸ Finset.mem_univ _
  obtain ⟨t, ht, hm⟩ := Finset.mem_biUnion.mp h
  exact ⟨t, ht, (mem_rowSets c t i).mpr hm⟩
theorem slotSets_cover (c : Dev nD) : Finset.univ.biUnion (slotSets c) = Finset.univ := by
  refine Finset.eq_univ_iff_forall.mpr fun i => Finset.mem_biUnion.mpr ?_
  have h : i ∈ Finset.univ.biUnion (fun t => (slotR t).set) := slots_cover ▸ Finset.mem_univ _
  obtain ⟨t, ht, hm⟩ := Finset.mem_biUnion.mp h
  exact ⟨t, ht, (mem_slotSets c t i).mpr hm⟩

/-- Going round the mesh by `c`, and going backwards. -/
def around (c : Fin 16) : Fin 16 ≃ Fin 16 := ⟨fun d => c + d, fun d => d - c, by intro d; revert c d; decide, by intro d; revert c d; decide⟩
def backwards : Fin 16 ≃ Fin 16 := ⟨fun d => -d, fun d => -d, by decide, by decide⟩

theorem x_blocks (c : Dev nD) : xPt c (X c) = (bigSep Finset.univ fun t => rowsPt X c t : sProp 𝕄) :=
  pointsTo_blocks (rowSets c) (rowSets_disj c) (rowSets_cover c) (X c)

theorem x_split (c : Dev nD) : xPt c (X c) = (iprop(rowsPt X c c ∗ bigSep (Finset.univ.erase 0) fun d => rowsPt X c (c + d)) : sProp 𝕄) := by
  rw [x_blocks, bigSep_univ_equiv (around c), bigSep_erase (Finset.mem_univ (0 : Fin 16))]
  refine congrArg₂ _ ?_ rfl
  change rowsPt X c (c + 0) = _
  rw [show c + 0 = c from by revert c; decide]

theorem comm_split (c : Dev nD) (f : Vec F S16x256x256 .i8) :
    (commM.view.loc (tc c) ↦{fullShare} f : sProp 𝕄) ⊢ iprop(slotAny (F := F) c 0 ∗ bigSep (Finset.univ.erase 0) fun d => slotAny (F := F) c (-d)) := by
  have h : (commM.view.loc (tc c) ↦{fullShare} f : sProp 𝕄) = bigSep Finset.univ fun t => commM.view.loc (tc c) ↦[slotSets c t]{fullShare} f :=
    pointsTo_blocks (slotSets c) (slotSets_disj c) (slotSets_cover c) f
  rw [h]
  refine (bigSep_mono (Ψ := slotAny (F := F) c) fun d _ => ?_).trans ?_
  · refine ent (Q := slotAny (F := F) c d) ?_; iintro H; iexists f; iexact H
  rw [bigSep_univ_equiv backwards, bigSep_erase (Finset.mem_univ (0 : Fin 16))]
  refine Entails.of_eq (congrArg₂ BIBase.sep (?_ : slotAny (F := F) c (-0) = slotAny (F := F) c 0) rfl)
  rw [show (-0 : Fin 16) = 0 from rfl]

theorem comm_join (c : Dev nD) :
    iprop(slotAny (F := F) c 0 ∗ bigSep (Finset.univ.erase 0) fun d => slotFull X c d) ⊢ (iprop(∃ f : Vec F S16x256x256 .i8, commM.view.loc (tc c) ↦{fullShare} f) : sProp 𝕄) := by
  have h : (bigSep Finset.univ (fun t => iprop(∃ f, commM.view.loc (tc c) ↦[slotSets c t]{fullShare} f)) : sProp 𝕄) ⊢ iprop(∃ f : Vec F S16x256x256 .i8, commM.view.loc (tc c) ↦{fullShare} f) :=
    pointsTo_blocks_join_exists (slotSets c) (slotSets_disj c) (slotSets_cover c) (fun _ => (0 : BitVec 8))
  refine BI.Entails.trans ?_ h
  rw [bigSep_erase (Finset.mem_univ (0 : Fin 16))]
  refine BI.sep_mono (BI.Entails.refl _) (bigSep_mono fun d _ => ?_)
  unfold slotFull owns
  refine ent (Q := iprop(∃ f, commM.view.loc (tc c) ↦[slotSets c d]{fullShare} f)) ?_
  iintro ⟨%f, -, H⟩
  iexists f; iexact H
end Cert.Talk
-- ==== Proof.Iterations.lean ====
/-
  The pipelined loop on one device, iteration by iteration: what it holds between two of them.
-/
module

public import proofs.«01_k».proof.Proof.Blocks
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (X : Xs F) (κ : GSem nD τ sig → ℕ)
variable (A : (pcfg0 (F := F)).Adm)

/-- What a device brings to its talk, its staged windows apart. -/
def gear (c : Dev nD) (T : S4.Idx → BitVec 32) : sProp 𝕄 :=
  iprop(recs X κ ∗ opened (F := F) c ∗ bigSep (Finset.univ.erase 0) (sigRes (F := F) c) ∗ levAts L lv ∗ cred (tallyAt (barCell c) () 15) ∗ atPos ET (barCell c) 0 ∅ 0
    ∗ bigSep (Finset.univ.erase 0) (fun d => iprop(dutyTok ET (sendCell c d) 0 0 ∗ dutyTok ET (recvCell (c + d) d) 0 0))
    ∗ catPre X c (qt c 0) 0 ∗ bigSep (Finset.univ.erase 0) (rcvRes (F := F) c) ∗ tabPt (F := F) c T ∗ (∃ v, accPt (F := F) c v))

/-- An array held whole. -/
abbrev arr (c : Dev nD) (b : Ref sig .tc) (q : PosShare TreeShare) (x : b.ty.Contents (Elt F)) : sProp 𝕄 := (tc c).loc b ↦{q} x

section points
variable (c : Dev nD) (i : grid0.Coords) (s : Fin 2) {h1 h2 h3 h4 h5 h6 h7 h8 h9}

theorem body0 (ht : (i 0).val = 0) (T : S4.Idx → BitVec 32) (hT : T (ix 0) = qw (qt c 0)) {w : Vec F S1024x8192 .i8} {R : sProp 𝕄} :
    iprop(gear X κ c T ∗ xPt c (X c) ∗ (∃ W, owes (tc c) (O₀ c) W) ∗ wPt c s w ∗ R)
      ⊢ WP c (cc0_body (F := F) i (Memref.whole main_v8) h1 xM h2 (stage0_1 s) h3 (Memref.whole cc0_stg2_0) h4
      (Memref.whole cc0_stg3_0) h5 (Memref.whole cc0_stg4_0) h6 commM h7 catM h8 (Memref.whole cc0_scratch2) h9 cc0_scratch3 cc0_scratch4) fun _ =>
      chunkSt X κ c (qt c 0) 4 (left c (qt c 0) Finset.univ) iprop(wPt c s w ∗ accPt c (k0_pay6 w (catV X c (qt c 0))) ∗ tabPt c T ∗ atPos ET (barCell c) (0 + 1) ∅ 0 ∗ bigSep (Finset.univ.erase 0) (sendDone (F := F) c) ∗ R) := by
  have hrow : (iprop((bigSep (Finset.univ.erase 0) fun d => rowsPt X c (c + d)) ∗ bigSep (Finset.univ.erase 0) (fun d => iprop(dutyTok ET (sendCell c d) 0 0 ∗ dutyTok ET (recvCell (c + d) d) 0 0))) : sProp 𝕄)
      = bigSep (Finset.univ.erase 0) (fun d => iprop(rowsPt X c (c + d) ∗ dutyTok ET (sendCell c d) 0 0 ∗ dutyTok ET (recvCell (c + d) d) 0 0)) := (bigSep_sep' _ _ _).symm
  have hb := fun W v => body_first X κ c i s ht T hT (w := w) (v := v) (W := W) (R := R) (h1 := h1) (h2 := h2) (h3 := h3) (h4 := h4) (h5 := h5) (h6 := h6) (h7 := h7) (h8 := h8) (h9 := h9)
  unfold sigSt talkRest chunkRest at hb
  rw [x_split]
  unfold gear
  iintro ⟨⟨#HR, Hop, Hsig, Hlev, Hcr, Hat, Htok, Hcat, Hrcv, Htab, ⟨%v, Hacc⟩⟩, ⟨Hown, Hrows⟩, ⟨%W, HO⟩, Hw, HF⟩
  ihave Hrt := (Entails.of_eq hrow) $$ [Hrows Htok]
  · isplitl [Hrows] <;> iassumption
  iapply (hb W v)
  isplitr; · iexact HR
  isplitl [Hop]; · iexact Hop
  isplitl [Hsig]; · iexact Hsig
  isplitl [HO]; · iexact HO
  isplitl [Hlev]; · iexact Hlev
  isplitl [Hcr]; · iexact Hcr
  isplitl [Hat]; · iexact Hat
  isplitl [Hrt]; · iexact Hrt
  isplitl [Hown]; · iexact Hown
  isplitl [Hcat]; · iexact Hcat
  isplitl [Hrcv]; · iexact Hrcv
  isplitl [Htab]; · iexact Htab
  isplitl [Hw]; · iexact Hw
  isplitl [Hacc] <;> iassumption

end points

/-- Between two points: the operand's columns may be any again. -/
theorem chunk_next (c : Dev nD) {q q' : Fin 4} {S : Finset (Fin 16)} {R : sProp 𝕄} :
    chunkSt X κ c q 4 S R ⊢ chunkSt X κ c q' 0 S R := by
  unfold chunkSt
  iintro ⟨#HR, Hrows, Hcat, Hx⟩
  isplitr; · iexact HR
  isplitl [Hrows]; · iexact Hrows
  isplitl [Hcat]
  · ihave Hc := (catPre_full X c q) $$ Hcat
    iapply (catPre_any X c q' _) $$ Hc
  · iexact Hx

theorem coord (t : Fin 4) : (grid0.coords t 0).val = t.val := by revert t; decide

/-- What the device still owes, nothing, may be taken out and put back. -/
theorem chunk_clear (c : Dev nD) {q : Fin 4} {n : ℕ} {S : Finset (Fin 16)} {R : sProp 𝕄} (R' : sProp 𝕄) :
    chunkSt X κ c q n S R ⊢ iprop((∃ W, owes (tc c) 0 W) ∗ R ∗ (iprop((∃ W, owes (tc c) 0 W) ∗ R') -∗ chunkSt X κ c q n S R')) := by
  unfold chunkSt clear
  iintro ⟨#HR, Hrows, Hcat, HS, HD, HO, HF⟩
  isplitl [HO]; · iexact HO
  isplitl [HF]; · iexact HF
  iintro ⟨HO, HF⟩
  isplitr; · iexact HR
  isplitl [Hrows]; · iexact Hrows
  isplitl [Hcat]; · iexact Hcat
  isplitl [HS]; · iexact HS
  isplitl [HD]; · iexact HD
  isplitl [HO] <;> iassumption

section iterations
variable (c : Dev nD) (h : names A c) (n : ℕ)
include h

/-- Iteration 0 begins the first copy of weights. -/
theorem run0 {Q : PUnit → sProp 𝕄} {q : PosShare TreeShare} {w : Vec F S4096x8192 .i8} {R : sProp 𝕄} {y : Vec F S1024x8192 .i8}
    (hk : iprop(inW A c P0 0 q w ∗ R) ⊢ WL c (some (.inr n)) (it A 1) Q) :
    iprop((arr c main_arg1 q w ∗ wPt c 0 y ∗ semZ (F := F) c (sem0_1 0)) ∗ R) ⊢ WL c (some (.inr (n + 1))) (it A 0) Q := by
  rw [iter0 A c h]
  iintro ⟨H, HF⟩
  iapply (start_w A c q h P0 0 (slot1 A c h P0) w) $$ H
  iintro Hw
  iapply (call_next A c 1 n hk)
  isplitl [Hw] <;> iassumption

/-- Iterations 2 and 3: the copy for the point after begins, this point's is awaited, and the body runs. -/
theorem run_mid {Q : PUnit → sProp 𝕄} (t t' : Fin 4) (s s' : Fin 2) (hs : (cfg0 A).slots t 1 = s) (hs' : (cfg0 A).slots t' 1 = s') (ℓ ℓ' : ℕ)
    (hit : it A ℓ = st A 1 t' (wt A 1 t (bd A t (nx A ℓ')))) (h0 : t ≠ 0) (h3 : t ≠ 3) {q : Fin 4} {S : Finset (Fin 16)} (hS : ∀ i, dd c (qt c t) i ∈ S)
    {qa qb : PosShare TreeShare} {w : Vec F S4096x8192 .i8} {v : Vec F S256x8192 .f32} {R : sProp 𝕄}
    (hk : chunkSt X κ c (qt c t) 4 (left c (qt c t) S) iprop(accPt c (k0_pay7 (wRows (qt c t) w) v (catV X c (qt c t))) ∗ tabPt c (A.1 0) ∗ inW A c t' s' qb w ∗ arr c main_arg1 qa w
        ∗ (∃ y, wPt (F := F) c s y) ∗ semZ (F := F) c (sem0_1 s) ∗ R) ⊢ WL c (some (.inr n)) (it A ℓ') Q) :
    chunkSt X κ c q 4 S iprop(accPt c v ∗ tabPt c (A.1 0) ∗ inW A c t s qa w ∗ arr c main_arg1 qb w ∗ (∃ y, wPt (F := F) c s' y) ∗ semZ (F := F) c (sem0_1 s') ∗ R)
      ⊢ WL c (some (.inr (n + 1))) (it A ℓ) Q := by
  rw [hit]
  refine (chunk_next X κ c (q' := qt c t)).trans ?_
  refine (chunk_clear X κ c iprop(tabPt c (A.1 0) ∗ wPt c s (wRows (qt c t) w) ∗ accPt c v
      ∗ inW A c t' s' qb w ∗ arr c main_arg1 qa w ∗ semZ (F := F) c (sem0_1 s) ∗ R)).trans ?_
  iintro ⟨HO, ⟨Hacc, Htab, Hin, Harr, ⟨%y, Hw'⟩, Hz, HF⟩, Hback⟩
  iapply (start_w A c qb h t' s' hs' w) $$ [Harr Hw' Hz]
  · isplitl [Harr]; · iexact Harr
    isplitl [Hw'] <;> iassumption
  iintro Hin'
  iapply (land_w A c qa t s hs w (O := 0)) $$ [Hin HO]
  · isplitl [Hin]; · iexact Hin
    isplitl [HO]; · iexact HO
    rw [MayWait_zero]; iempintro
  iintro ⟨Harr, Hw, Hz, HO⟩
  iapply (call_body A c t s hs (n + 1) (P := chunkSt X κ c (qt c t) 0 S iprop(tabPt c (A.1 0) ∗ wPt c s (wRows (qt c t) w) ∗ accPt c v
      ∗ inW A c t' s' qb w ∗ arr c main_arg1 qa w ∗ semZ (F := F) c (sem0_1 s) ∗ R))
    (fun h1 h2 h3' h4 h5 h6 h7 h8 h9 => body_mid X κ c (grid0.coords t) s t (coord t) h0 h3 hS (A.1 0) (h t)) ?_)
  · refine BI.Entails.trans ?_ (call_next A c ℓ' n hk)
    refine chunk_frame X κ c ?_
    iintro ⟨Hw, Hacc, Htab, Hin, Harr, Hz, HF⟩
    isplitl [Hacc]; · iexact Hacc
    isplitl [Htab]; · iexact Htab
    isplitl [Hin]; · iexact Hin
    isplitl [Harr]; · iexact Harr
    isplitl [Hw]; · iexists _; iexact Hw
    isplitl [Hz] <;> iassumption
  · iapply Hback
    isplitl [HO]; · iexact HO
    isplitl [Htab]; · iexact Htab
    isplitl [Hw]; · iexact Hw
    isplitl [Hacc]; · iexact Hacc
    isplitl [Hin']; · iexact Hin'
    isplitl [Harr]; · iexact Harr
    isplitl [Hz] <;> iassumption

/-- Iteration 1: the operand and the scales are brought in, and the body runs at the first point. -/
theorem run1 {Q : PUnit → sProp 𝕄} {qa qb q0 q2 q3 : PosShare TreeShare} {w : Vec F S4096x8192 .i8} {sx sw : Vec F S1 .f32} {R : sProp 𝕄}
    (hk : chunkSt X κ c (qt c P0) 4 (left c (qt c P0) Finset.univ) iprop(accPt c (k0_pay6 (wRows (qt c P0) w) (catV X c (qt c P0))) ∗ tabPt c (A.1 0) ∗ inW A c P1 1 qb w ∗ arr c main_arg1 qa w
        ∗ (∃ y, wPt (F := F) c 0 y) ∗ semZ (F := F) c (sem0_1 0)
        ∗ arr c main_arg0 q0 (X c) ∗ semZ (F := F) c (sem0_0 0) ∗ arr c main_arg2 q2 sx ∗ sxPt c sx ∗ semZ (F := F) c (sem0_2 0) ∗ arr c main_arg3 q3 sw ∗ swPt c sw ∗ semZ (F := F) c (sem0_3 0)
        ∗ atPos ET (barCell c) (0 + 1) ∅ 0 ∗ bigSep (Finset.univ.erase 0) (sendDone (F := F) c) ∗ R) ⊢ WL c (some (.inr n)) (it A 2) Q) :
    iprop(inW A c P0 0 qa w ∗ arr c main_arg1 qb w ∗ (∃ y, wPt (F := F) c 1 y) ∗ semZ (F := F) c (sem0_1 1)
        ∗ (arr c main_arg0 q0 (X c) ∗ (∃ y, xPt (F := F) c y) ∗ semZ (F := F) c (sem0_0 0))
        ∗ (arr c main_arg2 q2 sx ∗ (∃ y, sxPt (F := F) c y) ∗ semZ (F := F) c (sem0_2 0))
        ∗ (arr c main_arg3 q3 sw ∗ (∃ y, swPt (F := F) c y) ∗ semZ (F := F) c (sem0_3 0))
        ∗ gear X κ c (A.1 0) ∗ (∃ W, owes (tc c) (O₀ c) W) ∗ levAts L lv ∗ R) ⊢ WL c (some (.inr (n + 1))) (it A 1) Q := by
  rw [iter1 A c h]
  iintro ⟨Hin, Harr, ⟨%y, Hw1⟩, Hz1, ⟨Ha0, ⟨%y0, Hx⟩, Hz0⟩, ⟨Ha2, ⟨%y2, Hsx⟩, Hz2⟩, ⟨Ha3, ⟨%y3, Hsw⟩, Hz3⟩, Hgear, HO, #Hlev, HF⟩
  iapply (start_x A c q0 (X c)) $$ [Ha0 Hx Hz0]
  · isplitl [Ha0]; · iexact Ha0
    isplitl [Hx] <;> iassumption
  iintro Hfx
  iapply (start_sx A c q2 sx) $$ [Ha2 Hsx Hz2]
  · isplitl [Ha2]; · iexact Ha2
    isplitl [Hsx] <;> iassumption
  iintro Hfsx
  iapply (start_sw A c q3 sw) $$ [Ha3 Hsw Hz3]
  · isplitl [Ha3]; · iexact Ha3
    isplitl [Hsw] <;> iassumption
  iintro Hfsw
  iapply (start_w A c qb h P1 1 (slot1 A c h P1) w) $$ [Harr Hw1 Hz1]
  · isplitl [Harr]; · iexact Harr
    isplitl [Hw1] <;> iassumption
  iintro Hfw
  iapply (land_x A c q0 (X c) (O := O₀ c)) $$ [Hfx HO]
  · isplitl [Hfx]; · iexact Hfx
    isplitl [HO]; · iexact HO
    iapply (mayWait_win c (sem0_0 0) (by decide)); iexact Hlev
  iintro ⟨Ha0, Hx, Hz0, HO⟩
  iapply (land_w A c qa P0 0 (slot1 A c h P0) w (O := O₀ c)) $$ [Hin HO]
  · isplitl [Hin]; · iexact Hin
    isplitl [HO]; · iexact HO
    iapply (mayWait_win c (sem0_1 0) (by decide)); iexact Hlev
  iintro ⟨Ha1, Hw0, Hz1, HO⟩
  iapply (land_sx A c q2 sx (O := O₀ c)) $$ [Hfsx HO]
  · isplitl [Hfsx]; · iexact Hfsx
    isplitl [HO]; · iexact HO
    iapply (mayWait_win c (sem0_2 0) (by decide)); iexact Hlev
  iintro ⟨Ha2, Hsx, Hz2, HO⟩
  iapply (land_sw A c q3 sw (O := O₀ c)) $$ [Hfsw HO]
  · isplitl [Hfsw]; · iexact Hfsw
    isplitl [HO]; · iexact HO
    iapply (mayWait_win c (sem0_3 0) (by decide)); iexact Hlev
  iintro ⟨Ha3, Hsw, Hz3, HO⟩
  iapply (call_body A c P0 0 (slot1 A c h P0) (n + 1) (P := iprop(gear X κ c (A.1 0) ∗ xPt c (X c) ∗ (∃ W, owes (tc c) (O₀ c) W) ∗ wPt c 0 (wRows (qt c P0) w)
      ∗ inW A c P1 1 qb w ∗ arr c main_arg1 qa w ∗ semZ (F := F) c (sem0_1 0)
        ∗ arr c main_arg0 q0 (X c) ∗ semZ (F := F) c (sem0_0 0) ∗ arr c main_arg2 q2 sx ∗ sxPt c sx ∗ semZ (F := F) c (sem0_2 0) ∗ arr c main_arg3 q3 sw ∗ swPt c sw ∗ semZ (F := F) c (sem0_3 0) ∗ R))
    (fun h1 h2 h3 h4 h5 h6 h7 h8 h9 => body0 X κ c (grid0.coords P0) 0 (coord P0) (A.1 0) (h 0)) ?_)
  · refine BI.Entails.trans ?_ (call_next A c 2 n hk)
    refine chunk_frame X κ c ?_
    iintro ⟨Hw, Hacc, Htab, Hat, Hsd, Hin, Harr, Hz, Ha0, Hz0, Ha2, Hsx, Hz2, Ha3, Hsw, Hz3, HF⟩
    isplitl [Hacc]; · iexact Hacc
    isplitl [Htab]; · iexact Htab
    isplitl [Hin]; · iexact Hin
    isplitl [Harr]; · iexact Harr
    isplitl [Hw]; · iexists _; iexact Hw
    isplitl [Hz]; · iexact Hz
    isplitl [Ha0]; · iexact Ha0
    isplitl [Hz0]; · iexact Hz0
    isplitl [Ha2]; · iexact Ha2
    isplitl [Hsx]; · iexact Hsx
    isplitl [Hz2]; · iexact Hz2
    isplitl [Ha3]; · iexact Ha3
    isplitl [Hsw]; · iexact Hsw
    isplitl [Hz3]; · iexact Hz3
    isplitl [Hat]; · iexact Hat
    isplitl [Hsd] <;> iassumption
  · isplitl [Hgear]; · iexact Hgear
    isplitl [Hx]; · iexact Hx
    isplitl [HO]; · iexact HO
    isplitl [Hw0]; · iexact Hw0
    isplitl [Hfw]; · iexact Hfw
    isplitl [Ha1]; · iexact Ha1
    isplitl [Hz1]; · iexact Hz1
    isplitl [Ha0]; · iexact Ha0
    isplitl [Hz0]; · iexact Hz0
    isplitl [Ha2]; · iexact Ha2
    isplitl [Hsx]; · iexact Hsx
    isplitl [Hz2]; · iexact Hz2
    isplitl [Ha3]; · iexact Ha3
    isplitl [Hsw]; · iexact Hsw
    isplitl [Hz3] <;> iassumption

/-- Iteration 4: the last point's weights are awaited, the body runs and the result is written back. -/
theorem run4 {Q : PUnit → sProp 𝕄} {q : Fin 4} {S : Finset (Fin 16)} (hS : ∀ i, dd c (qt c P3) i ∈ S)
    {qa : PosShare TreeShare} {w : Vec F S4096x8192 .i8} {v : Vec F S256x8192 .f32} {sx sw : Vec F S1 .f32} {z y : Vec F S256x8192 .f32} {R : sProp 𝕄}
    (hk : chunkSt X κ c (qt c P3) 4 (left c (qt c P3) S) iprop((∃ y, accPt (F := F) c y) ∗ tabPt c (A.1 0) ∗ arr c main_arg1 qa w
        ∗ (∃ y, wPt (F := F) c 1 y) ∗ semZ (F := F) c (sem0_1 1) ∗ sxPt c sx ∗ swPt c sw ∗ (∃ y, outPt (F := F) c y)
        ∗ arr c main_v9 fullShare (k0_pay8 (sx o1) (sw o1) (k0_pay7 (wRows (qt c P3) w) v (catV X c (qt c P3)))) ∗ semZ (F := F) c (sem0_4 0)
        ∗ bigSep (Finset.univ.erase 0) (srcDone X c) ∗ R) ⊢ WL c (some (.inr n)) (it A 5) Q) :
    chunkSt X κ c q 4 S iprop(accPt c v ∗ tabPt c (A.1 0) ∗ inW A c P3 1 qa w ∗ bigSep (Finset.univ.erase 0) (srcRes (F := F) c) ∗ sxPt c sx ∗ swPt c sw
        ∗ outPt c y ∗ arr c main_v9 fullShare z ∗ semZ (F := F) c (sem0_4 0) ∗ R)
      ⊢ WL c (some (.inr (n + 1))) (it A 4) Q := by
  rw [iter4 A c h]
  refine (chunk_next X κ c (q' := qt c P3)).trans ?_
  refine (chunk_clear X κ c iprop(tabPt c (A.1 0) ∗ wPt c 1 (wRows (qt c P3) w) ∗ accPt c v ∗ bigSep (Finset.univ.erase 0) (srcRes (F := F) c) ∗ sxPt c sx ∗ swPt c sw ∗ outPt c y
      ∗ arr c main_arg1 qa w ∗ semZ (F := F) c (sem0_1 1) ∗ arr c main_v9 fullShare z ∗ semZ (F := F) c (sem0_4 0) ∗ R)).trans ?_
  iintro ⟨HO, ⟨Hacc, Htab, Hin, Hsrc, Hsx, Hsw, Hout, Harr, Hz4, HF⟩, Hback⟩
  iapply (land_w A c qa P3 1 (slot1 A c h P3) w (O := 0)) $$ [Hin HO]
  · isplitl [Hin]; · iexact Hin
    isplitl [HO]; · iexact HO
    rw [MayWait_zero]; iempintro
  iintro ⟨Ha1, Hw, Hz, HO⟩
  iapply (call_body A c P3 1 (slot1 A c h P3) (n + 1) (P := chunkSt X κ c (qt c P3) 0 S iprop(tabPt c (A.1 0) ∗ wPt c 1 (wRows (qt c P3) w) ∗ accPt c v ∗ bigSep (Finset.univ.erase 0) (srcRes (F := F) c) ∗ sxPt c sx ∗ swPt c sw ∗ outPt c y
      ∗ arr c main_arg1 qa w ∗ semZ (F := F) c (sem0_1 1) ∗ arr c main_v9 fullShare z ∗ semZ (F := F) c (sem0_4 0) ∗ R))
    (fun h1 h2 h3 h4 h5 h6 h7 h8 h9 => body_last X κ c (grid0.coords P3) 1 (coord P3) hS (A.1 0) (h 3)) ?_)
  · have hb := chunk_clear X κ c (q := qt c P3) (n := 4) (S := left c (qt c P3) S) (R := iprop(bigSep (Finset.univ.erase 0) (srcDone X c) ∗ wPt c 1 (wRows (qt c P3) w) ∗ tabPt c (A.1 0)
        ∗ arr c main_arg1 qa w ∗ semZ (F := F) c (sem0_1 1) ∗ arr c main_v9 fullShare z ∗ semZ (F := F) c (sem0_4 0) ∗ R))
      iprop((∃ y, accPt (F := F) c y) ∗ tabPt c (A.1 0) ∗ arr c main_arg1 qa w
        ∗ (∃ y, wPt (F := F) c 1 y) ∗ semZ (F := F) c (sem0_1 1) ∗ sxPt c sx ∗ swPt c sw ∗ (∃ y, outPt (F := F) c y)
        ∗ arr c main_v9 fullShare (k0_pay8 (sx o1) (sw o1) (k0_pay7 (wRows (qt c P3) w) v (catV X c (qt c P3)))) ∗ semZ (F := F) c (sem0_4 0)
        ∗ bigSep (Finset.univ.erase 0) (srcDone X c) ∗ R)
    iintro ⟨Hacc, Hout, Hsx, Hsw, Hch⟩
    ihave H := hb $$ Hch
    icases H with ⟨HO, ⟨Hsrc, Hw, Htab, Ha1, Hz, Ha9, Hz4, HF⟩, Hback⟩
    iapply (start_o A c (k0_pay8 (sx o1) (sw o1) (k0_pay7 (wRows (qt c P3) w) v (catV X c (qt c P3))))) $$ [Hout Ha9 Hz4]
    · isplitl [Hout]; · iexact Hout
      isplitl [Ha9] <;> iassumption
    iintro Hfly
    iapply (land_o A c (k0_pay8 (sx o1) (sw o1) (k0_pay7 (wRows (qt c P3) w) v (catV X c (qt c P3)))) (O := 0)) $$ [Hfly HO]
    · isplitl [Hfly]; · iexact Hfly
      isplitl [HO]; · iexact HO
      rw [MayWait_zero]; iempintro
    iintro ⟨Hout, Ha9, Hz4, HO⟩
    iapply (call_next A c 5 n hk)
    iapply Hback
    isplitl [HO]; · iexact HO
    isplitl [Hacc]; · iexists _; iexact Hacc
    isplitl [Htab]; · iexact Htab
    isplitl [Ha1]; · iexact Ha1
    isplitl [Hw]; · iexists _; iexact Hw
    isplitl [Hz]; · iexact Hz
    isplitl [Hsx]; · iexact Hsx
    isplitl [Hsw]; · iexact Hsw
    isplitl [Hout]; · iexists _; iexact Hout
    isplitl [Ha9]; · iexact Ha9
    isplitl [Hz4]; · iexact Hz4
    isplitl [Hsrc] <;> iassumption
  · iapply Hback
    isplitl [HO]; · iexact HO
    isplitl [Htab]; · iexact Htab
    isplitl [Hw]; · iexact Hw
    isplitl [Hacc]; · iexact Hacc
    isplitl [Hsrc]; · iexact Hsrc
    isplitl [Hsx]; · iexact Hsx
    isplitl [Hsw]; · iexact Hsw
    isplitl [Hout]; · iexact Hout
    isplitl [Ha1]; · iexact Ha1
    isplitl [Hz]; · iexact Hz
    isplitl [Harr]; · iexact Harr
    isplitl [Hz4] <;> iassumption

end iterations

end Cert.Talk
-- ==== Proof.Run.lean ====
/-
  The pipelined loop on one device, from its first iteration to its last.
-/
module

public import proofs.«01_k».proof.Proof.Iterations
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (X : Xs F) (κ : GSem nD τ sig → ℕ)
variable (A : (pcfg0 (F := F)).Adm)

/-- The accumulator after each point, and the result, of device `c`. -/
def acc0 (c : Dev nD) (w : Vec F S4096x8192 .i8) : Vec F S256x8192 .f32 := k0_pay6 (wRows (qt c P0) w) (catV X c (qt c P0))
def acc1 (c : Dev nD) (w : Vec F S4096x8192 .i8) : Vec F S256x8192 .f32 := k0_pay7 (wRows (qt c P1) w) (acc0 X c w) (catV X c (qt c P1))
def acc2 (c : Dev nD) (w : Vec F S4096x8192 .i8) : Vec F S256x8192 .f32 := k0_pay7 (wRows (qt c P2) w) (acc1 X c w) (catV X c (qt c P2))
def acc3 (c : Dev nD) (w : Vec F S4096x8192 .i8) : Vec F S256x8192 .f32 := k0_pay7 (wRows (qt c P3) w) (acc2 X c w) (catV X c (qt c P3))
def result (c : Dev nD) (w : Vec F S4096x8192 .i8) (sx sw : Vec F S1 .f32) : Vec F S256x8192 .f32 := k0_pay8 (sx o1) (sw o1) (acc3 X c w)

/-- The distances not landed before each point. -/
abbrev left1 (c : Dev nD) : Finset (Fin 16) := left c (qt c P0) Finset.univ
abbrev left2 (c : Dev nD) : Finset (Fin 16) := left c (qt c P1) (left1 c)
abbrev left3 (c : Dev nD) : Finset (Fin 16) := left c (qt c P2) (left2 c)

theorem in1 (c : Dev nD) (i : Fin 4) : dd c (qt c P1) i ∈ left1 c := by revert c i; decide
theorem in2 (c : Dev nD) (i : Fin 4) : dd c (qt c P2) i ∈ left2 c := by revert c i; decide
theorem in3 (c : Dev nD) (i : Fin 4) : dd c (qt c P3) i ∈ left3 c := by revert c i; decide
theorem left4 (c : Dev nD) : left c (qt c P3) (left3 c) = ∅ := by revert c; decide

/-- The whole loop. -/
theorem run_all (c : Dev nD) (h : names A c) (n : ℕ) {Q : PUnit → sProp 𝕄} {qa qb q0 q2 q3 : PosShare TreeShare} {w : Vec F S4096x8192 .i8} {sx sw : Vec F S1 .f32}
    {z y : Vec F S256x8192 .f32} {y0 : Vec F S1024x8192 .i8} {R : sProp 𝕄}
    (hk : chunkSt X κ c (qt c P3) 4 ∅ iprop((∃ y, accPt (F := F) c y) ∗ tabPt c (A.1 0) ∗ arr c main_arg1 qb w
        ∗ (∃ y, wPt (F := F) c 1 y) ∗ semZ (F := F) c (sem0_1 1) ∗ sxPt c sx ∗ swPt c sw ∗ (∃ y, outPt (F := F) c y)
        ∗ arr c main_v9 fullShare (result X c w sx sw) ∗ semZ (F := F) c (sem0_4 0)
        ∗ bigSep (Finset.univ.erase 0) (srcDone X c)
        ∗ arr c main_arg1 qa w ∗ (∃ y, wPt (F := F) c 0 y) ∗ semZ (F := F) c (sem0_1 0)
        ∗ arr c main_arg0 q0 (X c) ∗ semZ (F := F) c (sem0_0 0) ∗ arr c main_arg2 q2 sx ∗ semZ (F := F) c (sem0_2 0) ∗ arr c main_arg3 q3 sw ∗ semZ (F := F) c (sem0_3 0)
        ∗ atPos ET (barCell c) (0 + 1) ∅ 0 ∗ R) ⊢ WL c (some (.inr n)) (it A 5) Q) :
    iprop((arr c main_arg1 qa w ∗ wPt c 0 y0 ∗ semZ (F := F) c (sem0_1 0)) ∗ arr c main_arg1 qb w ∗ (∃ y, wPt (F := F) c 1 y) ∗ semZ (F := F) c (sem0_1 1)
        ∗ (arr c main_arg0 q0 (X c) ∗ (∃ y, xPt (F := F) c y) ∗ semZ (F := F) c (sem0_0 0))
        ∗ (arr c main_arg2 q2 sx ∗ (∃ y, sxPt (F := F) c y) ∗ semZ (F := F) c (sem0_2 0))
        ∗ (arr c main_arg3 q3 sw ∗ (∃ y, swPt (F := F) c y) ∗ semZ (F := F) c (sem0_3 0))
        ∗ gear X κ c (A.1 0) ∗ (∃ W, owes (tc c) (O₀ c) W) ∗ levAts L lv
        ∗ bigSep (Finset.univ.erase 0) (fun d => atPos ET (sendCell c d) 0 ∅ 0) ∗ outPt c y ∗ arr c main_v9 fullShare z ∗ semZ (F := F) c (sem0_4 0) ∗ R)
      ⊢ WL c (some (.inr (n + 5))) (it A 0) Q := by
  have h4 := run4 X κ A c h n (Q := Q) (q := qt c P2) (in3 c) (qa := qb) (w := w) (v := acc2 X c w) (sx := sx) (sw := sw) (z := z) (y := y)
    (R := iprop(arr c main_arg1 qa w ∗ (∃ y, wPt (F := F) c 0 y) ∗ semZ (F := F) c (sem0_1 0)
        ∗ arr c main_arg0 q0 (X c) ∗ semZ (F := F) c (sem0_0 0) ∗ arr c main_arg2 q2 sx ∗ semZ (F := F) c (sem0_2 0) ∗ arr c main_arg3 q3 sw ∗ semZ (F := F) c (sem0_3 0)
        ∗ atPos ET (barCell c) (0 + 1) ∅ 0 ∗ R)) (by rw [left4]; exact hk)
  have hsrc : (iprop(bigSep (Finset.univ.erase 0) (sendDone (F := F) c) ∗ bigSep (Finset.univ.erase 0) (fun d => atPos ET (sendCell c d) 0 ∅ 0)) : sProp 𝕄)
      = bigSep (Finset.univ.erase 0) (srcRes (F := F) c) := (bigSep_sep' _ _ _).symm
  have h3 := run_mid X κ A c h (n + 1) P2 P3 0 1 (slot1 A c h P2) (slot1 A c h P3) 3 4 (iter3 A c h) (by decide) (by decide) (q := qt c P1) (in2 c) (qa := qa) (qb := qb) (w := w) (v := acc1 X c w)
    (R := iprop(arr c main_arg0 q0 (X c) ∗ semZ (F := F) c (sem0_0 0) ∗ arr c main_arg2 q2 sx ∗ sxPt c sx ∗ semZ (F := F) c (sem0_2 0) ∗ arr c main_arg3 q3 sw ∗ swPt c sw ∗ semZ (F := F) c (sem0_3 0)
        ∗ atPos ET (barCell c) (0 + 1) ∅ 0 ∗ bigSep (Finset.univ.erase 0) (sendDone (F := F) c)
        ∗ bigSep (Finset.univ.erase 0) (fun d => atPos ET (sendCell c d) 0 ∅ 0) ∗ outPt c y ∗ arr c main_v9 fullShare z ∗ semZ (F := F) c (sem0_4 0) ∗ R))
    ((chunk_frame X κ c (by
      iintro ⟨Hacc, Htab, Hin, Ha1, Hw, Hz1, Ha0, Hz0, Ha2, Hsx, Hz2, Ha3, Hsw, Hz3, Hat, Hsd, Hss, Hout, Ha9, Hz4, HF⟩
      ihave Hs := (Entails.of_eq hsrc) $$ [Hsd Hss]
      · isplitl [Hsd] <;> iassumption
      isplitl [Hacc]; · iexact Hacc
      isplitl [Htab]; · iexact Htab
      isplitl [Hin]; · iexact Hin
      isplitl [Hs]; · iexact Hs
      isplitl [Hsx]; · iexact Hsx
      isplitl [Hsw]; · iexact Hsw
      isplitl [Hout]; · iexact Hout
      isplitl [Ha9]; · iexact Ha9
      isplitl [Hz4]; · iexact Hz4
      isplitl [Ha1]; · iexact Ha1
      isplitl [Hw]; · iexact Hw
      isplitl [Hz1]; · iexact Hz1
      isplitl [Ha0]; · iexact Ha0
      isplitl [Hz0]; · iexact Hz0
      isplitl [Ha2]; · iexact Ha2
      isplitl [Hz2]; · iexact Hz2
      isplitl [Ha3]; · iexact Ha3
      isplitl [Hz3]; · iexact Hz3
      isplitl [Hat] <;> iassumption)).trans h4)
  have h2 := run_mid X κ A c h (n + 2) P1 P2 1 0 (slot1 A c h P1) (slot1 A c h P2) 2 3 (iter2 A c h) (by decide) (by decide) (q := qt c P0) (in1 c) (qa := qb) (qb := qa) (w := w) (v := acc0 X c w) h3
  have h1 := run1 X κ A c h (n + 3) h2
  refine BI.Entails.trans ?_ (run0 A c h (n + 4) (q := qa) (w := w) (y := y0) h1)
  exact BI.Entails.refl _
end Cert.Talk
-- ==== Proof.Door.lean ====
/-
  What a device has at the door of the kernel, and what it takes out of it: the buffers and semaphores the kernel scopes.
-/
module

public import proofs.«01_k».proof.Proof.Run
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (X : Xs F) (κ : GSem nD τ sig → ℕ)
variable (A : (pcfg0 (F := F)).Adm)

/-- The buffers the kernel scopes, with any contents. -/
def someStage (c : Dev nD) (b : Ref sig .tc) : sProp 𝕄 :=
  iprop(∃ f : Buf (Elt F) (Thread.loc (c, Proc.tc) b), Thread.loc (c, Proc.tc) b ↦{fullShare} f)

theorem bufs_eq (c : Dev nD) : (scopedBufs (tc c) : sProp 𝕄)
    = iprop(someStage c cc0_stg0_0 ∗ someStage c cc0_stg1_0 ∗ someStage c cc0_stg1_1 ∗ someStage c cc0_stg2_0 ∗ someStage c cc0_stg3_0
      ∗ someStage c cc0_stg4_0 ∗ someStage c cc0_scratch0 ∗ someStage c cc0_scratch1 ∗ someStage c cc0_scratch2) := by
  refine (scopedBufs_tc c).trans ?_
  rw [bigSep_eq_bigSepL_of_eq [cc0_stg0_0, cc0_stg1_0, cc0_stg1_1, cc0_stg2_0, cc0_stg3_0, cc0_stg4_0, cc0_scratch0, cc0_scratch1, cc0_scratch2]
    (by decide) (by decide)]
  rfl

theorem sends_inj : Set.InjOn (fun d : Fin 16 => (.dma (sendS d) : SemLoc sig)) (Finset.univ : Finset (Fin 16)) := fun x _ y _ h => by
  have h' : sendS x = sendS y := by injection h
  have := congrArg Fin.val h'; rw [sendS_val, sendS_val] at this; exact Fin.ext (by omega)
theorem recvs_inj : Set.InjOn (fun d : Fin 16 => (.dma (recvS d) : SemLoc sig)) (Finset.univ : Finset (Fin 16)) := fun x _ y _ h => by
  have h' : recvS x = recvS y := by injection h
  have := congrArg Fin.val h'; rw [recvS_val, recvS_val] at this; exact Fin.ext (by omega)

/-- The semaphores of the windows, and those of the remote copies. -/
def winSems : Finset (SemLoc sig) :=
  {.dma (sem0_0 0), .dma (sem0_1 0), .dma (sem0_1 1), .dma (sem0_2 0), .dma (sem0_3 0), .dma (sem0_4 0)}
def sendSems : Finset (SemLoc sig) := Finset.univ.image fun d : Fin 16 => .dma (sendS d)
def recvSems : Finset (SemLoc sig) := Finset.univ.image fun d : Fin 16 => .dma (recvS d)

theorem sems_set : (Finset.univ.filter fun sm : SemLoc sig => sm.isScoped .tc) = winSems ∪ (sendSems ∪ recvSems) := by decide
theorem sems_disj : Disjoint sendSems recvSems := by decide
theorem sems_disj' : Disjoint winSems (sendSems ∪ recvSems) := by decide

theorem sems_eq (c : Dev nD) : (scopedSems0 (tc c) : sProp 𝕄)
    = iprop((semZ c (sem0_0 0) ∗ semZ c (sem0_1 0) ∗ semZ c (sem0_1 1) ∗ semZ c (sem0_2 0) ∗ semZ c (sem0_3 0) ∗ semZ c (sem0_4 0))
      ∗ (bigSep Finset.univ fun d => semZ c (sendS d)) ∗ bigSep Finset.univ fun d => semZ c (recvS d)) := by
  refine (scopedSems0_tc c).trans ?_
  rw [sems_set, BI.bigSep_union sems_disj', BI.bigSep_union sems_disj, sendSems, recvSems, bigSep_image_of_injOn sends_inj,
    bigSep_image_of_injOn recvs_inj,
    bigSep_eq_bigSepL_of_eq [SemLoc.dma (sem0_0 0), .dma (sem0_1 0), .dma (sem0_1 1), .dma (sem0_2 0), .dma (sem0_3 0), .dma (sem0_4 0)]
      (by decide) (by decide)]
  rfl

/-- A device may open its send and receive cells. -/
def mayOpen (c : Dev nD) (d : Fin 16) : sProp 𝕄 := iprop(openTok ET (sendCell c d) ∗ openTok ET (recvCell c d))

theorem open_one (c : Dev nD) (d : Fin 16) : iprop(recs X κ ∗ mayOpen c d ∗ semZ c (sendS d) ∗ semZ c (recvS d))
    ⊢ iprop(|={Set.univ}=> (reached ET (sendCell c d) 0 ∗ reached ET (recvCell c d) 0 ∗ atPos ET (sendCell c d) 0 ∅ 0 ∗ atPos ET (recvCell c d) 0 ∅ 0)) := by
  unfold mayOpen
  iintro ⟨#Hr, ⟨Ho, Ho'⟩, Hs, Hs'⟩
  ihave #Hc := recs_send X κ c d $$ Hr
  ihave #Hc' := recs_recv X κ c d $$ Hr
  imod (Rounds.cell_open ET (talk X) (g := sendCell c d) (Es := Set.univ) (Set.mem_univ _)) $$ [Ho Hs] with ⟨Ha, Hw⟩
  · isplitr; · iexact Hc
    isplitl [Ho]; · iexact Ho
    iexact Hs
  imod (Rounds.cell_open ET (talk X) (g := recvCell c d) (Es := Set.univ) (Set.mem_univ _)) $$ [Ho' Hs'] with ⟨Ha', Hw'⟩
  · isplitr; · iexact Hc'
    isplitl [Ho']; · iexact Ho'
    iexact Hs'
  imodintro
  isplitl [Hw]; · iexact Hw
  isplitl [Hw']; · iexact Hw'
  isplitl [Ha]; · iexact Ha
  iexact Ha'

theorem close_one (c : Dev nD) (d : Fin 16) : iprop(recs X κ ∗ atPos ET (sendCell c d) (0 + 1) ∅ 0 ∗ atPos ET (recvCell c d) (0 + 1) ∅ 0)
    ⊢ iprop(|={Set.univ}=> (semZ c (sendS d) ∗ semZ c (recvS d))) := by
  iintro ⟨#Hr, Ha, Ha'⟩
  ihave #Hc := recs_send X κ c d $$ Hr
  ihave #Hc' := recs_recv X κ c d $$ Hr
  imod (Rounds.cell_close ET (talk X) (g := sendCell c d) (Es := Set.univ) (R := 0 + 1) (Set.mem_univ _) (fun h => h) (duties_later X _)) $$ [Ha] with Hs
  · isplitr; · iexact Hc
    iexact Ha
  imod (Rounds.cell_close ET (talk X) (g := recvCell c d) (Es := Set.univ) (R := 0 + 1) (Set.mem_univ _) (fun h => h) (duties_later X _)) $$ [Ha'] with Hs'
  · isplitr; · iexact Hc'
    iexact Ha'
  imodintro
  isplitl [Hs]; · iexact Hs
  iexact Hs'

theorem close_bar (c : Dev nD) : iprop(recs X κ ∗ atPos ET (barCell c) (0 + 1) ∅ 0) ⊢ iprop(|={Set.univ}=> semVal (barCell c) 0) := by
  iintro ⟨#Hr, Ha⟩
  ihave #Hc := recs_bar X κ c $$ Hr
  imod (Rounds.cell_close ET (talk X) (g := barCell c) (Es := Set.univ) (R := 0 + 1) (Set.mem_univ _) (fun h => h) (duties_later X _)) $$ [Ha] with Hs
  · isplitr; · iexact Hc
    iexact Ha
  imodintro
  iexact Hs

/-- Persistent facts for every member of a set. -/
theorem share_facts {s : Finset (Fin 16)} {P : sProp 𝕄} [BI.Persistent P] (Φ Ψ : Fin 16 → sProp 𝕄)
    (h : ∀ d, iprop(P ∗ Φ d) ⊢ iprop(|={Set.univ}=> Ψ d)) : iprop(P ∗ bigSep s Φ) ⊢ iprop(|={Set.univ}=> bigSep s Ψ) := by
  refine BI.Entails.trans ?_ (bigSep_fupd s Ψ)
  refine BI.Entails.trans ?_ (bigSep_mono fun d _ => h d)
  rw [bigSep_sep']
  refine ent ?_
  iintro ⟨#HP, H⟩
  isplitr
  · iapply (bigSep_of_persistent s P) $$ HP
  iexact H

end Cert.Talk
-- ==== Proof.Enter.lean ====
/-
  Entering the kernel and leaving it on one device: from what the launch gave it to the loop, and from the loop to the scoped buffers and semaphores as they were found.
-/
module

public import proofs.«01_k».proof.Proof.Door
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (X : Xs F) (κ : GSem nD τ sig → ℕ)
variable (A : (pcfg0 (F := F)).Adm)

/-- What a device brings to the kernel besides its arrays. -/
def brings (c : Dev nD) : sProp 𝕄 :=
  iprop(bigSep (Finset.univ.erase 0) (mayOpen (F := F) c) ∗ bigSep (Finset.univ.erase 0) (fun d : Fin 16 => dutyTok ET (barCell (c + d)) 0 (-d))
    ∗ cred (tallyAt (barCell c) () 15) ∗ atPos ET (barCell c) 0 ∅ 0
    ∗ bigSep (Finset.univ.erase 0) (fun d : Fin 16 => iprop(dutyTok ET (sendCell c d) 0 0 ∗ dutyTok ET (recvCell (c + d) d) 0 0))
    ∗ bigSep (Finset.univ.erase 0) fun d : Fin 16 => cred (tallyAt (recvCell c d) () N))

/-- What it keeps aside: the first slot and semaphores of the tables of slots, which no copy uses. -/
def spare (c : Dev nD) : sProp 𝕄 := iprop(slotAny (F := F) c 0 ∗ semZ (F := F) c (sendS 0) ∗ semZ (F := F) c (recvS 0))

/-- The windows' semaphores at zero. -/
def winZ (c : Dev nD) : sProp 𝕄 :=
  iprop(semZ (F := F) c (sem0_0 0) ∗ semZ (F := F) c (sem0_1 0) ∗ semZ (F := F) c (sem0_1 1) ∗ semZ (F := F) c (sem0_2 0) ∗ semZ (F := F) c (sem0_3 0) ∗ semZ (F := F) c (sem0_4 0))

/-- The staging buffers with any contents. -/
def stagings (c : Dev nD) : sProp 𝕄 :=
  iprop((∃ y, xPt (F := F) c y) ∗ (∃ y, wPt (F := F) c 0 y) ∗ (∃ y, wPt (F := F) c 1 y) ∗ (∃ y, sxPt (F := F) c y) ∗ (∃ y, swPt (F := F) c y) ∗ (∃ y, outPt (F := F) c y))

theorem bufs_in (c : Dev nD) : (scopedBufs (tc c) : sProp 𝕄)
    ⊢ iprop(stagings c ∗ (∃ f : Vec F S16x256x256 .i8, commM.view.loc (tc c) ↦{fullShare} f) ∗ (∃ f : Vec F S256x1024 .bf16, catM.view.loc (tc c) ↦{fullShare} f) ∗ ∃ f, accPt (F := F) c f) := by
  rw [bufs_eq]
  unfold someStage stagings
  iintro ⟨H0, H1, H2, H3, H4, H5, H6, H7, H8⟩
  isplitr [H6 H7 H8]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  iexact H8

theorem bufs_out (c : Dev nD) :
    iprop(stagings c ∗ (∃ f : Vec F S16x256x256 .i8, commM.view.loc (tc c) ↦{fullShare} f) ∗ (∃ f : Vec F S256x1024 .bf16, catM.view.loc (tc c) ↦{fullShare} f) ∗ ∃ f, accPt (F := F) c f)
     ⊢ (scopedBufs (tc c) : sProp 𝕄) := by
  rw [bufs_eq]
  unfold someStage stagings
  iintro ⟨⟨H0, H1, H2, H3, H4, H5⟩, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sems_split (c : Dev nD) : (scopedSems0 (tc c) : sProp 𝕄)
    = iprop(winZ c ∗ (semZ c (sendS 0) ∗ bigSep (Finset.univ.erase 0) fun d => semZ c (sendS d)) ∗ semZ c (recvS 0) ∗ bigSep (Finset.univ.erase 0) fun d => semZ c (recvS d)) := by
  rw [sems_eq, bigSep_erase (Finset.mem_univ (0 : Fin 16)), bigSep_erase (Finset.mem_univ (0 : Fin 16))]
  rfl

/-- All of a device's cells at once. -/
theorem open_all (c : Dev nD) : iprop(recs X κ ∗ bigSep (Finset.univ.erase 0) (mayOpen c) ∗ (bigSep (Finset.univ.erase 0) fun d => semZ c (sendS d)) ∗ bigSep (Finset.univ.erase 0) fun d => semZ c (recvS d))
    ⊢ iprop(|={Set.univ}=> (opened c ∗ bigSep (Finset.univ.erase 0) (fun d => atPos ET (sendCell c d) 0 ∅ 0) ∗ bigSep (Finset.univ.erase 0) (fun d => atPos ET (recvCell c d) 0 ∅ 0))) := by
  have h := share_facts (s := Finset.univ.erase 0) (P := recs X κ) _ _ (open_one X κ c)
  simp only [bigSep_sep'] at h
  unfold opened
  iintro H
  imod h $$ H with ⟨H1, H2, H3, H4⟩
  imodintro
  isplitl [H1 H2]; · isplitl [H1] <;> iassumption
  isplitl [H3] <;> iassumption

theorem close_all (c : Dev nD) : iprop(recs X κ ∗ bigSep (Finset.univ.erase 0) (fun d => atPos ET (sendCell c d) (0 + 1) ∅ 0) ∗ bigSep (Finset.univ.erase 0) (fun d => atPos ET (recvCell c d) (0 + 1) ∅ 0))
    ⊢ iprop(|={Set.univ}=> ((bigSep (Finset.univ.erase 0) fun d => semZ c (sendS d)) ∗ bigSep (Finset.univ.erase 0) fun d => semZ c (recvS d))) := by
  have h := share_facts (s := Finset.univ.erase 0) (P := recs X κ) _ _ (close_one X κ c)
  simp only [bigSep_sep'] at h
  exact h

theorem enter (c : Dev nD) (T : S4.Idx → BitVec 32) :
    iprop(recs X κ ∗ brings c ∗ tabPt c T ∗ levAts L lv ∗ scopedBufs (tc c) ∗ scopedSems0 (tc c))
      ⊢ iprop(|={Set.univ}=> (gear X κ c T ∗ bigSep (Finset.univ.erase 0) (fun d => atPos ET (sendCell c d) 0 ∅ 0) ∗ stagings c ∗ winZ c ∗ spare c)) := by
  rw [sems_split]
  unfold brings
  iintro ⟨#Hr, ⟨Hmo, Hdb, Hcb, Hab, Hds, Hcr⟩, Htab, Hlev, Hbufs, ⟨Hw, ⟨Hs0, Hs⟩, Hr0, Hrs⟩⟩
  ihave Hb := bufs_in c $$ Hbufs
  icases Hb with ⟨Hst, ⟨%f, Hcomm⟩, ⟨%g, Hcat⟩, Hacc⟩
  ihave Hc := comm_split c f $$ Hcomm
  icases Hc with ⟨Hz, Hsl⟩
  ihave Hcp := catPre_any X c (qt c 0) g $$ Hcat
  imod (open_all X κ c) $$ [Hmo Hs Hrs] with ⟨#Hop, Has, Har⟩
  · isplitr; · iexact Hr
    isplitl [Hmo]; · iexact Hmo
    isplitl [Hs] <;> iassumption
  imodintro
  unfold gear spare
  isplitr [Has Hst Hw Hz Hs0 Hr0]
  · isplitr; · iexact Hr
    isplitr; · iexact Hop
    isplitl [Hsl Hdb]
    · unfold sigRes; rw [bigSep_sep']
      isplitl [Hsl] <;> iassumption
    isplitl [Hlev]; · iexact Hlev
    isplitl [Hcb]; · iexact Hcb
    isplitl [Hab]; · iexact Hab
    isplitl [Hds]; · iexact Hds
    isplitl [Hcp]; · iexact Hcp
    isplitl [Hcr Har]
    · unfold rcvRes; rw [bigSep_sep']
      isplitl [Hcr] <;> iassumption
    isplitl [Htab]; · iexact Htab
    iexact Hacc
  isplitl [Has]; · iexact Has
  isplitl [Hst]; · iexact Hst
  isplitl [Hw]; · iexact Hw
  isplitl [Hz]; · iexact Hz
  isplitl [Hs0] <;> iassumption

theorem leave (c : Dev nD) (q : Fin 4) {sx sw : Vec F S1 .f32} :
    iprop(recs X κ ∗ rowsPt X c c ∗ catPre X c q 4 ∗ bigSep (Finset.univ.erase 0) (rcvDone X c) ∗ bigSep (Finset.univ.erase 0) (srcDone X c)
        ∗ (∃ y, accPt (F := F) c y) ∗ (∃ y, wPt (F := F) c 0 y) ∗ (∃ y, wPt (F := F) c 1 y) ∗ sxPt c sx ∗ swPt c sw ∗ (∃ y, outPt (F := F) c y)
        ∗ winZ c ∗ atPos ET (barCell c) (0 + 1) ∅ 0 ∗ spare c)
      ⊢ iprop(|={Set.univ}=> (scopedBufs (tc c) ∗ scopedSems0 (tc c) ∗ semVal (barCell c) 0)) := by
  rw [sems_split]
  unfold rcvDone srcDone spare
  rw [bigSep_sep', bigSep_sep']
  iintro ⟨#Hr, Hx, Hcat, ⟨Hsl, Har⟩, ⟨Hrows, Has⟩, Hacc, Hw0, Hw1, Hsx, Hsw, Hout, Hwz, Hab, ⟨Hz, Hs0, Hr0⟩⟩
  imod (close_all X κ c) $$ [Has Har] with ⟨Hs, Hrs⟩
  · isplitr; · iexact Hr
    isplitl [Has] <;> iassumption
  imod (close_bar X κ c) $$ [Hab] with Hb
  · isplitr; · iexact Hr
    iexact Hab
  ihave Hcat := catPre_full X c q $$ Hcat
  ihave Hcomm := comm_join X c $$ [Hz Hsl]
  · isplitl [Hz] <;> iassumption
  ihave Hxx := (Entails.of_eq (x_split X c).symm) $$ [Hx Hrows]
  · isplitl [Hx] <;> iassumption
  imodintro
  isplitr [Hwz Hs Hs0 Hr0 Hrs Hb]
  · iapply (bufs_out c)
    unfold stagings
    isplitr [Hcomm Hcat Hacc]
    · isplitl [Hxx]; · iexists _; iexact Hxx
      isplitl [Hw0]; · iexact Hw0
      isplitl [Hw1]; · iexact Hw1
      isplitl [Hsx]; · iexists _; iexact Hsx
      isplitl [Hsw]; · iexists _; iexact Hsw
      iexact Hout
    isplitl [Hcomm]; · iexact Hcomm
    isplitl [Hcat]; · iexists _; iexact Hcat
    iexact Hacc
  isplitr [Hb]
  · isplitl [Hwz]; · iexact Hwz
    isplitl [Hs Hs0]; · isplitl [Hs0] <;> iassumption
    isplitl [Hr0] <;> iassumption
  iexact Hb

end Cert.Talk
-- ==== Proof.Region.lean ====
/-
  The whole kernel on one device, from its entry to its exit.
-/
module

public import proofs.«01_k».proof.Proof.Enter
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (X : Xs F) (κ : GSem nD τ sig → ℕ)
variable (A : (pcfg0 (F := F)).Adm)

/-- The arrays and the table of a device. -/
def arrays (c : Dev nD) (T : S4.Idx → BitVec 32) (x : Vec F S4096x256 .i8) (w : Vec F S4096x8192 .i8) (sx sw : Vec F S1 .f32) (z : Vec F S256x8192 .f32) : sProp 𝕄 :=
  iprop(tabPt c T ∗ arr c main_arg0 fullShare x ∗ arr c main_arg1 fullShare w ∗ arr c main_arg2 fullShare sx ∗ arr c main_arg3 fullShare sw ∗ arr c main_v9 fullShare z)

theorem halves (c : Dev nD) (w : Vec F S4096x8192 .i8) :
    (arr c main_arg1 fullShare w : sProp 𝕄) ⊣⊢ iprop(arr c main_arg1 fullShare.left w ∗ arr c main_arg1 fullShare.right w) :=
  pointsTo_share (PosShare.mem_left_op_right _)

theorem tab_pref (c : Dev nD) (T : pre0.Contents (Elt F)) : (prefHeld pre0 c (fun _ => fullShare) T : sProp 𝕄) = tabPt c (T 0) := by
  unfold prefHeld
  rw [bigSep_eq_bigSepL_of_eq [(0 : Fin 1)] (by decide) (by decide)]
  rfl

theorem goes (A : (pcfg0 (F := F)).Adm) : (cfg0 A).runAt (P := Fin 1) (A := fun p => (pcfgs (F := F) p).Adm) 0 A = nx A 0 := by
  unfold Cfg.runAt
  have h : (cfg0 A).N = 4 := rfl
  rw [if_neg (by rw [h]; decide), dif_neg (by rw [h]; decide)]

/-- The loop, from its call to what the kernel's exit presents. -/
theorem loop_all (c : Dev nD) (h : names A c) {Q : PUnit → sProp 𝕄} {w : Vec F S4096x8192 .i8} {sx sw : Vec F S1 .f32} {z : Vec F S256x8192 .f32} :
    iprop(((scopedBufs (tc c) ∗ scopedSems0 (tc c) ∗ arrays c (A.1 0) (X c) w sx sw (result X c w sx sw) ∗ semVal (barCell c) 0 ∗ (∃ W, owes (tc c) 0 W)) -∗ |={Set.univ}=> Q ⟨⟩)
        ∗ scopedBufs (tc c) ∗ scopedSems0 (tc c) ∗ arrays c (A.1 0) (X c) w sx sw z ∗ recs X κ ∗ brings c ∗ (∃ W, owes (tc c) (O₀ c) W) ∗ levAts L lv)
      ⊢ WL c (some (.inr 6)) (nx A 0) Q := by
  have hrun := fun y y0 => run_all X κ A c h 0 (Q := Q) (qa := fullShare.left) (qb := fullShare.right) (q0 := fullShare) (q2 := fullShare) (q3 := fullShare)
    (w := w) (sx := sx) (sw := sw) (z := z) (y := y) (y0 := y0)
    (R := iprop(spare c ∗ ((scopedBufs (tc c) ∗ scopedSems0 (tc c) ∗ arrays c (A.1 0) (X c) w sx sw (result X c w sx sw) ∗ semVal (barCell c) 0 ∗ (∃ W, owes (tc c) 0 W)) -∗ |={Set.univ}=> Q ⟨⟩)))
    (by
      rw [iter5 A]
      unfold WL
      rw [wp_ret]
      unfold chunkSt clear
      rw [Finset.compl_empty]
      iintro ⟨Hr, Hx, Hcat, -, Hrd, Hclr, Hacc, Htab, Ha1, Hw1, Hz11, Hsx, Hsw, Hout, Ha9, Hz4, Hsd, Ha1', Hw0, Hz10, Ha0, Hz0, Ha2, Hz2, Ha3, Hz3, Hab, Hsp, Hk⟩
      imod (leave X κ c (qt c P3) (sx := sx) (sw := sw)) $$ [Hr Hx Hcat Hrd Hacc Hw1 Hz11 Hsx Hsw Hout Hz4 Hsd Hw0 Hz10 Hz0 Hz2 Hz3 Hab Hsp] with ⟨Hbufs, Hsems, Hb⟩
      · isplitl [Hr]; · iexact Hr
        isplitl [Hx]; · iexact Hx
        isplitl [Hcat]; · iexact Hcat
        isplitl [Hrd]; · iexact Hrd
        isplitl [Hsd]; · iexact Hsd
        isplitl [Hacc]; · iexact Hacc
        isplitl [Hw0]; · iexact Hw0
        isplitl [Hw1]; · iexact Hw1
        isplitl [Hsx]; · iexact Hsx
        isplitl [Hsw]; · iexact Hsw
        isplitl [Hout]; · iexact Hout
        isplitr [Hab Hsp]
        · unfold winZ
          isplitl [Hz0]; · iexact Hz0
          isplitl [Hz10]; · iexact Hz10
          isplitl [Hz11]; · iexact Hz11
          isplitl [Hz2]; · iexact Hz2
          isplitl [Hz3]; · iexact Hz3
          iexact Hz4
        isplitl [Hab] <;> iassumption
      iapply Hk
      isplitl [Hbufs]; · iexact Hbufs
      isplitl [Hsems]; · iexact Hsems
      isplitr [Hb Hclr]
      · unfold arrays
        isplitl [Htab]; · iexact Htab
        isplitl [Ha0]; · iexact Ha0
        isplitl [Ha1 Ha1']
        · iapply (halves c w).2
          isplitl [Ha1'] <;> iassumption
        isplitl [Ha2]; · iexact Ha2
        isplitl [Ha3] <;> iassumption
      isplitl [Hb] <;> iassumption)
  refine ent (Q := WL c (some (.inr 6)) (nx A 0) Q) ?_
  iintro ⟨Hk, Hbufs, Hsems, Harr, Hr, Hbr, Ho, #Hlev⟩
  unfold arrays
  icases Harr with ⟨Htab, Ha0, Ha1, Ha2, Ha3, Ha9⟩
  ihave Ha1 := (halves c w).1 $$ Ha1
  icases Ha1 with ⟨Ha1, Ha1'⟩
  unfold WL
  iapply (fupd_wp frame (wpE (defs (F := F)) VL (tc c) (some (.inr 6))) Set.univ _ _)
  imod (enter X κ c (A.1 0)) $$ [Hbufs Hsems Hr Hbr Htab] with ⟨Hg, Has, Hst, Hw, Hsp⟩
  · isplitl [Hr]; · iexact Hr
    isplitl [Hbr]; · iexact Hbr
    isplitl [Htab]; · iexact Htab
    isplitr; · iexact Hlev
    isplitl [Hbufs] <;> iassumption
  imodintro
  unfold stagings winZ
  icases Hst with ⟨Hsx, ⟨%y0, Hw0⟩, Hw1, Hssx, Hssw, ⟨%y, Hout⟩⟩
  icases Hw with ⟨Hz0, Hz10, Hz11, Hz2, Hz3, Hz4⟩
  iapply (call_next A c 0 5 (hrun y y0))
  isplitl [Ha1 Hw0 Hz10]
  · isplitl [Ha1]; · iexact Ha1
    isplitl [Hw0] <;> iassumption
  isplitl [Ha1']; · iexact Ha1'
  isplitl [Hw1]; · iexact Hw1
  isplitl [Hz11]; · iexact Hz11
  isplitl [Ha0 Hsx Hz0]
  · isplitl [Ha0]; · iexact Ha0
    isplitl [Hsx] <;> iassumption
  isplitl [Ha2 Hssx Hz2]
  · isplitl [Ha2]; · iexact Ha2
    isplitl [Hssx] <;> iassumption
  isplitl [Ha3 Hssw Hz3]
  · isplitl [Ha3]; · iexact Ha3
    isplitl [Hssw] <;> iassumption
  isplitl [Hg]; · iexact Hg
  isplitl [Ho]; · iexact Ho
  isplitr; · iexact Hlev
  isplitl [Has]; · iexact Has
  isplitl [Hout]; · iexact Hout
  isplitl [Ha9]; · iexact Ha9
  isplitl [Hz4]; · iexact Hz4
  isplitl [Hsp]; · iexact Hsp
  unfold arrays
  iexact Hk

/-- The call of the kernel. -/
theorem region (c : Dev nD) (h : names A c) {β : Type} (k : PUnit → Prog (TpuEff nD τ sig (Elt F) (Pipeline.Sig Λ₀ (Fin 1) fun p => (pcfgs (F := F) p).Adm) .tc) β)
    (K : β → sProp 𝕄) {w : Vec F S4096x8192 .i8} {sx sw : Vec F S1 .f32} {z : Vec F S256x8192 .f32} :
    iprop((iprop(boundary (tc c) ∗ arrays c (A.1 0) (X c) w sx sw (result X c w sx sw) ∗ semVal (barCell c) 0 ∗ (∃ W, owes (tc c) 0 W))
          -∗ wp frame (wpE (defs (F := F)) VL (tc c) none) Set.univ (k ⟨⟩) K)
        ∗ boundary (tc c) ∗ (arrays c (A.1 0) (X c) w sx sw z ∗ recs X κ ∗ brings c ∗ (∃ W, owes (tc c) (O₀ c) W)) ∗ levAts L lv)
      ⊢ wp frame (wpE (defs (F := F)) VL (tc c) none) Set.univ (.op (.customCall (Pipeline.entry 0) ()) k) K := by
  iintro ⟨Hk, Hbd, ⟨Harr, Hr, Hbr, Ho⟩, Hlev⟩
  unfold boundary
  icases Hbd with ⟨Hsc, Hss, Hop⟩
  iapply (wp_customCall VL (tc c) none Set.univ (ℓ := Pipeline.entry 0) (a := ()) (k := k) (Q := K) (Sum.inr 6) (fun u hu => by cases hu)) $$ Hsc
  iintro Hsc
  rw [show (defs (F := F)) (tc c).2 (Pipeline.entry 0) () = prun pcfgs 0 from rfl]
  unfold prun
  unfold arrays
  icases Harr with ⟨Htab, Harr⟩
  ihave Hpf := (Entails.of_eq (tab_pref c A.1).symm) $$ Htab
  iapply (Prefetch.wp_readAll VL (some (Sum.inr 6)) Set.univ pre0 c (fun _ => fullShare) A.1 _) $$ Hpf
  iintro Hpf
  ihave Htab := (Entails.of_eq (tab_pref c A.1)) $$ Hpf
  iapply (wp_assume VL _ (some (Sum.inr 6)) Set.univ A.2)
  rw [goes A]
  iapply (loop_all X κ A c h (w := w) (sx := sx) (sw := sw) (z := z))
  isplitl [Hk Hop]
  · iintro ⟨Hsc, Hss, Harr, Hb, Ho⟩
    rw [kernelExitSpec_apply]
    imodintro
    isplitl [Hss]; · iexact Hss
    iintro Hss
    isplitl [Hsc]; · iexact Hsc
    iintro Hsc
    iapply Hk
    isplitl [Hsc Hss Hop]
    · isplitl [Hsc]; · iexact Hsc
      isplitl [Hss] <;> iassumption
    isplitl [Harr]; · unfold arrays; iexact Harr
    isplitl [Hb] <;> iassumption
  isplitl [Hsc]; · iexact Hsc
  isplitl [Hss]; · iexact Hss
  isplitl [Htab Harr]
  · unfold arrays
    isplitl [Htab] <;> iassumption
  isplitl [Hr]; · iexact Hr
  isplitl [Hbr]; · iexact Hbr
  isplitl [Ho] <;> iassumption

end Cert.Talk
-- ==== Proof.Table.lean ====
/-
  The order of the quadrants, as the operations before the kernel compute it on each device.
-/
module

public import proofs.«01_k».proof.Proof.Region
public import proofs.«01_k».proof.Proof.Gen.KernelIdeal.Regions
public import Idealize.ShloMosaic.Lib.Claim
public import Idealize.ShloMosaic.Lib.StableHlo.Run
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (m : (ℓ : Loc nD τ sig) → Buf (Elt F) ℓ)

/-- The table of quadrants of device `c`. -/
def tab (c : Dev nD) : S4.Idx → BitVec 32 := fun j => qw (qt c (j 0))

theorem ix_of (j : S4.Idx) : j = ix (j 0) := funext fun a => match a with | 0 => rfl

/-- The sign, the quotient rounded down and the remainder with the divisor's sign, as the operations before the kernel compute them on words. -/
def sgn (x : BitVec 32) : BitVec 32 := if x = 0 then 0 else if x.msb then -1 else 1
def fdiv (a b : BitVec 32) : BitVec 32 :=
  Scalar.select (IntOp.andi (IntOp.cmpi .ne (sgn a) (sgn b)) (IntOp.cmpi .ne (IntOp.remsi .host a b) 0#32)) (IntOp.subi (IntOp.divsi .host a b) 1#32) (IntOp.divsi .host a b)
def frem (a b' : BitVec 32) : BitVec 32 :=
  let b := Scalar.select (IntOp.cmpi .eq b' 0#32) 1#32 b'
  Scalar.select (IntOp.andi (IntOp.cmpi .ne (IntOp.cmpi .slt (IntOp.remsi .host a b) 0#32) (IntOp.cmpi .slt b 0#32)) (IntOp.cmpi .ne (IntOp.remsi .host a b) 0#32))
    (IntOp.addi (IntOp.remsi .host a b) b) (IntOp.remsi .host a b)
def place (c : Dev nD) (t : Fin 4) : BitVec 32 :=
  frem (IntOp.addi (fdiv (IntOp.remui .host (IntOp.divui .host (Dev.word c) 1#32) 16#32) 4#32) (lit0 t)) 4#32

theorem place_eq : ∀ (c : Dev nD) (t : Fin 4), place c t = qw (qt c t) := by decide +kernel
theorem row_ix (t : Fin 4) : (S4.rowMajor (ix t) : Fin 4) = t := Fin.ext (Shape.rowMajor_val_one _)

theorem tab_val (c : Dev nD) : V4 m c main_v8 = tab c := by
  unfold_abbrev_sides
  after_results
  funext j
  rw [ix_of j]
  generalize j 0 = t
  refine Eq.trans ?_ (place_eq c t)
  unfold place
  conv_rhs => rw [← row_ix t]
  simp only [StableHlo.TRef.ofBuf_toBuf, StableHlo.TRef.toBuf, StableHlo.TRef.ofBuf, cast_eq, id]
  simp only [addi, subi, andi, cmpi, signi, select, broadcastInDim, Host.divsi, Host.remsi, Host.remui, Host.divui, constantI, frem, fdiv, sgn]
  rfl

theorem tab_ok (c : Dev nD) (T : pre0.Contents (Elt F)) (hT : T 0 = tab c) : ok0 T := by
  intro i
  have e : cc0_transform_1 k0_off1_inb numel1_S1 T i = ![(qt c (i 0)).val, 0] := by
    have g : ∀ (i : Fin 4) (h : BitVec.toNat (Scalar.indexCast (BitVec.ofNat 32 i.val)) < 4), (⟨BitVec.toNat (Scalar.indexCast (BitVec.ofNat 32 i.val)), h⟩ : Fin 4) = i := by decide
    have e0 : (T.at 0 (Rect.unit (s := S4) ![(Scalar.indexCast (BitVec.ofNat 32 (i 0).val)).toNat] S1.size (k0_off1_inb i)) numel1_S1 : BitVec 32) = qw (qt c (i 0)) := by
      unfold Prefetch.Contents.at
      rw [hT]
      unfold tab
      refine congrArg (fun x => qw (qt c x)) ?_
      have g : ∀ i : Fin 4, BitVec.toNat (Scalar.indexCast (BitVec.ofNat 32 i.val)) = i.val := by decide
      exact Fin.ext (g (i 0))
    unfold cc0_transform_1
    funext a
    match a with
    | 0 =>
      change BitVec.toNat (T.at 0 _ _) = _
      rw [e0]
      unfold qw; rw [BitVec.toNat_ofNat]; exact Nat.mod_eq_of_lt (lt_trans (qt c (i 0)).isLt (by decide))
    | 1 => rfl
  refine ⟨fun a => ?_, .inr (Affine.block_words_dvd (of_decide_eq_true rfl) (by decide))⟩
  rw [e]
  match a with
  | 0 =>
    have := (qt c (i 0)).isLt
    change ((qt c (i 0)).val + 1) * 1024 ≤ 4096
    omega
  | 1 => exact (by decide : (0 + 1) * 8192 ≤ 8192)

/-- The contents of the table as the kernel reads them. -/
def tabs (c : Dev nD) : pre0.Contents (Elt F) := fun | 0 => (tab c : S4.Idx → BitVec 32) | ⟨_ + 1, h⟩ => absurd h (Nat.not_lt.2 (Nat.le_add_left _ _))
def adm (c : Dev nD) : (pcfg0 (F := F)).Adm := ⟨tabs c, tab_ok c (tabs c) rfl⟩
theorem adm_names (c : Dev nD) : names (F := F) (adm c) c := fun t => rfl
end Cert.Talk
-- ==== Proof.Deal.lean ====
/-
  What every device is dealt before the program runs: its tokens, its credits, the cells' invariants.
-/
module

public import proofs.«01_k».proof.Proof.Table
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (X : Xs F)

/-! ## The tokens -/

theorem cancel_right : ∀ c c' d : Fin 16, c + d = c' + d → c = c' := by decide +kernel
theorem neg_inj' : ∀ d d' : Fin 16, -d = -d' → d = d' := by decide +kernel

/-- A device and a distance to another. -/
def pairs : Finset (Dev nD × Fin 16) := Finset.univ ×ˢ (Finset.univ.erase 0)
/-- The duties of the barrier cells, of the send cells and of the receive cells, by who pays them. -/
def barDuty (x : Dev nD × Fin 16) : GSem nD τ sig × ℕ × Fin 16 := (barCell (x.1 + x.2), 0, -x.2)
def sendDuty (x : Dev nD × Fin 16) : GSem nD τ sig × ℕ × Fin 16 := (sendCell x.1 x.2, 0, 0)
def recvDuty (x : Dev nD × Fin 16) : GSem nD τ sig × ℕ × Fin 16 := (recvCell (x.1 + x.2) x.2, 0, 0)
def allDuties : Finset (GSem nD τ sig × ℕ × Fin 16) := pairs.image barDuty ∪ (pairs.image sendDuty ∪ pairs.image recvDuty)

theorem tc_inj {c c' : Dev nD} (h : tc c = tc c') : c = c' := congrArg Prod.fst h
theorem send_ne_recv (d e : Fin 16) : (SemLoc.dma (sendS d) : SemLoc sig) ≠ .dma (recvS e) := fun h => by
  have := congrArg rdist h
  rw [rdist_send, rdist_recv] at this
  cases this

theorem barDuty_inj : Set.InjOn barDuty pairs := fun x _ y _ h => by
  have h2 : x.2 = y.2 := neg_inj' _ _ (congrArg (fun z : GSem nD τ sig × ℕ × Fin 16 => z.2.2) h)
  have h1 : x.1 + x.2 = y.1 + y.2 := tc_inj (congrArg (fun z : GSem nD τ sig × ℕ × Fin 16 => z.1.1) h)
  rw [h2] at h1
  exact Prod.ext (cancel_right _ _ _ h1) h2
theorem sendDuty_inj : Set.InjOn sendDuty pairs := fun x _ y _ h =>
  Prod.ext (tc_inj (congrArg (fun z : GSem nD τ sig × ℕ × Fin 16 => z.1.1) h)) (send_inj (congrArg (fun z : GSem nD τ sig × ℕ × Fin 16 => z.1.2) h))
theorem recvDuty_inj : Set.InjOn recvDuty pairs := fun x _ y _ h => by
  have h2 : x.2 = y.2 := recv_inj (congrArg (fun z : GSem nD τ sig × ℕ × Fin 16 => z.1.2) h)
  have h1 : x.1 + x.2 = y.1 + y.2 := tc_inj (congrArg (fun z : GSem nD τ sig × ℕ × Fin 16 => z.1.1) h)
  rw [h2] at h1
  exact Prod.ext (cancel_right _ _ _ h1) h2

theorem images_disjoint {f g : Dev nD × Fin 16 → GSem nD τ sig × ℕ × Fin 16} (h : ∀ x y, (f x).1.2 ≠ (g y).1.2) :
    Disjoint (pairs.image f) (pairs.image g) := by
  rw [Finset.disjoint_left]
  intro z hz hz'
  obtain ⟨x, -, rfl⟩ := Finset.mem_image.mp hz
  obtain ⟨y, -, e⟩ := Finset.mem_image.mp hz'
  exact h x y (congrArg (fun z : GSem nD τ sig × ℕ × Fin 16 => z.1.2) e).symm

theorem send_recv_disjoint : Disjoint (pairs.image sendDuty) (pairs.image recvDuty) := images_disjoint fun x y => send_ne_recv x.2 y.2
theorem bar_rest_disjoint : Disjoint (pairs.image barDuty) (pairs.image sendDuty ∪ pairs.image recvDuty) := by
  rw [Finset.disjoint_union_right]
  exact ⟨images_disjoint fun x y h => send_ne_bar y.2 h.symm, images_disjoint fun x y h => recv_ne_bar y.2 h.symm⟩

theorem over_pairs (t : Finset (Fin 16)) (Φ : Dev nD × Fin 16 → sProp 𝕄) :
    bigSep (Finset.univ ×ˢ t) Φ = bigSep Finset.univ fun c : Dev nD => bigSep t fun d => Φ (c, d) := by
  have h1 : (Finset.univ ×ˢ t : Finset (Dev nD × Fin 16)) = Finset.univ.filter fun x => x.2 ∈ t := by ext x; simp
  have h2 : t = Finset.univ.filter fun d => d ∈ t := by ext x; simp
  rw [h1, bigSep_filter, bigSep_univ_prod]
  refine bigSep_congr fun c _ => ?_
  conv_rhs => rw [h2, bigSep_filter]

/-- The tokens, dealt to the devices that pay with them. -/
theorem tokens_deal : bigSep allDuties (fun x => (dutyTok ET x.1 x.2.1 x.2.2 : sProp 𝕄))
    = bigSep Finset.univ fun c : Dev nD => iprop(bigSep (Finset.univ.erase 0) (fun d : Fin 16 => dutyTok ET (barCell (c + d)) 0 (-d))
        ∗ bigSep (Finset.univ.erase 0) (fun d : Fin 16 => iprop(dutyTok ET (sendCell c d) 0 0 ∗ dutyTok ET (recvCell (c + d) d) 0 0))) := by
  unfold allDuties
  rw [BI.bigSep_union bar_rest_disjoint, BI.bigSep_union send_recv_disjoint, bigSep_image_of_injOn barDuty_inj, bigSep_image_of_injOn sendDuty_inj,
    bigSep_image_of_injOn recvDuty_inj]
  unfold pairs
  rw [over_pairs, over_pairs, over_pairs, bigSep_sep']
  refine congrArg (BI.sep _) ?_
  rw [bigSep_congr (s := Finset.univ) (fun (c : Dev nD) _ => bigSep_sep' (Finset.univ.erase 0) (fun d : Fin 16 => (dutyTok ET (sendCell c d) 0 0 : sProp 𝕄)) fun d => dutyTok ET (recvCell (c + d) d) 0 0), bigSep_sep']
  rfl

/-! ## The cells -/

theorem cells_disjoint : Disjoint barCells dmaCells := by
  rw [Finset.disjoint_left]
  intro g hg hg'
  obtain ⟨c, -, rfl⟩ := Finset.mem_image.mp hg
  rcases Finset.mem_union.mp hg' with h | h
  · obtain ⟨x, -, e⟩ := Finset.mem_image.mp h
    exact send_ne_bar x.2 (congrArg Prod.snd e)
  · obtain ⟨x, -, e⟩ := Finset.mem_image.mp h
    exact recv_ne_bar x.2 (congrArg Prod.snd e)

theorem bar_each (Φ : GSem nD τ sig → sProp 𝕄) : bigSep barCells Φ = bigSep Finset.univ fun c : Dev nD => Φ (barCell c) := by
  unfold barCells
  exact bigSep_image_of_injOn (fun c _ c' _ h => tc_inj (congrArg Prod.fst h)) Φ

theorem open_each : bigSep dmaCells (fun g => (openTok ET g : sProp 𝕄)) ⊢ bigSep Finset.univ fun c : Dev nD => bigSep (Finset.univ.erase 0) (mayOpen (F := F) c) := by
  have hd : Disjoint (Finset.univ.image fun x : Dev nD × Fin 16 => sendCell x.1 x.2) (Finset.univ.image fun x : Dev nD × Fin 16 => recvCell x.1 x.2) := by
    rw [Finset.disjoint_left]
    intro g hg hg'
    obtain ⟨x, -, rfl⟩ := Finset.mem_image.mp hg
    obtain ⟨y, -, e⟩ := Finset.mem_image.mp hg'
    exact send_ne_recv x.2 y.2 (congrArg Prod.snd e).symm
  unfold dmaCells
  rw [BI.bigSep_union hd,
    bigSep_image_of_injOn (fun x _ y _ h => Prod.ext (tc_inj (congrArg Prod.fst h)) (send_inj (congrArg Prod.snd h))),
    bigSep_image_of_injOn (fun x _ y _ h => Prod.ext (tc_inj (congrArg Prod.fst h)) (recv_inj (congrArg Prod.snd h))),
    bigSep_univ_prod, bigSep_univ_prod]
  refine (Entails.of_eq (bigSep_sep' Finset.univ _ _).symm).trans (bigSep_mono fun c _ => ?_)
  refine (Entails.of_eq (bigSep_sep' Finset.univ _ _).symm).trans ?_
  exact BI.bigSep_subset (Finset.erase_subset _ _)

/-! ## The credits -/

theorem count_bar : ∀ c : Fin 16, (∑ d : Fin 16, ∑ e ∈ Finset.univ.erase (0 : Fin 16), if d + e = c then 1 else 0) = 15 := by decide +kernel
theorem count_recv : ∀ c e' : Fin 16, e' ≠ 0 → (∑ d : Fin 16, ∑ e ∈ Finset.univ.erase (0 : Fin 16), if d + e = c ∧ e = e' then 1 else 0) = 1 := by decide +kernel

theorem owed_bar (d c : Dev nD) : O₀ d (barCell c) () = ∑ e ∈ Finset.univ.erase (0 : Fin 16), if d + e = c then 1 else 0 := by
  unfold O₀ oweB oweR
  rw [Pi.add_apply, Finsupp.add_apply, Finset.sum_apply, Finsupp.finset_sum_apply, Finset.sum_apply, Finsupp.finset_sum_apply]
  rw [Finset.sum_eq_zero (s := Finset.univ.erase (0 : Fin 16)) (f := fun e => tallyAt (recvCell (d + e) e) () N (barCell c) ()) fun e _ => by
    rw [tallyAt_ne_cell (fun h => recv_ne_bar e (congrArg Prod.snd h).symm), Finsupp.zero_apply], Nat.add_zero]
  refine Finset.sum_congr rfl fun e _ => ?_
  rw [tallyAt_apply]
  by_cases h : d + e = c
  · rw [if_pos h, if_pos ⟨by rw [h], rfl⟩]
  · rw [if_neg h, if_neg fun ⟨h', _⟩ => h (tc_inj (congrArg Prod.fst h')).symm]

theorem owed_recv (d c : Dev nD) (e' : Fin 16) :
    O₀ d (recvCell c e') () = (∑ e ∈ Finset.univ.erase (0 : Fin 16), if d + e = c ∧ e = e' then 1 else 0) * N := by
  unfold O₀ oweB oweR
  rw [Pi.add_apply, Finsupp.add_apply, Finset.sum_apply, Finsupp.finset_sum_apply, Finset.sum_apply, Finsupp.finset_sum_apply]
  rw [Finset.sum_eq_zero (s := Finset.univ.erase (0 : Fin 16)) (f := fun e => tallyAt (barCell (d + e)) () 1 (recvCell c e') ()) fun e _ => by
    rw [tallyAt_ne_cell (fun h => recv_ne_bar e' (congrArg Prod.snd h)), Finsupp.zero_apply], Nat.zero_add, Finset.sum_mul]
  refine Finset.sum_congr rfl fun e _ => ?_
  rw [tallyAt_apply]
  by_cases h : d + e = c ∧ e = e'
  · rw [if_pos h, if_pos ⟨by rw [h.1, h.2], rfl⟩, Nat.one_mul]
  · rw [if_neg h, if_neg fun ⟨h', _⟩ => h ⟨(tc_inj (congrArg Prod.fst h')).symm, (recv_inj (congrArg Prod.snd h')).symm⟩, Nat.zero_mul]

theorem launch_bar (c : Dev nD) :
    tallyOn (barCell c) (launchCredit (Pipeline.owing O₀) 0 (barCell c)) = (tallyAt (barCell c) () 15 : CellTallies nD τ sig Unit) := by
  unfold tallyAt
  refine congrArg _ (Finsupp.ext fun u => ?_)
  cases u
  rw [Pipeline.launchCredit_owing, Finsupp.single_eq_same, Finset.sum_congr rfl fun d _ => owed_bar d c]
  exact count_bar c

theorem launch_recv (c : Dev nD) (e : Fin 16) (he : e ≠ 0) :
    tallyOn (recvCell c e) (launchCredit (Pipeline.owing O₀) 0 (recvCell c e)) = (tallyAt (recvCell c e) () N : CellTallies nD τ sig Unit) := by
  unfold tallyAt
  refine congrArg _ (Finsupp.ext fun u => ?_)
  cases u
  rw [Pipeline.launchCredit_owing, Finsupp.single_eq_same, Finset.sum_congr rfl fun d _ => owed_recv d c e, ← Finset.sum_mul]
  exact (congrArg (· * N) (count_recv c e he)).trans (Nat.one_mul N)

/-- A device's credits at launch: what it waits for at its barrier cell and at its receive cells. -/
theorem credits (c : Dev nD) : (Pipeline.launchCred O₀ c : sProp 𝕄)
    ⊢ iprop(cred (tallyAt (barCell c) () 15) ∗ bigSep (Finset.univ.erase 0) fun d : Fin 16 => cred (tallyAt (recvCell c d) () N)) := by
  unfold Pipeline.launchCred
  rw [bigSep_univ_at _ (SemLoc.reg barS), launch_bar]
  refine sep_mono_right ?_
  have hs : (Finset.univ.erase (0 : Fin 16)).image (fun d => (SemLoc.dma (recvS d) : SemLoc sig)) ⊆ Finset.univ.erase (SemLoc.reg barS) := by
    intro sm hsm
    obtain ⟨d, -, rfl⟩ := Finset.mem_image.mp hsm
    exact Finset.mem_erase.mpr ⟨recv_ne_bar d, Finset.mem_univ _⟩
  refine (BI.bigSep_subset hs).trans ?_
  rw [bigSep_image_of_injOn (fun d _ e _ h => recv_inj h)]
  exact bigSep_mono fun d hd => Entails.of_eq (congrArg cred (launch_recv c d (Finset.ne_of_mem_erase hd)))

/-! ## The deal -/

theorem sems_at (c : Dev nD) : (unscopedSems0 c : sProp 𝕄) = semVal (barCell c) 0 := by
  unfold unscopedSems0
  rw [bigSep_eq_bigSepL_of_eq [SemLoc.reg barS] (by decide) (by decide)]
  rfl

/-- The launch's own share of the ghost state, kept with device 0 until it is dealt. -/
def purse (c : Dev nD) : sProp 𝕄 := if c = 0 then BI.own (ET (launchOf barCells dmaCells allDuties)) else BI.emp

theorem purse_zero : purse (F := F) 0 = BI.own (ET (launchOf barCells dmaCells allDuties)) := if_pos rfl
theorem purse_other (c : Dev nD) (hc : c ∈ Finset.univ.erase (0 : Dev nD)) : purse (F := F) c = BI.emp := if_neg (Finset.ne_of_mem_erase hc)

theorem purse_in : BI.own (ET (launchOf barCells dmaCells allDuties)) ⊢ (bigSep Finset.univ (purse (F := F)) : sProp 𝕄) := by
  rw [BI.bigSep_erase (Finset.mem_univ (0 : Dev nD)), bigSep_congr purse_other, bigSep_emp_const, purse_zero]
  change _ ⊢ iprop(BI.own (ET (launchOf barCells dmaCells allDuties)) ∗ emp)
  refine ent (F := F) ?_
  iintro H
  isplitl [H]; · iexact H
  iempintro

/-- What a device brings to the kernel, with the records every device shares. -/
def starts (c : Dev nD) : sProp 𝕄 := iprop((∃ κ, recs X κ) ∗ brings (F := F) c ∗ ∃ W, owes (tc c) (O₀ c) W)

theorem starts_all (κ : GSem nD τ sig → ℕ) : iprop(recs X κ ∗ bigSep Finset.univ fun c : Dev nD => iprop(brings (F := F) c ∗ ∃ W, owes (tc c) (O₀ c) W))
    ⊢ bigSep Finset.univ (starts X) := by
  refine (sep_mono_left (BI.bigSep_of_persistent (Finset.univ : Finset (Dev nD)) (recs X κ))).trans ?_
  rw [← bigSep_sep']
  refine bigSep_mono fun c _ => ?_
  refine ent (F := F) ?_
  unfold starts
  iintro ⟨#H, HB, HO⟩
  isplitr
  · iexists κ; iexact H
  isplitl [HB]; · iexact HB
  iexact HO

/-- The cells' invariants made, every barrier cell open, and the tokens. -/
theorem made (T : Finset (GSem nD τ sig × ℕ × Fin 16)) :
    iprop(bigSep barCells (fun g => (semVal g 0 : sProp 𝕄)) ∗ BI.own (ET (launchOf barCells dmaCells T)))
      ⊢ iprop(|={Set.univ}=> ∃ κ, recs X κ ∗ bigSep barCells (fun g => atPos ET g 0 ∅ 0) ∗ bigSep dmaCells (fun g => openTok ET g)
        ∗ bigSep T fun x => dutyTok ET x.1 x.2.1 x.2.2) := by
  refine ent (F := F) ?_
  iintro H
  imod (Rounds.fund_launch ET (talk X) cells_disjoint (fun g _ h => (h : False)) T) $$ H with ⟨%κ, -, HI, HR, HP, HT, HD⟩
  imodintro
  iexists κ
  isplitl [HI HR]
  · unfold recs; isplitl [HI] <;> iassumption
  isplitl [HP]; · iexact HP
  isplitl [HT]; · iexact HT
  iexact HD

theorem brings_all : iprop((bigSep Finset.univ fun c : Dev nD => (atPos ET (barCell c) 0 ∅ 0 : sProp 𝕄)) ∗ (bigSep Finset.univ fun c : Dev nD => bigSep (Finset.univ.erase 0) (mayOpen (F := F) c))
      ∗ (bigSep Finset.univ fun c : Dev nD => iprop(bigSep (Finset.univ.erase 0) (fun d : Fin 16 => dutyTok ET (barCell (c + d)) 0 (-d))
        ∗ bigSep (Finset.univ.erase 0) (fun d : Fin 16 => iprop(dutyTok ET (sendCell c d) 0 0 ∗ dutyTok ET (recvCell (c + d) d) 0 0))))
      ∗ (bigSep Finset.univ fun c : Dev nD => Pipeline.launchCred O₀ c)
      ∗ bigSep Finset.univ fun c : Dev nD => owes (tc c) (O₀ c) ∅)
      ⊢ bigSep Finset.univ fun c : Dev nD => iprop(brings (F := F) c ∗ ∃ W, owes (tc c) (O₀ c) W) := by
  rw [← bigSep_sep', ← bigSep_sep', ← bigSep_sep', ← bigSep_sep']
  refine bigSep_mono fun c _ => ?_
  refine ent (F := F) ?_
  unfold brings
  iintro ⟨H1, H2, ⟨H3, H4⟩, HC, H7⟩
  ihave HC := (credits (F := F) c) $$ HC
  icases HC with ⟨H5, H6⟩
  isplitr [H7]
  · isplitl [H2]; · iexact H2
    isplitl [H3]; · iexact H3
    isplitl [H5]; · iexact H5
    isplitl [H1]; · iexact H1
    isplitl [H4]; · iexact H4
    iexact H6
  · iexists ∅; iexact H7

theorem bar_sems : (bigSep Finset.univ fun c : Dev nD => (unscopedSems0 c : sProp 𝕄)) = bigSep barCells fun g => semVal g 0 := by
  rw [bar_each]; exact bigSep_congr fun c _ => sems_at c

theorem deal : iprop((bigSep Finset.univ fun c : Dev nD => (unscopedSems0 c : sProp 𝕄)) ∗ bigSep Finset.univ (purse (F := F))
      ∗ (bigSep Finset.univ fun c : Dev nD => owes (tc c) (O₀ c) ∅) ∗ bigSep Finset.univ fun c : Dev nD => Pipeline.launchCred O₀ c)
    ⊢ iprop(|={Set.univ}=> bigSep Finset.univ (starts X)) := by
  rw [bar_sems]
  refine ent (F := F) ?_
  iintro ⟨HS, HU, HO, HC⟩
  ihave HU := (show bigSep Finset.univ (purse (F := F)) ⊢ BI.own (ET (launchOf barCells dmaCells allDuties)) from
    (bigSep_elim (Finset.mem_univ (0 : Dev nD))).trans (Entails.of_eq purse_zero)) $$ HU
  imod (made X allDuties) $$ [HS HU] with ⟨%κ, HI, HP, HT, HD⟩
  · isplitl [HS] <;> iassumption
  imodintro
  iapply (starts_all X κ)
  isplitl [HI]; · iexact HI
  ihave HP := (Entails.of_eq (bar_each fun g => (atPos ET g 0 ∅ 0 : sProp 𝕄))) $$ HP
  ihave HT := (open_each (F := F)) $$ HT
  ihave HD := (Entails.of_eq (tokens_deal (F := F))) $$ HD
  iapply (brings_all (F := F))
  isplitl [HP]; · iexact HP
  isplitl [HT]; · iexact HT
  isplitl [HD]; · iexact HD
  isplitl [HC]; · iexact HC
  iexact HO
end Cert.Talk
-- ==== Proof.Whole.lean ====
/-
  The whole program on every device: the kernel as a stretch of the host program, and the run.
-/
module

public import proofs.«01_k».proof.Proof.Deal
@[expose] public section
noncomputable section
namespace Cert.Talk
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
variable {F : FTy → Type} [FloatOps F]
local notation "𝕄" => MT nD τ sig Unit (Elt F) ℕ UU ℕ
variable (m : (ℓ : Loc nD τ sig) → Buf (Elt F) ℓ) (ρ : Dev nD → PrngReg)

/-! ## Contents -/

/-- The shards of `x` at launch. -/
def shards : Xs F := fun c => m ((c : Thread nD τ).loc main_arg0)
/-- The result of device `c`. -/
def outcome (c : Dev nD) : Vec F S256x8192 .f32 :=
  result (shards m) c (m ((c : Thread nD τ).loc main_arg1)) (m ((c : Thread nD τ).loc main_arg2)) (m ((c : Thread nD τ).loc main_arg3))
def outs : Outs (F := F) := fun _ r c => Function.update (β := fun r : Ref sig .tc => Buf (Elt F) ((c : Thread nD τ).loc r)) (fun r => m ((c : Thread nD τ).loc r)) main_v9 (outcome m c) r

theorem after_v9 (c : Dev nD) : V5 m (outs m) c main_v9 = outcome m c := by
  unfold V5 outs
  rw [Function.update_self, Function.update_self]
theorem before_arg0 (c : Dev nD) : V4 m c main_arg0 = shards m c := (V5_of m (outs m) c main_arg0 (by decide)).symm.trans (V5_main_arg0 m (outs m) c)
theorem before_arg1 (c : Dev nD) : V4 m c main_arg1 = m ((c : Thread nD τ).loc main_arg1) := (V5_of m (outs m) c main_arg1 (by decide)).symm.trans (V5_main_arg1 m (outs m) c)
theorem before_arg2 (c : Dev nD) : V4 m c main_arg2 = m ((c : Thread nD τ).loc main_arg2) := (V5_of m (outs m) c main_arg2 (by decide)).symm.trans (V5_main_arg2 m (outs m) c)
theorem before_arg3 (c : Dev nD) : V4 m c main_arg3 = m ((c : Thread nD τ).loc main_arg3) := (V5_of m (outs m) c main_arg3 (by decide)).symm.trans (V5_main_arg3 m (outs m) c)

/-! ## The buffers the kernel uses -/

def used : Finset (DevRef τ sig) := ([main_v8, main_arg0, main_arg1, main_arg2, main_arg3, main_v9].map (Proc.devRef (τ := τ) .tc)).toFinset
theorem used_sub : used ⊆ Pipeline.ucRefs τ sig := by
  intro b hb
  obtain ⟨r, hr, rfl⟩ := List.mem_map.mp (List.mem_toFinset.mp hb)
  refine Finset.mem_filter.mpr ⟨StableHlo.devRef_mem_tcRefs r, ?_⟩
  revert r
  decide

theorem held_used (c : Dev nD) (V : Valuation τ sig (Elt F)) :
    (StableHlo.held (c : Thread nD τ) used V : sProp 𝕄) = arrays c (V main_v8) (V main_arg0) (V main_arg1) (V main_arg2) (V main_arg3) (V main_v9) := by
  unfold StableHlo.held
  rw [bigSep_eq_bigSepL_of_eq ([main_v8, main_arg0, main_arg1, main_arg2, main_arg3, main_v9].map (Proc.devRef (τ := τ) .tc)) (by decide) (by decide)]
  rfl

theorem rest_kept (c : Dev nD) : (StableHlo.held (c : Thread nD τ) (Pipeline.ucRefs τ sig \ used) (V4 m c) : sProp 𝕄)
    = StableHlo.held (c : Thread nD τ) (Pipeline.ucRefs τ sig \ used) (V5 m (outs m) c) := by
  refine StableHlo.held_congr _ fun b hb => ?_
  unfold V5
  rw [Function.update_of_ne]
  rintro rfl
  exact (Finset.mem_sdiff.mp hb).2 (by decide)

theorem held_before (c : Dev nD) {x : Vec F S256x8192 .f32} (hx : V4 m c main_v9 = x) : (StableHlo.held (c : Thread nD τ) (Pipeline.ucRefs τ sig) (V4 m c) : sProp 𝕄)
    = iprop(arrays c ((adm (F := F) c).1 0) (shards m c) (m ((c : Thread nD τ).loc main_arg1)) (m ((c : Thread nD τ).loc main_arg2)) (m ((c : Thread nD τ).loc main_arg3)) x
      ∗ StableHlo.held (c : Thread nD τ) (Pipeline.ucRefs τ sig \ used) (V4 m c)) := by
  rw [StableHlo.held_sub_split _ used_sub, held_used, tab_val, before_arg0, before_arg1, before_arg2, before_arg3, hx]
  rfl

theorem held_after (c : Dev nD) : (StableHlo.held (c : Thread nD τ) (Pipeline.ucRefs τ sig) (V5 m (outs m) c) : sProp 𝕄)
    = iprop(arrays c ((adm (F := F) c).1 0) (shards m c) (m ((c : Thread nD τ).loc main_arg1)) (m ((c : Thread nD τ).loc main_arg2)) (m ((c : Thread nD τ).loc main_arg3)) (outcome m c)
      ∗ StableHlo.held (c : Thread nD τ) (Pipeline.ucRefs τ sig \ used) (V4 m c)) := by
  rw [StableHlo.held_sub_split _ used_sub, held_used, after_v9, V5_main_arg0, V5_main_arg1, V5_main_arg2, V5_main_arg3, V5_of m (outs m) c main_v8 (by decide), tab_val, ← rest_kept]
  rfl

/-! ## The kernel as a stretch of the host program -/

def ends (c : Dev nD) : sProp 𝕄 := iprop(semVal (barCell c) 0 ∗ ∃ W, owes (tc c) 0 W)

/-- What rides along beside the buffers: before the kernel, and after it. -/
def beside : Fin 2 → Dev nD → sProp 𝕄
  | 0 => starts (shards m)
  | 1 => ends

theorem ker_run (c : Dev nD) {β : Type} (k : PUnit → Prog (TpuEff nD τ sig (Elt F) (Pipeline.Sig Λ₀ (Fin 1) fun p => (pcfgs (F := F) p).Adm) .tc) β) (K : β → sProp 𝕄) :
    iprop((iprop(boundary (tc c) ∗ (StableHlo.held (c : Thread nD τ) (Pipeline.ucRefs τ sig) (V5 m (outs m) c) ∗ beside m 1 c)) -∗ wp frame (wpE (defs (F := F)) VL (tc c) none) Set.univ (k ⟨⟩) K)
        ∗ boundary (tc c) ∗ (StableHlo.held (c : Thread nD τ) (Pipeline.ucRefs τ sig) (V4 m c) ∗ beside m 0 c) ∗ levAts L lv)
      ⊢ wp frame (wpE (defs (F := F)) VL (tc c) none) Set.univ (.op (.customCall (Pipeline.entry 0) ()) k) K := by
  rw [held_after, held_before m c rfl]
  change iprop(_ ∗ _ ∗ (_ ∗ starts (shards m) c) ∗ _) ⊢ _
  unfold starts
  refine ent (F := F) ?_
  iintro ⟨Hk, Hb, ⟨⟨Ha, Hr⟩, ⟨%κ, Hrec⟩, Hbr, HO⟩, Hl⟩
  iapply (region (shards m) κ (adm c) c (adm_names c) k K)
  isplitl [Hk Hr]
  · iintro ⟨Hb, Ha, Hs, HO⟩
    iapply Hk
    isplitl [Hb]; · iexact Hb
    isplitl [Ha Hr]
    · isplitl [Ha]; · iexact Ha
      iexact Hr
    · iapply (show iprop(semVal (barCell c) 0 ∗ ∃ W, owes (tc c) 0 W) ⊢ beside m 1 c from .rfl)
      isplitl [Hs]; · iexact Hs
      iexact HO
  isplitl [Hb]; · iexact Hb
  isplitr [Hl]
  · isplitl [Ha]; · iexact Ha
    isplitl [Hrec]; · iexact Hrec
    isplitl [Hbr]; · iexact Hbr
    iexact HO
  iexact Hl

def kerSeg : HostSeg (Ix := Unit) (Name := ℕ) (U := UU) (Lvl := ℕ) (pcfgs (F := F)) defs₀ Variants.none L lv where
  prog := Prog.lift (.customCall (Pipeline.entry 0) ())
  pre c := iprop(StableHlo.held (c : Thread nD τ) (Pipeline.ucRefs τ sig) (V4 m c) ∗ beside m 0 c)
  post c := iprop(StableHlo.held (c : Thread nD τ) (Pipeline.ucRefs τ sig) (V5 m (outs m) c) ∗ beside m 1 c)
  run := ker_run m

/-! ## The run -/

/-- The tables and the loop data the launch asks for; the kernel being a host stretch here, nothing reads them. -/
def anyAdm : (p : Fin 1) → (pcfgs (F := F) p).Adm := fun | 0 => adm 0 | ⟨_ + 1, h⟩ => absurd h (Nat.not_lt.2 (Nat.le_add_left _ _))
def anyDat (p : Fin 1) (c : Dev nD) : Dat τ (Elt F) Unit ℕ UU ℕ (Pipeline.pin (pcfgs (F := F)) anyAdm p) c where
  A _ := m _
  after := Dat.unnamed
  Φ _ := iprop(emp)
  q _ := fullShare
  owed _ := 0

abbrev stretches (c : Dev nD) : List (Seg (pcfgs (F := F)) anyAdm (anyDat m) () defs₀ Variants.none L lv) :=
  [.host (seg0 m Variants.none L lv (beside m) c), .host (seg1 m Variants.none L lv (beside m)), .host (seg2 m Variants.none L lv (beside m)),
    .host (seg3 m Variants.none L lv (beside m)), .host (kerSeg m)]

def u₀ : UU :=
  (initOf (Pipeline.cells (Pipeline.pin (pcfgs (F := F)) anyAdm) (cellOf_inj anyAdm)) (Pipeline.launchToks (Pipeline.pin (pcfgs (F := F)) anyAdm) (cellOf_inj anyAdm)),
    (Emb.inl : Emb UT (UT × Counters)) (launchOf barCells dmaCells allDuties))

theorem init : iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ purse (F := F) c)) ∗ levAts L lv)
      ⊢ (|={Set.univ}=> bigSep Finset.univ fun c : Dev nD => iprop(StableHlo.held (c : Thread nD τ) (Pipeline.ucRefs τ sig) (V0 m c) ∗ beside m 0 c) : sProp 𝕄) := by
  rw [bigSep_congr (s := Finset.univ) fun (c : Dev nD) _ => congrArg (fun P : sProp 𝕄 => iprop(P ∗ unscopedSems0 c
          ∗ owes (c.tc : Thread nD τ) (O₀ c) ∅ ∗ Pipeline.launchCred O₀ c ∗ prngReg c (ρ c) ∗ purse (F := F) c))
      (Pipeline.unscopedBufs_held (Ix := Unit) (Name := ℕ) (U := UU) (Lvl := ℕ) c (V0 m c))]
  rw [bigSep_sep', bigSep_sep', bigSep_sep', bigSep_sep', bigSep_sep', bigSep_sep']
  refine ent (F := F) ?_
  iintro ⟨⟨Hh, Hs, HO, Hc, -, Hp⟩, -⟩
  imod (deal (shards m)) $$ [Hs HO Hc Hp] with H
  · isplitl [Hs]; · iexact Hs
    isplitl [Hp]; · iexact Hp
    isplitl [HO]; · iexact HO
    iexact Hc
  imodintro
  isplitl [Hh]; · iexact Hh
  iexact H

-- `θ_run_regions_kit_dev_sems`'s implicit arguments are found by unifying its conclusion with this one, which takes unfolding
-- plain definitions in a metavariable's type
set_option backward.isDefEq.respectTransparency.types false in
/-- The run: from any memory with zero counters every weakly fair execution on the sixteen devices ends, with every argument as
    it was, every device's result the `outcome`, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v9) = outcome m c) ∧ r.2.sem = fun _ => 0) :=
  Pipeline.θ_run_regions_kit_dev_sems (pcfgs (F := F)) anyAdm (anyDat m) () (cellOf_inj anyAdm) EP defs₀ Variants.none L lv m ρ main
    (stretches m)
    (fun c Q => by
      rewrite [main_chain c, Seg.run_eq_chain,
        show (stretches m c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [stretches, Seg.pipes_host, Seg.pipes_nil]; decide) O₀ L_of_ne (purse (F := F)) u₀
    (by
      unfold u₀
      refine ent (F := F) ?_
      iintro Hu
      ihave H := (ownU_pair _ _) $$ Hu
      icases H with ⟨HP, HX⟩
      imodintro
      isplitl [HP]; · iexact HP
      iapply (purse_in (F := F))
      iexact HX)
    (T₀ := fun c => iprop(StableHlo.held (c : Thread nD τ) (Pipeline.ucRefs τ sig) (V0 m c) ∗ beside m 0 c))
    (Tₙ := fun c => iprop(StableHlo.held (c : Thread nD τ) (Pipeline.ucRefs τ sig) (V5 m (outs m) c) ∗ semVal (barCell c) 0))
    (hch := fun c => ⟨.rfl, .rfl, .rfl, .rfl, .rfl, by
      change iprop(StableHlo.held (c : Thread nD τ) (Pipeline.ucRefs τ sig) (V5 m (outs m) c) ∗ (semVal (barCell c) 0 ∗ ∃ W, owes (tc c) 0 W)) ⊢ _
      refine ent (F := F) ?_
      iintro ⟨Hh, Hs, HO⟩
      isplitr [HO]
      · isplitl [Hh] <;> iassumption
      · iexact HO⟩)
    (hinit := init m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v9) = outcome m c) ∧ s.sem (barCell c) = 0)
    (hfin := fun c s' => by
      refine ent (F := F) ?_
      unfold StableHlo.held
      iintro ⟨⟨Hh, Hb⟩, HSI⟩
      icombine HSI Hb gives %hb
      ihave Hr := (pointsTo_read_all (Pipeline.ucRefs τ sig) (fun b => ((c : Thread nD τ).1, b)) (V5 m (outs m) c) s') $$ [Hh HSI]
      · isplitl [Hh] <;> iassumption
      icases Hr with ⟨%h, HSI⟩
      imodintro
      isplitr
      · ipureintro
        exact ⟨⟨⟨(h (Proc.devRef .tc main_arg0) (Finset.mem_filter.mpr ⟨StableHlo.devRef_mem_tcRefs main_arg0, by decide⟩)).trans (V5_main_arg0 m (outs m) c),
          (h (Proc.devRef .tc main_arg1) (Finset.mem_filter.mpr ⟨StableHlo.devRef_mem_tcRefs main_arg1, by decide⟩)).trans (V5_main_arg1 m (outs m) c),
          (h (Proc.devRef .tc main_arg2) (Finset.mem_filter.mpr ⟨StableHlo.devRef_mem_tcRefs main_arg2, by decide⟩)).trans (V5_main_arg2 m (outs m) c),
          (h (Proc.devRef .tc main_arg3) (Finset.mem_filter.mpr ⟨StableHlo.devRef_mem_tcRefs main_arg3, by decide⟩)).trans (V5_main_arg3 m (outs m) c)⟩,
          (h (Proc.devRef .tc main_v9) (Finset.mem_filter.mpr ⟨StableHlo.devRef_mem_tcRefs main_v9, by decide⟩)).trans (after_v9 m c)⟩, by simpa using hb⟩
      · iexact HSI)
    (hQ := fun s h hs => ⟨fun c => (h c).1, sem_eq_zero hs fun c sm hsm => by
      have e : sm = SemLoc.reg barS := by revert sm; decide
      rw [e]
      exact (h c).2⟩)
end Cert.Talk
-- ==== Proof.Twin.lean ====
/-
  The program over bit patterns and the program over the reals have one text, so they are one program at any float values:
  proved here function by function, each from the ones it calls.
-/
module

public import proofs.«01_k».proof.Proof.Gen.Kernel.Skeleton
public import proofs.«01_k».proof.Proof.Gen.KernelIdeal.Skeleton

@[expose] public section

noncomputable section

namespace Cert.Talk
open Idealize.ShloMosaic Idealize.SL.Sem

variable {F : FTy → Type} [FloatOps F]

theorem part1_same : @Cert.Kernel.k0_part1 F _ = @Cert.KernelIdeal.k0_part1 F _ := by exact rfl
theorem part2_same : @Cert.Kernel.k0_part2 F _ = @Cert.KernelIdeal.k0_part2 F _ := by exact rfl
theorem part3_same : @Cert.Kernel.k0_part3 F _ = @Cert.KernelIdeal.k0_part3 F _ := by exact rfl
theorem part4_same : @Cert.Kernel.k0_part4 F _ = @Cert.KernelIdeal.k0_part4 F _ := by exact rfl
theorem part5_same : @Cert.Kernel.k0_part5 F _ = @Cert.KernelIdeal.k0_part5 F _ := by exact rfl
theorem part6_same : @Cert.Kernel.k0_part6 F _ = @Cert.KernelIdeal.k0_part6 F _ := by exact rfl
theorem part7_same : @Cert.Kernel.k0_part7 F _ = @Cert.KernelIdeal.k0_part7 F _ := by exact rfl
theorem part8_same : @Cert.Kernel.k0_part8 F _ = @Cert.KernelIdeal.k0_part8 F _ := by exact rfl
theorem part9_same : @Cert.Kernel.k0_part9 F _ = @Cert.KernelIdeal.k0_part9 F _ := by exact rfl

set_option maxHeartbeats 2000000 in
theorem part10_same : @Cert.Kernel.k0_part10 F _ _ = @Cert.KernelIdeal.k0_part10 F _ _ := by
  rw [Cert.Kernel.Gen.k0_part10_eq_skeleton, Cert.KernelIdeal.Gen.k0_part10_eq_skeleton]
  unfold Cert.Kernel.Gen.k0_part10_skel Cert.KernelIdeal.Gen.k0_part10_skel
  rw [part1_same, part2_same, part3_same, part4_same, part5_same, part6_same]
  repeat (refine funext fun _ => ?_)
  extract_lets a b
  refine congrArg (Bind.bind _) (funext fun d => ?_)
  extract_lets v0 v1 v2 j k w0 w1 w2 j' k'
  have e : j = j' := by exact rfl
  clear_value j j'
  subst e
  exact rfl

theorem body_same : @Cert.Kernel.cc0_body F _ _ = @Cert.KernelIdeal.cc0_body F _ _ := by
  rw [Cert.Kernel.Gen.cc0_body_eq_skeleton, Cert.KernelIdeal.Gen.cc0_body_eq_skeleton]
  unfold Cert.Kernel.Gen.cc0_body_skel Cert.KernelIdeal.Gen.cc0_body_skel
  rw [part10_same]
  exact rfl

theorem table_same : @Cert.Kernel.defs₀ F _ _ = @Cert.KernelIdeal.defs₀ F _ _ := by
  unfold Cert.Kernel.defs₀ Cert.KernelIdeal.defs₀
  rw [body_same]
  refine congrArg Defs.onTc (funext fun l => funext fun a => ?_)
  match l, a with
  | ⟨0, _⟩, (t, s) => exact rfl
  | ⟨_ + 1, h⟩, _ => exact absurd h (Nat.not_lt.2 (Nat.le_add_left _ _))

theorem defs_same : @Cert.Kernel.defs F _ _ = @Cert.KernelIdeal.defs F _ _ := by
  unfold Cert.Kernel.defs Cert.KernelIdeal.defs
  rw [table_same]
  exact rfl

set_option maxHeartbeats 2000000 in
theorem main_same : @Cert.Kernel.main F _ _ = @Cert.KernelIdeal.main F _ _ := by exact rfl

end Cert.Talk

end
-- ==== Proof.Frame.lean ====
/-
  The frames: every run ends, with the arguments as they were and every semaphore at zero. The program over bit patterns
  has the text of the one over the reals, so its run is that one's.
-/
module

public import proofs.«01_k».proof.Proof.Whole
public import proofs.«01_k».proof.Proof.Twin
public import proofs.«01_k».proof.Defs

@[expose] public section

noncomputable section

namespace Cert.Talk
open Idealize.ShloMosaic Idealize.SL.Sem

theorem frame_ideal : Cert.quiescent_KernelIdeal := fun m ρ _ =>
  (θ_run Cert.KernelIdeal.defs _ _).mono (fun _ h => ⟨fun c => (h.1 c).1, h.2⟩) (run_main (F := Ideal) m ρ)

set_option maxHeartbeats 1000000 in
theorem frame_kernel : Cert.quiescent_Kernel := by
  intro m ρ _
  rw [defs_same, main_same]
  exact (θ_run Cert.KernelIdeal.defs _ _).mono (fun _ h => ⟨fun c => (h.1 c).1, h.2⟩) (run_main (F := Bits) m ρ)

end Cert.Talk

end
-- ==== Proof.Value.lean ====
/-
  What the program computes, over the reals: device `c`'s result is the rows of block `c` of the reference's.
-/
module

public import proofs.«01_k».proof.Defs
public import proofs.«01_k».proof.Proof.Whole
public import proofs.«01_k».proof.Proof.Gen.ReferenceIdeal.Run
public import Idealize.ShloMosaic.Lib.MatmulPlain
public import Idealize.ShloMosaic.Lib.StackMember
public import Idealize.ShloMosaic.Lib.ValueIdx

@[expose] public section

noncomputable section

namespace Cert.Talk
open Idealize.ShloMosaic Idealize.SL.Sem Idealize.ShloMosaic.ValueIdx Cert.KernelIdeal Cert.KernelIdeal.Gen
open scoped BigOperators

/-- A byte as a real. -/
def num (b : BitVec 8) : EReal := ((b.toInt : ℝ) : EReal)

/-- One entry of the product: row `r` of `x` times column `n` of `w`. -/
def entry (x : (⟨2, ![4096, 4096]⟩ : Shape).Idx → BitVec 8) (w : (⟨2, ![4096, 8192]⟩ : Shape).Idx → BitVec 8) (r : Fin 4096) (n : Fin 8192) : EReal :=
  ∑ k : Fin 4096, num (x (ix2 r k)) * num (w (ix2 k n))

/-- The share of the product that quadrant `q` of the contracted positions gives. -/
def quarter (x : (⟨2, ![4096, 4096]⟩ : Shape).Idx → BitVec 8) (w : (⟨2, ![4096, 8192]⟩ : Shape).Idx → BitVec 8) (q : Fin 4) (r : Fin 4096) (n : Fin 8192) : EReal :=
  ∑ k : Fin 1024, num (x (ix2 r ⟨q.val * 1024 + k.val, by omega⟩)) * num (w (ix2 ⟨q.val * 1024 + k.val, by omega⟩ n))

theorem entry_quarters (x : (⟨2, ![4096, 4096]⟩ : Shape).Idx → BitVec 8) (w : (⟨2, ![4096, 8192]⟩ : Shape).Idx → BitVec 8) (r : Fin 4096) (n : Fin 8192) :
    ∑ q : Fin 4, quarter x w q r n = entry x w r n := by
  unfold quarter entry
  rw [← Fintype.sum_prod_type' (f := fun (q : Fin 4) (k : Fin 1024) => num (x (ix2 r ⟨q.val * 1024 + k.val, by omega⟩)) * num (w (ix2 ⟨q.val * 1024 + k.val, by omega⟩ n)))]
  refine Fintype.sum_equiv (finProdFinEquiv (m := 4) (n := 1024)) _ _ fun p => ?_
  have h : (⟨p.1.val * 1024 + p.2.val, by omega⟩ : Fin 4096) = finProdFinEquiv p := Fin.ext (by simp [finProdFinEquiv]; omega)
  rw [h]

/-- Each device meets the four quadrants once each. -/
theorem quadrants (c : Dev nD) (f : Fin 4 → EReal) : f (qt c 0) + f (qt c 1) + f (qt c 2) + f (qt c 3) = ∑ q : Fin 4, f q := by
  have h : Function.Bijective (qt c) := by revert c; decide
  rw [← (Equiv.ofBijective _ h).sum_comp f, Fin.sum_univ_four]
  rfl

variable (x : (⟨2, ![4096, 4096]⟩ : Shape).Idx → BitVec 8) (w : (⟨2, ![4096, 8192]⟩ : Shape).Idx → BitVec 8)

/-- The columns of `x` that each device holds. -/
def cut : Xs Ideal := fun c => Layout.block ⟨2, ![4096, 256]⟩ ⟨2, ![4096, 4096]⟩ 1 16 c x

theorem toBf_num (v : Vec Ideal S256x256 .i8) (j : S256x256.Idx) : (toBf (F := Ideal) v j : EReal) = num (v j) :=
  congrArg (fun i => num (v i)) (Shape.reshapeEquiv_self _ j)

theorem rows_at (f : S4096x256.Idx → BitVec 8) (c : Dev nD) (j : S256x256.Idx) :
    rowsOf (F := Ideal) f c j = f (ix2 ⟨c.val * 256 + (j 0).val, by have := c.isLt; change c.val < 16 at this; have := idx2_lt0 j; omega⟩ (j 1)) := by
  refine congrArg f (funext fun a => Fin.ext ?_)
  match a with
  | ⟨0, _⟩ => show c.val * 256 + 1 * (j 0).val = c.val * 256 + (j 0).val; rw [Nat.one_mul]
  | ⟨1, _⟩ => show 0 + 1 * (j 1).val = (j 1).val; rw [Nat.zero_add, Nat.one_mul]

theorem cat_num (c : Dev nD) (q : Fin 4) (r : Fin 256) (k : Fin 1024) :
    (catV (F := Ideal) (cut x) c q (ix2 r k) : EReal) = num (x (ix2 ⟨c.val * 256 + r.val, by have := c.isLt; change c.val < 16 at this; omega⟩ ⟨q.val * 1024 + k.val, by omega⟩)) := by
  unfold catV
  rw [toBf_num, rows_at]
  refine congrArg (fun i => num (x i)) (funext fun a => Fin.ext ?_)
  match a with
  | ⟨0, _⟩ => rfl
  | ⟨1, _⟩ =>
    show (4 * q.val + k.val / 256) * 256 + k.val % 256 = q.val * 1024 + k.val
    omega

theorem rows_num (q : Fin 4) (k : Fin 1024) (n : Fin 8192) :
    (k0_pay5 (F := Ideal) (wRows (F := Ideal) q w) (ix2 k n) : EReal) = num (w (ix2 ⟨q.val * 1024 + k.val, by omega⟩ n)) := by
  refine (congrArg (fun i => num (wRows (F := Ideal) q w i)) (Shape.reshapeEquiv_self _ (ix2 k n))).trans ?_
  refine congrArg (fun i => num (w i)) (funext fun a => ?_)
  match a with
  | ⟨0, _⟩ => rfl
  | ⟨1, _⟩ => rfl

theorem product (c : Dev nD) (q : Fin 4) (r : Fin 256) (n : Fin 8192) :
    (k0_pay6 (F := Ideal) (wRows (F := Ideal) q w) (catV (F := Ideal) (cut x) c q) (ix2 r n) : EReal)
      = quarter x w q ⟨c.val * 256 + r.val, by have := c.isLt; change c.val < 16 at this; omega⟩ n := by
  unfold k0_pay6
  refine (congrFun (shapeCast_self _ _) (ix2 r n)).trans ?_
  refine (Ideal.matmul_plain_apply (M := 256) (K := 1024) (N := 8192) none _ _ _ r n).trans ?_
  rw [constant_apply, Ideal.ofBits_zero_f32, zero_add]
  refine Finset.sum_congr rfl fun k _ => ?_
  rw [cat_num, rows_num]

theorem product_add (c : Dev nD) (q : Fin 4) (v : Vec Ideal S256x8192 .f32) (r : Fin 256) (n : Fin 8192) :
    (k0_pay7 (F := Ideal) (wRows (F := Ideal) q w) v (catV (F := Ideal) (cut x) c q) (ix2 r n) : EReal)
      = v (ix2 r n) + quarter x w q ⟨c.val * 256 + r.val, by have := c.isLt; change c.val < 16 at this; omega⟩ n := by
  unfold k0_pay7
  refine (congrFun (shapeCast_self _ _) (ix2 r n)).trans ?_
  rw [addf_apply]
  refine congrArg (v (ix2 r n) + ·) ?_
  refine (Ideal.matmul_plain_apply (M := 256) (K := 1024) (N := 8192) none _ _ _ r n).trans ?_
  rw [constant_apply, Ideal.ofBits_zero_f32, zero_add]
  refine Finset.sum_congr rfl fun k _ => ?_
  rw [cat_num, rows_num]

theorem acc_entry (c : Dev nD) (r : Fin 256) (n : Fin 8192) :
    (acc3 (F := Ideal) (cut x) c w (ix2 r n) : EReal) = entry x w ⟨c.val * 256 + r.val, by have := c.isLt; change c.val < 16 at this; omega⟩ n := by
  unfold acc3 acc2 acc1 acc0
  rw [product_add, product_add, product_add, product, ← entry_quarters]
  exact quadrants c fun q => quarter x w q _ n

/-- The reference's result, as a function of the two matrices and the two scales. -/
def whole (sx sw : (⟨1, ![1]⟩ : Shape).Idx → EReal) : (⟨2, ![4096, 8192]⟩ : Shape).Idx → EReal := fun j =>
  max (entry x w (j 0) (j 1) * (sx (ix1 0) * sw (ix1 0))) 0

theorem only_index (i : (⟨1, ![1]⟩ : Shape).Idx) : i = ix1 0 :=
  (eq_ix1 i).trans (congrArg ix1 (Subsingleton.elim (α := Fin 1) _ _))

/-- What device `c` ends with is block `c` of the reference's rows. -/
theorem result_block (c : Dev nD) (sx sw : (⟨1, ![1]⟩ : Shape).Idx → EReal) :
    (result (F := Ideal) (cut x) c w sx sw : S256x8192.Idx → EReal) = Layout.block ⟨2, ![256, 8192]⟩ ⟨2, ![4096, 8192]⟩ 0 16 c (whole x w sx sw) := by
  funext j
  obtain ⟨r, n, rfl⟩ : ∃ (r : Fin 256) (n : Fin 8192), j = ix2 r n := ⟨j 0, j 1, eq_ix2 j⟩
  unfold result k0_pay8
  rw [maximumf_apply, mulf_apply, acc_entry, broadcast_apply, broadcast_apply]
  have hr : (Layout.block ⟨2, ![256, 8192]⟩ ⟨2, ![4096, 8192]⟩ 0 16 c (whole x w sx sw) : S256x8192.Idx → EReal) (ix2 r n)
      = whole x w sx sw (ix2 ⟨c.val * 256 + r.val, by have := c.isLt; change c.val < 16 at this; omega⟩ n) := by
    refine congrArg (whole x w sx sw) (funext fun a => Fin.ext ?_)
    match a with
    | ⟨0, _⟩ => rfl
    | ⟨1, _⟩ => rfl
  rw [hr]
  unfold whole
  have ho : o1 = ix1 0 := only_index _
  have hs : (Scalar.mulf (F := Ideal) (φ := .f32) (sx o1) (sw o1) : EReal) = sx (ix1 0) * sw (ix1 0) := by rw [ho]; rfl
  have hz : (FloatOps.ofBits (F := Ideal) .f32 0#32 : EReal) = 0 := Ideal.ofBits_zero_f32
  exact congrArg₂ max (congrArg (entry x w _ n * ·) hs) hz

/-- A byte widened to an integer, then read as a float, is the byte. -/
theorem wide_num {s : Shape} (v : s.Idx → BitVec 8) (h : 8 < 32) (j : s.Idx) :
    (sitofp (F := Ideal) .f32 (extsi 32 v h) j : EReal) = num (v j) := by
  show (((v j).signExtend 32).toInt : ℝ) = (((v j).toInt : ℝ) : EReal)
  rw [BitVec.toInt_signExtend_of_le (by decide)]

theorem reference_value (hw : 8 < 32) (sx sw : (⟨1, ![1]⟩ : Shape).Idx → EReal) :
    (maximumf (F := Ideal) (mulf (Host.dotGeneral Cert.ReferenceIdeal.dot_S4096x4096_S4096x8192_S4096x8192_1_0_0_1_n_n none (sitofp .f32 (extsi 32 x hw)) (sitofp .f32 (extsi 32 w hw)))
      (broadcastInDim Cert.ReferenceIdeal.S4096x8192 ![0, 1] Cert.ReferenceIdeal.Gen.bcast_S1x1_S4096x8192_0_1 (broadcastInDim Cert.ReferenceIdeal.S1x1 ![1] Cert.ReferenceIdeal.Gen.bcast_S1_S1x1_1 (mulf (F := Ideal) (φ := .f32) sx sw))))
      (broadcastInDim Cert.ReferenceIdeal.S4096x8192 ![] Cert.ReferenceIdeal.Gen.bcast_S_S4096x8192 (constant Cert.ReferenceIdeal.S_ .f32 0x00000000#32))) = whole x w sx sw := by
  funext j
  obtain ⟨r, n, rfl⟩ : ∃ (r : Fin 4096) (n : Fin 8192), j = ix2 r n := ⟨j 0, j 1, eq_ix2 j⟩
  rw [maximumf_apply, mulf_apply]
  have hd : (Host.dotGeneral Cert.ReferenceIdeal.dot_S4096x4096_S4096x8192_S4096x8192_1_0_0_1_n_n none (sitofp (F := Ideal) .f32 (extsi 32 x hw)) (sitofp (F := Ideal) .f32 (extsi 32 w hw)) (ix2 r n) : EReal)
      = entry x w r n :=
    (StackMember.dotGeneral_plain_apply (m := 4096) (k := 4096) (n := 8192) none (sitofp (F := Ideal) .f32 (extsi 32 x hw)) (sitofp (F := Ideal) .f32 (extsi 32 w hw)) r n).trans
      (Finset.sum_congr rfl fun k _ => congrArg₂ (· * ·) (wide_num x hw _) (wide_num w hw _))
  have hs : (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf (F := Ideal) (φ := .f32) sx sw)) (ix2 r n) : EReal)
      = sx (ix1 0) * sw (ix1 0) :=
    congrArg (fun i => sx i * sw i) (only_index _)
  have hz : (broadcastInDim Cert.ReferenceIdeal.S4096x8192 ![] Cert.ReferenceIdeal.Gen.bcast_S_S4096x8192
      (constant (F := Ideal) Cert.ReferenceIdeal.S_ .f32 0x00000000#32) (ix2 r n) : EReal) = 0 := Ideal.ofBits_zero_f32
  exact congrArg₂ max (congrArg₂ (· * ·) hd hs) hz

/-- The reference ends with its arguments as they were; it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the reals, the sixteen devices' results are the row blocks of the reference's one result. -/
theorem algebraic : Cert.algebraic_KernelIdeal_ReferenceIdeal := by
  intro m g m' g' _ hargs
  refine ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (run_main (F := Ideal) m g)
    obtain ⟨⟨ha0, ha1, ha2, ha3⟩, hv⟩ := h.1 c
    refine ⟨hv.trans ?_, ha0, ha1, ha2, ha3⟩
    have hX : shards m = cut (m' (((0 : Dev Cert.ReferenceIdeal.nD).tc : Thread Cert.ReferenceIdeal.nD Cert.ReferenceIdeal.τ).loc Cert.ReferenceIdeal.main_arg0)) :=
      funext fun d => (hargs d).1
    unfold outcome
    rw [hX, (hargs c).2.1, (hargs c).2.2.1, (hargs c).2.2.2]
    exact result_block _ _ c _ _
  · refine (θ_run Cert.ReferenceIdeal.defs _ _).mono (fun r h => ?_) (Cert.ReferenceIdeal.Value.run (F := Ideal) m' g')
    exact ⟨(h 0).1.trans (reference_value _ _ _ _ _), (h 0).2⟩

end Cert.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Talk.frame_kernel, Cert.Talk.frame_ideal, Cert.Talk.frame_reference, trivial, Cert.Talk.algebraic⟩

end Cert.Proof

end
